-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def preserves_Kernel_KernelIdeal : Prop :=
  IdealRules.named_const.Statement Cert.KernelIdeal.κ "qk_scale_log2e" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v26_0)) (v1 : (c : Dev Cert.Kernel3Ideal.nD) → Buf (Elt Ideal) ((c.tc : Thread Cert.Kernel3Ideal.nD Cert.Kernel3Ideal.τ).loc Cert.Kernel3Ideal.main_v26_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v26_0) = v0 c
          ∧ r.2.mem ((c.tc : Thread Cert.Kernel3Ideal.nD Cert.Kernel3Ideal.τ).loc Cert.Kernel3Ideal.main_v26_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v26_0)) (v1 : (c : Dev Cert.Kernel4Ideal.nD) → Buf (Elt Ideal) ((c.tc : Thread Cert.Kernel4Ideal.nD Cert.Kernel4Ideal.τ).loc Cert.Kernel4Ideal.main_v26_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26_0) = v0 c
          ∧ r.2.mem ((c.tc : Thread Cert.Kernel4Ideal.nD Cert.Kernel4Ideal.τ).loc Cert.Kernel4Ideal.main_v26_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v26_0)) (v1 : (c : Dev Cert.Kernel5Ideal.nD) → Buf (Elt Ideal) ((c.tc : Thread Cert.Kernel5Ideal.nD Cert.Kernel5Ideal.τ).loc Cert.Kernel5Ideal.main_v26_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v26_0) = v0 c
          ∧ r.2.mem ((c.tc : Thread Cert.Kernel5Ideal.nD Cert.Kernel5Ideal.τ).loc Cert.Kernel5Ideal.main_v26_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v26_0)) (v1 : (c : Dev Cert.Kernel6Ideal.nD) → Buf (Elt Ideal) ((c.tc : Thread Cert.Kernel6Ideal.nD Cert.Kernel6Ideal.τ).loc Cert.Kernel6Ideal.main_v26_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v26_0) = v0 c
          ∧ r.2.mem ((c.tc : Thread Cert.Kernel6Ideal.nD Cert.Kernel6Ideal.τ).loc Cert.Kernel6Ideal.main_v26_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v26)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v26) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v50) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v26)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v26) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v41) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v26)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v26) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v10)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v10) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v35) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v11_0)) (v1 : (c : Dev Cert.Kernel11Ideal.nD) → Buf (Elt Ideal) ((c.tc : Thread Cert.Kernel11Ideal.nD Cert.Kernel11Ideal.τ).loc Cert.Kernel11Ideal.main_v11_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v11_0) = v0 c
          ∧ r.2.mem ((c.tc : Thread Cert.Kernel11Ideal.nD Cert.Kernel11Ideal.τ).loc Cert.Kernel11Ideal.main_v11_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v34) = v0 c
          ∧ r.2.mem ((c.tc : Thread Cert.Reference11Ideal.nD Cert.Reference11Ideal.τ).loc Cert.Reference11Ideal.main_v35) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S1x128 : Shape := ⟨2, ![1, 128]⟩
abbrev S1x256 : Shape := ⟨2, ![1, 256]⟩
abbrev S2x4096x8x256 : Shape := ⟨4, ![2, 4096, 8, 256]⟩
abbrev S_ : Shape := ⟨0, ![]⟩

class Facts : Prop where
  bcast_S_S1x128 : S_.BroadcastsInDim S1x128 (![] : Fin 0 → Fin S1x128.rank)
  bcast_S_S2x4096x8x256 : S_.BroadcastsInDim S2x4096x8x256 (![] : Fin 0 → Fin S2x4096x8x256.rank)

variable [Facts]

def fn_part1 {F : FTy → Type} [FloatOps F] (main_arg7 : FVec F S2x4096x8x256 .f32) (main_v2 : IVec S1x128 1) (main_v5 : IVec S1x128 1) (main_v8 : IVec S1x128 1) (main_v11 : IVec S1x128 1) (main_v14 : IVec S2x4096x8x256 1) (main_v17 : IVec S2x4096x8x256 1) : IVec S1x128 1 × IVec S1x128 1 × IVec S1x128 1 × IVec S1x128 1 × IVec S2x4096x8x256 1 × IVec S2x4096x8x256 1 × IVec S2x4096x8x256 1 :=
  let main_v18 : FVec F S2x4096x8x256 .f32 := Host.absf main_arg7
  let main_cst_5 : FVec F S_ .f32 := constant S_ .f32 0x7F800000#32
  let main_v19 : FVec F S2x4096x8x256 .f32 := broadcastInDim S2x4096x8x256 ![] bcast_S_S2x4096x8x256 main_cst_5
  let main_v20 : IVec S2x4096x8x256 1 := cmpf .olt main_v18 main_v19
  (main_v2, main_v5, main_v8, main_v11, main_v14, main_v17, main_v20)

def fn {F : FTy → Type} [FloatOps F] (main_arg0 : FVec F S1x128 .f32) (main_arg1 : FVec F S1x128 .f32) (main_arg2 : FVec F S1x128 .f32) (main_arg3 : FVec F S1x128 .f32) (main_arg4 : FVec F S1x256 .f32) (main_arg5 : FVec F S2x4096x8x256 .f32) (main_arg6 : FVec F S2x4096x8x256 .f32) (main_arg7 : FVec F S2x4096x8x256 .f32) : IVec S1x128 1 × IVec S1x128 1 × IVec S1x128 1 × IVec S1x128 1 × IVec S2x4096x8x256 1 × IVec S2x4096x8x256 1 × IVec S2x4096x8x256 1 :=
  let main_v0 : FVec F S1x128 .f32 := Host.absf main_arg0
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_v3 : FVec F S1x128 .f32 := Host.absf main_arg1
  let main_cst_0 : FVec F S_ .f32 := constant S_ .f32 0x7F800000#32
  let main_v4 : FVec F S1x128 .f32 := broadcastInDim S1x128 ![] bcast_S_S1x128 main_cst_0
  let main_v5 : IVec S1x128 1 := cmpf .olt main_v3 main_v4
  let main_v6 : FVec F S1x128 .f32 := Host.absf main_arg2
  let main_cst_1 : FVec F S_ .f32 := constant S_ .f32 0x7F800000#32
  let main_v7 : FVec F S1x128 .f32 := broadcastInDim S1x128 ![] bcast_S_S1x128 main_cst_1
  let main_v8 : IVec S1x128 1 := cmpf .olt main_v6 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_v12 : FVec F S2x4096x8x256 .f32 := Host.absf main_arg5
  let main_cst_3 : FVec F S_ .f32 := constant S_ .f32 0x7F800000#32
  let main_v13 : FVec F S2x4096x8x256 .f32 := broadcastInDim S2x4096x8x256 ![] bcast_S_S2x4096x8x256 main_cst_3
  let main_v14 : IVec S2x4096x8x256 1 := cmpf .olt main_v12 main_v13
  let main_v15 : FVec F S2x4096x8x256 .f32 := Host.absf main_arg6
  let main_cst_4 : FVec F S_ .f32 := constant S_ .f32 0x7F800000#32
  let main_v16 : FVec F S2x4096x8x256 .f32 := broadcastInDim S2x4096x8x256 ![] bcast_S_S2x4096x8x256 main_cst_4
  let main_v17 : IVec S2x4096x8x256 1 := cmpf .olt main_v15 main_v16
  fn_part1 (F := F) main_arg7 main_v2 main_v5 main_v8 main_v11 main_v14 main_v17
-- ==== Kernel.lean ====
abbrev S1x128 : Shape := ⟨2, ![1, 128]⟩
abbrev S1x256 : Shape := ⟨2, ![1, 256]⟩
abbrev S2x4096x8x256 : Shape := ⟨4, ![2, 4096, 8, 256]⟩
abbrev S128 : Shape := ⟨1, ![128]⟩
abbrev S4x128 : Shape := ⟨2, ![4, 128]⟩
abbrev S256 : Shape := ⟨1, ![256]⟩
abbrev S2x4096x2048 : Shape := ⟨3, ![2, 4096, 2048]⟩
abbrev S1x512x256 : Shape := ⟨3, ![1, 512, 256]⟩
abbrev S1x4096x256 : Shape := ⟨3, ![1, 4096, 256]⟩
abbrev S512x256 : Shape := ⟨2, ![512, 256]⟩
abbrev S512x128 : Shape := ⟨2, ![512, 128]⟩
abbrev S512x1 : Shape := ⟨2, ![512, 1]⟩
abbrev S512x512 : Shape := ⟨2, ![512, 512]⟩
abbrev S512 : Shape := ⟨1, ![512]⟩
abbrev S1 : Shape := ⟨1, ![1]⟩
abbrev S1x1 : Shape := ⟨2, ![1, 1]⟩

abbrev nBuf : Space → Nat
  | .hbm => 25
  | .vmem => 12
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x256, .f32⟩
  | .hbm, ⟨5, _⟩ => ⟨S2x4096x8x256, .f32⟩
  | .hbm, ⟨6, _⟩ => ⟨S2x4096x8x256, .f32⟩
  | .hbm, ⟨7, _⟩ => ⟨S2x4096x8x256, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S4x128, .f32⟩
  | .hbm, ⟨17, _⟩ => ⟨S256, .f32⟩
  | .hbm, ⟨18, _⟩ => ⟨S1x256, .f32⟩
  | .hbm, ⟨19, _⟩ => ⟨S2x4096x2048, .f32⟩
  | .hbm, ⟨20, _⟩ => ⟨S2x4096x2048, .f32⟩
  | .hbm, ⟨21, _⟩ => ⟨S2x4096x2048, .bf16⟩
  | .hbm, ⟨22, _⟩ => ⟨S2x4096x2048, .f32⟩
  | .hbm, ⟨23, _⟩ => ⟨S2x4096x2048, .bf16⟩
  | .hbm, ⟨24, _⟩ => ⟨S2x4096x2048, .bf16⟩
  | .local _ .vmem, ⟨0, _⟩ => ⟨S4x128, .f32⟩
  | .local _ .vmem, ⟨1, _⟩ => ⟨S1x256, .f32⟩
  | .local _ .vmem, ⟨2, _⟩ => ⟨S1x512x256, .f32⟩
  | .local _ .vmem, ⟨3, _⟩ => ⟨S1x512x256, .f32⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x512x256, .bf16⟩
  | .local _ .vmem, ⟨9, _⟩ => ⟨S1x512x256, .bf16⟩
  | .local _ .vmem, ⟨10, _⟩ => ⟨S512x256, .f32⟩
  | .local _ .vmem, ⟨11, _⟩ => ⟨S512x256, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 8, 8], ![false, false, false]⟩

@[reducible] def k0_t1_loop (i : grid0.Coords) : Scf.Loop 32 :=
  let c0_i32 : BitVec 32 := 0#32
  let arg2 : BitVec 32 := BitVec.ofNat 32 (i 2).val
  let v17 : BitVec 32 := Scalar.subi arg2 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_10 : BitVec 32 := 1#32
  ⟨c0_i32, v21, c1_i32_10⟩
def k0_mult1 (i : grid0.Coords) (k0_t1 : Fin (k0_t1_loop i).trips) : BitVec 32 :=
  let c0_i32 : BitVec 32 := 0#32
  let c1_i32_10 : BitVec 32 := 1#32
  let arg11 : BitVec 32 := Scf.iv c0_i32 c1_i32_10 k0_t1
  let c512_i32_52 : BitVec 32 := 512#32
  let v134 : BitVec 32 := Scalar.muli arg11 c512_i32_52
  v134
def k0_off1 (i : grid0.Coords) (k0_t1 : Fin (k0_t1_loop i).trips) : Fin 3 → Nat :=
  let c0_53 : Index := 0#32
  let c0_i32 : BitVec 32 := 0#32
  let c1_i32_10 : BitVec 32 := 1#32
  let arg11 : BitVec 32 := Scf.iv c0_i32 c1_i32_10 k0_t1
  let c512_i32_52 : BitVec 32 := 512#32
  let v134 : BitVec 32 := Scalar.muli arg11 c512_i32_52
  let v135 : BitVec 32 := v134
  let v136 : Index := Scalar.indexCast v135
  let c0_54 : Index := 0#32
  ![0, v136.toNat, 0]
@[reducible] def k0_t2_loop (i : grid0.Coords) : Scf.Loop 32 :=
  let c0_i32 : BitVec 32 := 0#32
  let arg2 : BitVec 32 := BitVec.ofNat 32 (i 2).val
  let v17 : BitVec 32 := Scalar.subi arg2 c0_i32
  let c1_i32 : BitVec 32 := 1#32
  let v19 : BitVec 32 := Scalar.divsi v17 c1_i32
  let v20 : BitVec 32 := Scalar.muli v19 c1_i32
  let v21 : BitVec 32 := Scalar.addi c0_i32 v20
  let v18 : BitVec 32 := Scalar.addi c0_i32 v17
  let c1_i32_11 : BitVec 32 := 1#32
  ⟨v21, v18, c1_i32_11⟩
def k0_mult2 (i : grid0.Coords) (k0_t2 : Fin (k0_t2_loop i).trips) : BitVec 32 :=
  let c0_i32 : BitVec 32 := 0#32
  let arg2 : BitVec 32 := BitVec.ofNat 32 (i 2).val
  let v17 : BitVec 32 := Scalar.subi arg2 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_11 : BitVec 32 := 1#32
  let arg11 : BitVec 32 := Scf.iv v21 c1_i32_11 k0_t2
  let c512_i32_52 : BitVec 32 := 512#32
  let v134 : BitVec 32 := Scalar.muli arg11 c512_i32_52
  v134
def k0_off2 (i : grid0.Coords) (k0_t2 : Fin (k0_t2_loop i).trips) : Fin 3 → Nat :=
  let c0_53 : Index := 0#32
  let c0_i32 : BitVec 32 := 0#32
  let arg2 : BitVec 32 := BitVec.ofNat 32 (i 2).val
  let v17 : BitVec 32 := Scalar.subi arg2 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_11 : BitVec 32 := 1#32
  let arg11 : BitVec 32 := Scf.iv v21 c1_i32_11 k0_t2
  let c512_i32_52 : BitVec 32 := 512#32
  let v134 : BitVec 32 := Scalar.muli arg11 c512_i32_52
  let v135 : BitVec 32 := v134
  let v136 : Index := Scalar.indexCast v135
  let c0_54 : Index := 0#32
  ![0, v136.toNat, 0]
def k0_mult3 (i : grid0.Coords) : BitVec 32 :=
  let arg2 : BitVec 32 := BitVec.ofNat 32 (i 2).val
  let c512_i32 : BitVec 32 := 512#32
  let v24 : BitVec 32 := Scalar.muli arg2 c512_i32
  v24
def k0_off3 (i : grid0.Coords) : Fin 3 → Nat :=
  let c0_12 : Index := 0#32
  let arg2 : BitVec 32 := BitVec.ofNat 32 (i 2).val
  let c512_i32 : BitVec 32 := 512#32
  let v24 : BitVec 32 := Scalar.muli arg2 c512_i32
  let v25 : BitVec 32 := v24
  let v26 : Index := Scalar.indexCast v25
  let c0_13 : Index := 0#32
  ![0, v26.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "qk_scale_log2e" => some (((Real.sqrt 128)⁻¹ * (Real.log 2)⁻¹ : ℝ) : EReal)
  | _ => none
-- ==== ReferenceIdeal.lean ====
abbrev S1x128 : Shape := ⟨2, ![1, 128]⟩
abbrev S1x256 : Shape := ⟨2, ![1, 256]⟩
abbrev S2x4096x8x256 : Shape := ⟨4, ![2, 4096, 8, 256]⟩
abbrev S128 : Shape := ⟨1, ![128]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x4096x8x128 : Shape := ⟨4, ![2, 4096, 8, 128]⟩
abbrev S2x8x4096x4096 : Shape := ⟨4, ![2, 8, 4096, 4096]⟩
abbrev S2x8x4096 : Shape := ⟨3, ![2, 8, 4096]⟩
abbrev S2x8x4096x1 : Shape := ⟨4, ![2, 8, 4096, 1]⟩
abbrev S2x8x256x4096 : Shape := ⟨4, ![2, 8, 256, 4096]⟩
abbrev S2x4096x8 : Shape := ⟨3, ![2, 4096, 8]⟩
abbrev S2x4096x8x1 : Shape := ⟨4, ![2, 4096, 8, 1]⟩
abbrev S256 : Shape := ⟨1, ![256]⟩
abbrev S1x1x1x256 : Shape := ⟨4, ![1, 1, 1, 256]⟩
abbrev S2x4096x2048 : Shape := ⟨3, ![2, 4096, 2048]⟩

abbrev nBuf : Space → Nat
  | .hbm => 108
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x256, .f32⟩
  | .hbm, ⟨5, _⟩ => ⟨S2x4096x8x256, .f32⟩
  | .hbm, ⟨6, _⟩ => ⟨S2x4096x8x256, .f32⟩
  | .hbm, ⟨7, _⟩ => ⟨S2x4096x8x256, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096, .i32⟩
  | .hbm, ⟨24, _⟩ => ⟨S1x4096, .i32⟩
  | .hbm, ⟨25, _⟩ => ⟨S4096x1, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S2x4096x8x128, .f32⟩
  | .hbm, ⟨30, _⟩ => ⟨S2x4096x8x128, .f32⟩
  | .hbm, ⟨31, _⟩ => ⟨S2x8x4096x4096, .f32⟩
  | .hbm, ⟨32, _⟩ => ⟨S_, .f32⟩
  | .hbm, ⟨33, _⟩ => ⟨S_, .f32⟩
  | .hbm, ⟨34, _⟩ => ⟨S2x8x4096x4096, .f32⟩
  | .hbm, ⟨35, _⟩ => ⟨S2x8x4096x4096, .f32⟩
  | .hbm, ⟨36, _⟩ => ⟨S_, .f32⟩
  | .hbm, ⟨37, _⟩ => ⟨S_, .f32⟩
  | .hbm, ⟨38, _⟩ => ⟨S2x8x4096x4096, .i1⟩
  | .hbm, ⟨39, _⟩ => ⟨S2x8x4096x4096, .f32⟩
  | .hbm, ⟨40, _⟩ => ⟨S2x8x4096x4096, .f32⟩
  | .hbm, ⟨41, _⟩ => ⟨S_, .f32⟩
  | .hbm, ⟨42, _⟩ => ⟨S2x8x4096, .f32⟩
  | .hbm, ⟨43, _⟩ => ⟨S_, .f32⟩
  | .hbm, ⟨44, _⟩ => ⟨S2x8x4096, .f32⟩
  | .hbm, ⟨45, _⟩ => ⟨S2x8x4096, .f32⟩
  | .hbm, ⟨46, _⟩ => ⟨S2x8x4096x1, .f32⟩
  | .hbm, ⟨47, _⟩ => ⟨S2x8x4096x4096, .f32⟩
  | .hbm, ⟨48, _⟩ => ⟨S2x8x4096x4096, .f32⟩
  | .hbm, ⟨49, _⟩ => ⟨S2x8x4096x4096, .f32⟩
  | .hbm, ⟨50, _⟩ => ⟨S_, .f32⟩
  | .hbm, ⟨51, _⟩ => ⟨S2x8x4096, .f32⟩
  | .hbm, ⟨52, _⟩ => ⟨S2x8x4096x1, .f32⟩
  | .hbm, ⟨53, _⟩ => ⟨S2x8x4096x4096, .f32⟩
  | .hbm, ⟨54, _⟩ => ⟨S2x8x4096x4096, .f32⟩
  | .hbm, ⟨55, _⟩ => ⟨S2x4096x8x128, .f32⟩
  | .hbm, ⟨56, _⟩ => ⟨S2x4096x8x128, .f32⟩
  | .hbm, ⟨57, _⟩ => ⟨S2x8x4096x4096, .f32⟩
  | .hbm, ⟨58, _⟩ => ⟨S_, .f32⟩
  | .hbm, ⟨59, _⟩ => ⟨S_, .f32⟩
  | .hbm, ⟨60, _⟩ => ⟨S2x8x4096x4096, .f32⟩
  | .hbm, ⟨61, _⟩ => ⟨S2x8x4096x4096, .f32⟩
  | .hbm, ⟨62, _⟩ => ⟨S_, .f32⟩
  | .hbm, ⟨63, _⟩ => ⟨S_, .f32⟩
  | .hbm, ⟨64, _⟩ => ⟨S2x8x4096x4096, .i1⟩
  | .hbm, ⟨65, _⟩ => ⟨S2x8x4096x4096, .f32⟩
  | .hbm, ⟨66, _⟩ => ⟨S2x8x4096x4096, .f32⟩
  | .hbm, ⟨67, _⟩ => ⟨S_, .f32⟩
  | .hbm, ⟨68, _⟩ => ⟨S2x8x4096, .f32⟩
  | .hbm, ⟨69, _⟩ => ⟨S_, .f32⟩
  | .hbm, ⟨70, _⟩ => ⟨S2x8x4096, .f32⟩
  | .hbm, ⟨71, _⟩ => ⟨S2x8x4096, .f32⟩
  | .hbm, ⟨72, _⟩ => ⟨S2x8x4096x1, .f32⟩
  | .hbm, ⟨73, _⟩ => ⟨S2x8x4096x4096, .f32⟩
  | .hbm, ⟨74, _⟩ => ⟨S2x8x4096x4096, .f32⟩
  | .hbm, ⟨75, _⟩ => ⟨S2x8x4096x4096, .f32⟩
  | .hbm, ⟨76, _⟩ => ⟨S_, .f32⟩
  | .hbm, ⟨77, _⟩ => ⟨S2x8x4096, .f32⟩
  | .hbm, ⟨78, _⟩ => ⟨S2x8x4096x1, .f32⟩
  | .hbm, ⟨79, _⟩ => ⟨S2x8x4096x4096, .f32⟩
  | .hbm, ⟨80, _⟩ => ⟨S2x8x4096x4096, .f32⟩
  | .hbm, ⟨81, _⟩ => ⟨S2x8x4096x4096, .f32⟩
  | .hbm, ⟨82, _⟩ => ⟨S2x8x4096x4096, .f32⟩
  | .hbm, ⟨83, _⟩ => ⟨S2x8x4096x4096, .f32⟩
  | .hbm, ⟨84, _⟩ => ⟨S2x8x256x4096, .f32⟩
  | .hbm, ⟨85, _⟩ => ⟨S2x4096x8x256, .f32⟩
  | .hbm, ⟨86, _⟩ => ⟨S2x4096x8x256, .f32⟩
  | .hbm, ⟨87, _⟩ => ⟨S_, .f32⟩
  | .hbm, ⟨88, _⟩ => ⟨S2x4096x8, .f32⟩
  | .hbm, ⟨89, _⟩ => ⟨S2x4096x8x1, .f32⟩
  | .hbm, ⟨90, _⟩ => ⟨S_, .f32⟩
  | .hbm, ⟨91, _⟩ => ⟨S2x4096x8x1, .f32⟩
  | .hbm, ⟨92, _⟩ => ⟨S2x4096x8x1, .f32⟩
  | .hbm, ⟨93, _⟩ => ⟨S_, .f32⟩
  | .hbm, ⟨94, _⟩ => ⟨S2x4096x8x1, .f32⟩
  | .hbm, ⟨95, _⟩ => ⟨S2x4096x8x1, .f32⟩
  | .hbm, ⟨96, _⟩ => ⟨S2x4096x8x1, .f32⟩
  | .hbm, ⟨97, _⟩ => ⟨S2x4096x8x256, .f32⟩
  | .hbm, ⟨98, _⟩ => ⟨S2x4096x8x256, .f32⟩
  | .hbm, ⟨99, _⟩ => ⟨S256, .f32⟩
  | .hbm, ⟨100, _⟩ => ⟨S1x1x1x256, .f32⟩
  | .hbm, ⟨101, _⟩ => ⟨S2x4096x8x256, .f32⟩
  | .hbm, ⟨102, _⟩ => ⟨S2x4096x8x256, .f32⟩
  | .hbm, ⟨103, _⟩ => ⟨S_, .f32⟩
  | .hbm, ⟨104, _⟩ => ⟨S2x4096x8x256, .f32⟩
  | .hbm, ⟨105, _⟩ => ⟨S2x4096x8x256, .f32⟩
  | .hbm, ⟨106, _⟩ => ⟨S2x4096x2048, .f32⟩
  | .hbm, ⟨107, _⟩ => ⟨S2x4096x2048, .bf16⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_cst_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_15 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]
-- ==== Kernel2.lean ====
abbrev S2x4096x4096 : Shape := ⟨3, ![2, 4096, 4096]⟩
abbrev S1x4096x16384 : Shape := ⟨3, ![1, 4096, 16384]⟩
abbrev S1x16384x4096 : Shape := ⟨3, ![1, 16384, 4096]⟩
abbrev S1x4096 : Shape := ⟨2, ![1, 4096]⟩
abbrev S4096x16384 : Shape := ⟨2, ![4096, 16384]⟩
abbrev S16384x4096 : Shape := ⟨2, ![16384, 4096]⟩
abbrev S4096 : Shape := ⟨1, ![4096]⟩
abbrev S8192x4096 : Shape := ⟨2, ![8192, 4096]⟩
abbrev S512x4096 : Shape := ⟨2, ![512, 4096]⟩
abbrev S4096x512 : Shape := ⟨2, ![4096, 512]⟩
abbrev S512x512 : Shape := ⟨2, ![512, 512]⟩
abbrev S512 : Shape := ⟨1, ![512]⟩
abbrev S512x1 : Shape := ⟨2, ![512, 1]⟩

abbrev nBuf : Space → Nat
  | .hbm => 16
  | .vmem => 10
  | .smem => 0
  | _ => 0

abbrev bufTy : (tb : Table) → Fin (tcTables nBuf tb) → BufTy
  | .hbm, ⟨0, _⟩ => ⟨S2x4096x4096, .f32⟩
  | .hbm, ⟨1, _⟩ => ⟨S1x4096x16384, .f32⟩
  | .hbm, ⟨2, _⟩ => ⟨S1x16384x4096, .f32⟩
  | .hbm, ⟨3, _⟩ => ⟨S1x4096, .f32⟩
  | .hbm, ⟨4, _⟩ => ⟨S1x4096, .f32⟩
  | .hbm, ⟨5, _⟩ => ⟨S4096x16384, .f32⟩
  | .hbm, ⟨6, _⟩ => ⟨S4096x16384, .bf16⟩
  | .hbm, ⟨7, _⟩ => ⟨S16384x4096, .f32⟩
  | .hbm, ⟨8, _⟩ => ⟨S16384x4096, .bf16⟩
  | .hbm, ⟨9, _⟩ => ⟨S4096, .f32⟩
  | .hbm, ⟨10, _⟩ => ⟨S1x4096, .f32⟩
  | .hbm, ⟨11, _⟩ => ⟨S4096, .f32⟩
  | .hbm, ⟨12, _⟩ => ⟨S1x4096, .f32⟩
  | .hbm, ⟨13, _⟩ => ⟨S8192x4096, .f32⟩
  | .hbm, ⟨14, _⟩ => ⟨S8192x4096, .bf16⟩
  | .hbm, ⟨15, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S512x4096, .f32⟩
  | .local _ .vmem, ⟨3, _⟩ => ⟨S4096x512, .bf16⟩
  | .local _ .vmem, ⟨4, _⟩ => ⟨S4096x512, .bf16⟩
  | .local _ .vmem, ⟨5, _⟩ => ⟨S512x4096, .bf16⟩
  | .local _ .vmem, ⟨6, _⟩ => ⟨S512x4096, .bf16⟩
  | .local _ .vmem, ⟨7, _⟩ => ⟨S1x4096, .f32⟩
  | .local _ .vmem, ⟨8, _⟩ => ⟨S1x4096, .f32⟩
  | .local _ .vmem, ⟨9, _⟩ => ⟨S512x4096, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference2Ideal.lean ====
abbrev S2x4096x4096 : Shape := ⟨3, ![2, 4096, 4096]⟩
abbrev S1x4096x16384 : Shape := ⟨3, ![1, 4096, 16384]⟩
abbrev S1x16384x4096 : Shape := ⟨3, ![1, 16384, 4096]⟩
abbrev S1x4096 : Shape := ⟨2, ![1, 4096]⟩
abbrev S4096x16384 : Shape := ⟨2, ![4096, 16384]⟩
abbrev S2x4096x16384 : Shape := ⟨3, ![2, 4096, 16384]⟩
abbrev S_ : Shape := ⟨0, ![]⟩
abbrev S16384x4096 : Shape := ⟨2, ![16384, 4096]⟩
abbrev S2x4096 : Shape := ⟨2, ![2, 4096]⟩
abbrev S2x4096x1 : Shape := ⟨3, ![2, 4096, 1]⟩
abbrev S4096 : Shape := ⟨1, ![4096]⟩
abbrev S1x1x4096 : Shape := ⟨3, ![1, 1, 4096]⟩
abbrev S8192x4096 : Shape := ⟨2, ![8192, 4096]⟩

abbrev nBuf : Space → Nat
  | .hbm => 49
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S1x4096x16384, .f32⟩
  | .hbm, ⟨2, _⟩ => ⟨S1x16384x4096, .f32⟩
  | .hbm, ⟨3, _⟩ => ⟨S1x4096, .f32⟩
  | .hbm, ⟨4, _⟩ => ⟨S1x4096, .f32⟩
  | .hbm, ⟨5, _⟩ => ⟨S4096x16384, .f32⟩
  | .hbm, ⟨6, _⟩ => ⟨S2x4096x16384, .f32⟩
  | .hbm, ⟨7, _⟩ => ⟨S_, .f32⟩
  | .hbm, ⟨8, _⟩ => ⟨S2x4096x16384, .f32⟩
  | .hbm, ⟨9, _⟩ => ⟨S2x4096x16384, .f32⟩
  | .hbm, ⟨10, _⟩ => ⟨S2x4096x16384, .f32⟩
  | .hbm, ⟨11, _⟩ => ⟨S16384x4096, .f32⟩
  | .hbm, ⟨12, _⟩ => ⟨S2x4096x4096, .f32⟩
  | .hbm, ⟨13, _⟩ => ⟨S_, .f32⟩
  | .hbm, ⟨14, _⟩ => ⟨S2x4096x4096, .f32⟩
  | .hbm, ⟨15, _⟩ => ⟨S2x4096x4096, .f32⟩
  | .hbm, ⟨16, _⟩ => ⟨S2x4096x4096, .f32⟩
  | .hbm, ⟨17, _⟩ => ⟨S_, .f32⟩
  | .hbm, ⟨18, _⟩ => ⟨S2x4096, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S2x4096x4096, .f32⟩
  | .hbm, ⟨24, _⟩ => ⟨S2x4096x4096, .f32⟩
  | .hbm, ⟨25, _⟩ => ⟨S2x4096x4096, .f32⟩
  | .hbm, ⟨26, _⟩ => ⟨S_, .f32⟩
  | .hbm, ⟨27, _⟩ => ⟨S2x4096, .f32⟩
  | .hbm, ⟨28, _⟩ => ⟨S2x4096x1, .f32⟩
  | .hbm, ⟨29, _⟩ => ⟨S_, .f32⟩
  | .hbm, ⟨30, _⟩ => ⟨S2x4096x1, .f32⟩
  | .hbm, ⟨31, _⟩ => ⟨S2x4096x1, .f32⟩
  | .hbm, ⟨32, _⟩ => ⟨S2x4096x4096, .f32⟩
  | .hbm, ⟨33, _⟩ => ⟨S2x4096x4096, .f32⟩
  | .hbm, ⟨34, _⟩ => ⟨S_, .f32⟩
  | .hbm, ⟨35, _⟩ => ⟨S2x4096x1, .f32⟩
  | .hbm, ⟨36, _⟩ => ⟨S2x4096x1, .f32⟩
  | .hbm, ⟨37, _⟩ => ⟨S2x4096x1, .f32⟩
  | .hbm, ⟨38, _⟩ => ⟨S2x4096x4096, .f32⟩
  | .hbm, ⟨39, _⟩ => ⟨S2x4096x4096, .f32⟩
  | .hbm, ⟨40, _⟩ => ⟨S4096, .f32⟩
  | .hbm, ⟨41, _⟩ => ⟨S1x1x4096, .f32⟩
  | .hbm, ⟨42, _⟩ => ⟨S2x4096x4096, .f32⟩
  | .hbm, ⟨43, _⟩ => ⟨S2x4096x4096, .f32⟩
  | .hbm, ⟨44, _⟩ => ⟨S4096, .f32⟩
  | .hbm, ⟨45, _⟩ => ⟨S1x1x4096, .f32⟩
  | .hbm, ⟨46, _⟩ => ⟨S2x4096x4096, .f32⟩
  | .hbm, ⟨47, _⟩ => ⟨S2x4096x4096, .f32⟩
  | .hbm, ⟨48, _⟩ => ⟨S8192x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel3.lean ====
abbrev S2x4096x4096 : Shape := ⟨3, ![2, 4096, 4096]⟩
abbrev S1x4096x12288 : Shape := ⟨3, ![1, 4096, 12288]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S8192x4096 : Shape := ⟨2, ![8192, 4096]⟩
abbrev S4096x12288 : Shape := ⟨2, ![4096, 12288]⟩
abbrev S8192x2048 : Shape := ⟨2, ![8192, 2048]⟩
abbrev S1024x4096 : Shape := ⟨2, ![1024, 4096]⟩
abbrev S4096x1024 : Shape := ⟨2, ![4096, 1024]⟩
abbrev S1024x128 : Shape := ⟨2, ![1024, 128]⟩
abbrev S1024x1024 : Shape := ⟨2, ![1024, 1024]⟩

abbrev nBuf : Space → Nat
  | .hbm => 34
  | .vmem => 12
  | .smem => 0
  | _ => 0

abbrev bufTy : (tb : Table) → Fin (tcTables nBuf tb) → BufTy
  | .hbm, ⟨0, _⟩ => ⟨S2x4096x4096, .f32⟩
  | .hbm, ⟨1, _⟩ => ⟨S1x4096x12288, .f32⟩
  | .hbm, ⟨2, _⟩ => ⟨S4096, .i32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S4096, .f32⟩
  | .hbm, ⟨18, _⟩ => ⟨S4096x1, .f32⟩
  | .hbm, ⟨19, _⟩ => ⟨S1x64, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S4096x64, .f32⟩
  | .hbm, ⟨25, _⟩ => ⟨S4096x128, .f32⟩
  | .hbm, ⟨26, _⟩ => ⟨S4096x64, .f32⟩
  | .hbm, ⟨27, _⟩ => ⟨S4096x128, .f32⟩
  | .hbm, ⟨28, _⟩ => ⟨S8192x4096, .f32⟩
  | .hbm, ⟨29, _⟩ => ⟨S8192x4096, .bf16⟩
  | .hbm, ⟨30, _⟩ => ⟨S4096x12288, .f32⟩
  | .hbm, ⟨31, _⟩ => ⟨S4096x12288, .bf16⟩
  | .hbm, ⟨32, _⟩ => ⟨S8192x2048, .f32⟩
  | .hbm, ⟨33, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26_0 : Ref sig .tc := ⟨.hbm, 32, rfl⟩
abbrev main_v26_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S2x4096x4096 : Shape := ⟨3, ![2, 4096, 4096]⟩
abbrev S1x4096x12288 : Shape := ⟨3, ![1, 4096, 12288]⟩
abbrev S4096x12288 : Shape := ⟨2, ![4096, 12288]⟩
abbrev S2x4096x12288 : Shape := ⟨3, ![2, 4096, 12288]⟩
abbrev S2x4096x2048 : Shape := ⟨3, ![2, 4096, 2048]⟩
abbrev S2x4096x8x2x128 : Shape := ⟨5, ![2, 4096, 8, 2, 128]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S1x4096x1x1x64 : Shape := ⟨5, ![1, 4096, 1, 1, 64]⟩
abbrev S2x4096x8x2x64 : Shape := ⟨5, ![2, 4096, 8, 2, 64]⟩
abbrev S8192x2048 : Shape := ⟨2, ![8192, 2048]⟩

abbrev nBuf : Space → Nat
  | .hbm => 46
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S1x4096x12288, .f32⟩
  | .hbm, ⟨2, _⟩ => ⟨S4096x12288, .f32⟩
  | .hbm, ⟨3, _⟩ => ⟨S2x4096x12288, .f32⟩
  | .hbm, ⟨4, _⟩ => ⟨S2x4096x2048, .f32⟩
  | .hbm, ⟨5, _⟩ => ⟨S2x4096x8x2x128, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S4096, .i32⟩
  | .hbm, ⟨21, _⟩ => ⟨S4096, .f32⟩
  | .hbm, ⟨22, _⟩ => ⟨S4096x1, .f32⟩
  | .hbm, ⟨23, _⟩ => ⟨S1x64, .f32⟩
  | .hbm, ⟨24, _⟩ => ⟨S4096x64, .f32⟩
  | .hbm, ⟨25, _⟩ => ⟨S4096x64, .f32⟩
  | .hbm, ⟨26, _⟩ => ⟨S4096x64, .f32⟩
  | .hbm, ⟨27, _⟩ => ⟨S4096x64, .f32⟩
  | .hbm, ⟨28, _⟩ => ⟨S1x4096x1x1x64, .f32⟩
  | .hbm, ⟨29, _⟩ => ⟨S4096x64, .f32⟩
  | .hbm, ⟨30, _⟩ => ⟨S1x4096x1x1x64, .f32⟩
  | .hbm, ⟨31, _⟩ => ⟨S2x4096x8x2x64, .f32⟩
  | .hbm, ⟨32, _⟩ => ⟨S2x4096x8x2x64, .f32⟩
  | .hbm, ⟨33, _⟩ => ⟨S2x4096x8x2x64, .f32⟩
  | .hbm, ⟨34, _⟩ => ⟨S2x4096x8x2x64, .f32⟩
  | .hbm, ⟨35, _⟩ => ⟨S2x4096x8x2x64, .f32⟩
  | .hbm, ⟨36, _⟩ => ⟨S2x4096x8x2x64, .f32⟩
  | .hbm, ⟨37, _⟩ => ⟨S2x4096x8x2x64, .f32⟩
  | .hbm, ⟨38, _⟩ => ⟨S2x4096x8x2x64, .f32⟩
  | .hbm, ⟨39, _⟩ => ⟨S2x4096x8x2x64, .f32⟩
  | .hbm, ⟨40, _⟩ => ⟨S2x4096x8x2x64, .f32⟩
  | .hbm, ⟨41, _⟩ => ⟨S2x4096x8x2x64, .f32⟩
  | .hbm, ⟨42, _⟩ => ⟨S2x4096x8x2x64, .f32⟩
  | .hbm, ⟨43, _⟩ => ⟨S2x4096x8x2x128, .f32⟩
  | .hbm, ⟨44, _⟩ => ⟨S8192x2048, .f32⟩
  | .hbm, ⟨45, _⟩ => ⟨S8192x2048, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩

abbrev nD : Nat := 1
abbrev τ : Topo := Topo.v7x

variable {F : FTy → Type} [FloatOps F]
-- ==== Kernel4.lean ====
abbrev S2x4096x4096 : Shape := ⟨3, ![2, 4096, 4096]⟩
abbrev S1x4096x12288 : Shape := ⟨3, ![1, 4096, 12288]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S8192x4096 : Shape := ⟨2, ![8192, 4096]⟩
abbrev S4096x12288 : Shape := ⟨2, ![4096, 12288]⟩
abbrev S8192x2048 : Shape := ⟨2, ![8192, 2048]⟩
abbrev S1024x4096 : Shape := ⟨2, ![1024, 4096]⟩
abbrev S4096x1024 : Shape := ⟨2, ![4096, 1024]⟩
abbrev S1024x128 : Shape := ⟨2, ![1024, 128]⟩
abbrev S1024x1024 : Shape := ⟨2, ![1024, 1024]⟩

abbrev nBuf : Space → Nat
  | .hbm => 34
  | .vmem => 12
  | .smem => 0
  | _ => 0

abbrev bufTy : (tb : Table) → Fin (tcTables nBuf tb) → BufTy
  | .hbm, ⟨0, _⟩ => ⟨S2x4096x4096, .f32⟩
  | .hbm, ⟨1, _⟩ => ⟨S1x4096x12288, .f32⟩
  | .hbm, ⟨2, _⟩ => ⟨S4096, .i32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S4096, .f32⟩
  | .hbm, ⟨18, _⟩ => ⟨S4096x1, .f32⟩
  | .hbm, ⟨19, _⟩ => ⟨S1x64, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S4096x64, .f32⟩
  | .hbm, ⟨25, _⟩ => ⟨S4096x128, .f32⟩
  | .hbm, ⟨26, _⟩ => ⟨S4096x64, .f32⟩
  | .hbm, ⟨27, _⟩ => ⟨S4096x128, .f32⟩
  | .hbm, ⟨28, _⟩ => ⟨S8192x4096, .f32⟩
  | .hbm, ⟨29, _⟩ => ⟨S8192x4096, .bf16⟩
  | .hbm, ⟨30, _⟩ => ⟨S4096x12288, .f32⟩
  | .hbm, ⟨31, _⟩ => ⟨S4096x12288, .bf16⟩
  | .hbm, ⟨32, _⟩ => ⟨S8192x2048, .f32⟩
  | .hbm, ⟨33, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26_0 : Ref sig .tc := ⟨.hbm, 32, rfl⟩
abbrev main_v26_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S2x4096x4096 : Shape := ⟨3, ![2, 4096, 4096]⟩
abbrev S1x4096x12288 : Shape := ⟨3, ![1, 4096, 12288]⟩
abbrev S4096x12288 : Shape := ⟨2, ![4096, 12288]⟩
abbrev S2x4096x12288 : Shape := ⟨3, ![2, 4096, 12288]⟩
abbrev S2x4096x2048 : Shape := ⟨3, ![2, 4096, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S1x4096x12288, .f32⟩
  | .hbm, ⟨2, _⟩ => ⟨S4096x12288, .f32⟩
  | .hbm, ⟨3, _⟩ => ⟨S2x4096x12288, .f32⟩
  | .hbm, ⟨4, _⟩ => ⟨S2x4096x2048, .f32⟩
  | .hbm, ⟨5, _⟩ => ⟨S8192x2048, .f32⟩
  | .hbm, ⟨6, _⟩ => ⟨S8192x2048, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S2x4096x4096 : Shape := ⟨3, ![2, 4096, 4096]⟩
abbrev S1x4096x12288 : Shape := ⟨3, ![1, 4096, 12288]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S8192x4096 : Shape := ⟨2, ![8192, 4096]⟩
abbrev S4096x12288 : Shape := ⟨2, ![4096, 12288]⟩
abbrev S8192x2048 : Shape := ⟨2, ![8192, 2048]⟩
abbrev S1024x4096 : Shape := ⟨2, ![1024, 4096]⟩
abbrev S4096x1024 : Shape := ⟨2, ![4096, 1024]⟩
abbrev S1024x128 : Shape := ⟨2, ![1024, 128]⟩
abbrev S1024x1024 : Shape := ⟨2, ![1024, 1024]⟩

abbrev nBuf : Space → Nat
  | .hbm => 34
  | .vmem => 12
  | .smem => 0
  | _ => 0

abbrev bufTy : (tb : Table) → Fin (tcTables nBuf tb) → BufTy
  | .hbm, ⟨0, _⟩ => ⟨S2x4096x4096, .f32⟩
  | .hbm, ⟨1, _⟩ => ⟨S1x4096x12288, .f32⟩
  | .hbm, ⟨2, _⟩ => ⟨S4096, .i32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S4096, .f32⟩
  | .hbm, ⟨18, _⟩ => ⟨S4096x1, .f32⟩
  | .hbm, ⟨19, _⟩ => ⟨S1x64, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S4096x64, .f32⟩
  | .hbm, ⟨25, _⟩ => ⟨S4096x128, .f32⟩
  | .hbm, ⟨26, _⟩ => ⟨S4096x64, .f32⟩
  | .hbm, ⟨27, _⟩ => ⟨S4096x128, .f32⟩
  | .hbm, ⟨28, _⟩ => ⟨S8192x4096, .f32⟩
  | .hbm, ⟨29, _⟩ => ⟨S8192x4096, .bf16⟩
  | .hbm, ⟨30, _⟩ => ⟨S4096x12288, .f32⟩
  | .hbm, ⟨31, _⟩ => ⟨S4096x12288, .bf16⟩
  | .hbm, ⟨32, _⟩ => ⟨S8192x2048, .f32⟩
  | .hbm, ⟨33, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26_0 : Ref sig .tc := ⟨.hbm, 32, rfl⟩
abbrev main_v26_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S2x4096x4096 : Shape := ⟨3, ![2, 4096, 4096]⟩
abbrev S1x4096x12288 : Shape := ⟨3, ![1, 4096, 12288]⟩
abbrev S4096x12288 : Shape := ⟨2, ![4096, 12288]⟩
abbrev S2x4096x12288 : Shape := ⟨3, ![2, 4096, 12288]⟩
abbrev S2x4096x2048 : Shape := ⟨3, ![2, 4096, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S1x4096x12288, .f32⟩
  | .hbm, ⟨2, _⟩ => ⟨S4096x12288, .f32⟩
  | .hbm, ⟨3, _⟩ => ⟨S2x4096x12288, .f32⟩
  | .hbm, ⟨4, _⟩ => ⟨S2x4096x2048, .f32⟩
  | .hbm, ⟨5, _⟩ => ⟨S8192x2048, .f32⟩
  | .hbm, ⟨6, _⟩ => ⟨S8192x2048, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S2x4096x4096 : Shape := ⟨3, ![2, 4096, 4096]⟩
abbrev S1x4096x12288 : Shape := ⟨3, ![1, 4096, 12288]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S8192x4096 : Shape := ⟨2, ![8192, 4096]⟩
abbrev S4096x12288 : Shape := ⟨2, ![4096, 12288]⟩
abbrev S8192x2048 : Shape := ⟨2, ![8192, 2048]⟩
abbrev S1024x4096 : Shape := ⟨2, ![1024, 4096]⟩
abbrev S4096x1024 : Shape := ⟨2, ![4096, 1024]⟩
abbrev S1024x128 : Shape := ⟨2, ![1024, 128]⟩
abbrev S1024x1024 : Shape := ⟨2, ![1024, 1024]⟩

abbrev nBuf : Space → Nat
  | .hbm => 34
  | .vmem => 12
  | .smem => 0
  | _ => 0

abbrev bufTy : (tb : Table) → Fin (tcTables nBuf tb) → BufTy
  | .hbm, ⟨0, _⟩ => ⟨S2x4096x4096, .f32⟩
  | .hbm, ⟨1, _⟩ => ⟨S1x4096x12288, .f32⟩
  | .hbm, ⟨2, _⟩ => ⟨S4096, .i32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S4096, .f32⟩
  | .hbm, ⟨18, _⟩ => ⟨S4096x1, .f32⟩
  | .hbm, ⟨19, _⟩ => ⟨S1x64, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S4096x64, .f32⟩
  | .hbm, ⟨25, _⟩ => ⟨S4096x128, .f32⟩
  | .hbm, ⟨26, _⟩ => ⟨S4096x64, .f32⟩
  | .hbm, ⟨27, _⟩ => ⟨S4096x128, .f32⟩
  | .hbm, ⟨28, _⟩ => ⟨S8192x4096, .f32⟩
  | .hbm, ⟨29, _⟩ => ⟨S8192x4096, .bf16⟩
  | .hbm, ⟨30, _⟩ => ⟨S4096x12288, .f32⟩
  | .hbm, ⟨31, _⟩ => ⟨S4096x12288, .bf16⟩
  | .hbm, ⟨32, _⟩ => ⟨S8192x2048, .f32⟩
  | .hbm, ⟨33, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26_0 : Ref sig .tc := ⟨.hbm, 32, rfl⟩
abbrev main_v26_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S2x4096x4096 : Shape := ⟨3, ![2, 4096, 4096]⟩
abbrev S1x4096x12288 : Shape := ⟨3, ![1, 4096, 12288]⟩
abbrev S4096x12288 : Shape := ⟨2, ![4096, 12288]⟩
abbrev S2x4096x12288 : Shape := ⟨3, ![2, 4096, 12288]⟩
abbrev S2x4096x2048 : Shape := ⟨3, ![2, 4096, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S1x4096x12288, .f32⟩
  | .hbm, ⟨2, _⟩ => ⟨S4096x12288, .f32⟩
  | .hbm, ⟨3, _⟩ => ⟨S2x4096x12288, .f32⟩
  | .hbm, ⟨4, _⟩ => ⟨S2x4096x2048, .f32⟩
  | .hbm, ⟨5, _⟩ => ⟨S8192x2048, .f32⟩
  | .hbm, ⟨6, _⟩ => ⟨S8192x2048, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S32x1x4096 : Shape := ⟨3, ![32, 1, 4096]⟩
abbrev S1x4096x12288 : Shape := ⟨3, ![1, 4096, 12288]⟩
abbrev S_ : Shape := ⟨0, ![]⟩
abbrev S32 : Shape := ⟨1, ![32]⟩
abbrev S64 : Shape := ⟨1, ![64]⟩
abbrev S32x1 : Shape := ⟨2, ![32, 1]⟩
abbrev S1x64 : Shape := ⟨2, ![1, 64]⟩
abbrev S32x64 : Shape := ⟨2, ![32, 64]⟩
abbrev S32x128 : Shape := ⟨2, ![32, 128]⟩
abbrev S32x4096 : Shape := ⟨2, ![32, 4096]⟩
abbrev S4096x12288 : Shape := ⟨2, ![4096, 12288]⟩
abbrev S32x12288 : Shape := ⟨2, ![32, 12288]⟩
abbrev S4096x1024 : Shape := ⟨2, ![4096, 1024]⟩
abbrev S32x1024 : Shape := ⟨2, ![32, 1024]⟩

abbrev nBuf : Space → Nat
  | .hbm => 34
  | .vmem => 7
  | .smem => 0
  | _ => 0

abbrev bufTy : (tb : Table) → Fin (tcTables nBuf tb) → BufTy
  | .hbm, ⟨0, _⟩ => ⟨S32x1x4096, .f32⟩
  | .hbm, ⟨1, _⟩ => ⟨S1x4096x12288, .f32⟩
  | .hbm, ⟨2, _⟩ => ⟨S_, .i32⟩
  | .hbm, ⟨3, _⟩ => ⟨S32, .i32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S32, .f32⟩
  | .hbm, ⟨19, _⟩ => ⟨S32x1, .f32⟩
  | .hbm, ⟨20, _⟩ => ⟨S1x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x128, .f32⟩
  | .hbm, ⟨27, _⟩ => ⟨S32x64, .f32⟩
  | .hbm, ⟨28, _⟩ => ⟨S32x128, .f32⟩
  | .hbm, ⟨29, _⟩ => ⟨S32x4096, .f32⟩
  | .hbm, ⟨30, _⟩ => ⟨S32x4096, .bf16⟩
  | .hbm, ⟨31, _⟩ => ⟨S4096x12288, .f32⟩
  | .hbm, ⟨32, _⟩ => ⟨S4096x12288, .bf16⟩
  | .hbm, ⟨33, _⟩ => ⟨S32x12288, .f32⟩
  | .local _ .vmem, ⟨0, _⟩ => ⟨S32x4096, .bf16⟩
  | .local _ .vmem, ⟨1, _⟩ => ⟨S4096x1024, .bf16⟩
  | .local _ .vmem, ⟨2, _⟩ => ⟨S4096x1024, .bf16⟩
  | .local _ .vmem, ⟨3, _⟩ => ⟨S32x128, .f32⟩
  | .local _ .vmem, ⟨4, _⟩ => ⟨S32x128, .f32⟩
  | .local _ .vmem, ⟨5, _⟩ => ⟨S32x1024, .f32⟩
  | .local _ .vmem, ⟨6, _⟩ => ⟨S32x1024, .f32⟩
  | _, _ => ⟨S32x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S32x1x4096 : Shape := ⟨3, ![32, 1, 4096]⟩
abbrev S1x4096x12288 : Shape := ⟨3, ![1, 4096, 12288]⟩
abbrev S4096x12288 : Shape := ⟨2, ![4096, 12288]⟩
abbrev S32x1x12288 : Shape := ⟨3, ![32, 1, 12288]⟩
abbrev S32x1x16x2x128 : Shape := ⟨5, ![32, 1, 16, 2, 128]⟩
abbrev S1 : Shape := ⟨1, ![1]⟩
abbrev S_ : Shape := ⟨0, ![]⟩
abbrev S64 : Shape := ⟨1, ![64]⟩
abbrev S1x1 : Shape := ⟨2, ![1, 1]⟩
abbrev S1x64 : Shape := ⟨2, ![1, 64]⟩
abbrev S1x1x1x1x64 : Shape := ⟨5, ![1, 1, 1, 1, 64]⟩
abbrev S32x1x16x2x64 : Shape := ⟨5, ![32, 1, 16, 2, 64]⟩
abbrev S32x4096 : Shape := ⟨2, ![32, 4096]⟩
abbrev S32x12288 : Shape := ⟨2, ![32, 12288]⟩
abbrev S32x2048 : Shape := ⟨2, ![32, 2048]⟩

abbrev nBuf : Space → Nat
  | .hbm => 60
  | .vmem => 0
  | .smem => 0
  | _ => 0

abbrev bufTy : (tb : Table) → Fin (tcTables nBuf tb) → BufTy
  | .hbm, ⟨0, _⟩ => ⟨S32x1x4096, .f32⟩
  | .hbm, ⟨1, _⟩ => ⟨S1x4096x12288, .f32⟩
  | .hbm, ⟨2, _⟩ => ⟨S4096x12288, .f32⟩
  | .hbm, ⟨3, _⟩ => ⟨S32x1x12288, .f32⟩
  | .hbm, ⟨4, _⟩ => ⟨S32x1x4096, .f32⟩
  | .hbm, ⟨5, _⟩ => ⟨S32x1x16x2x128, .f32⟩
  | .hbm, ⟨6, _⟩ => ⟨S1, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S1, .f32⟩
  | .hbm, ⟨25, _⟩ => ⟨S1x1, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S1x1x1x1x64, .f32⟩
  | .hbm, ⟨31, _⟩ => ⟨S1x64, .f32⟩
  | .hbm, ⟨32, _⟩ => ⟨S1x1x1x1x64, .f32⟩
  | .hbm, ⟨33, _⟩ => ⟨S32x1x16x2x64, .f32⟩
  | .hbm, ⟨34, _⟩ => ⟨S32x1x16x2x64, .f32⟩
  | .hbm, ⟨35, _⟩ => ⟨S32x1x16x2x64, .f32⟩
  | .hbm, ⟨36, _⟩ => ⟨S32x1x16x2x64, .f32⟩
  | .hbm, ⟨37, _⟩ => ⟨S32x1x16x2x64, .f32⟩
  | .hbm, ⟨38, _⟩ => ⟨S32x1x16x2x64, .f32⟩
  | .hbm, ⟨39, _⟩ => ⟨S32x1x16x2x64, .f32⟩
  | .hbm, ⟨40, _⟩ => ⟨S32x1x16x2x64, .f32⟩
  | .hbm, ⟨41, _⟩ => ⟨S32x1x16x2x64, .f32⟩
  | .hbm, ⟨42, _⟩ => ⟨S32x1x16x2x64, .f32⟩
  | .hbm, ⟨43, _⟩ => ⟨S32x1x16x2x64, .f32⟩
  | .hbm, ⟨44, _⟩ => ⟨S32x1x16x2x64, .f32⟩
  | .hbm, ⟨45, _⟩ => ⟨S32x1x16x2x128, .f32⟩
  | .hbm, ⟨46, _⟩ => ⟨S32x4096, .f32⟩
  | .hbm, ⟨47, _⟩ => ⟨S32x12288, .f32⟩
  | .hbm, ⟨48, _⟩ => ⟨S32x2048, .f32⟩
  | .hbm, ⟨49, _⟩ => ⟨S_, .f32⟩
  | .hbm, ⟨50, _⟩ => ⟨S32x2048, .f32⟩
  | .hbm, ⟨51, _⟩ => ⟨S32x2048, .f32⟩
  | .hbm, ⟨52, _⟩ => ⟨S32x2048, .f32⟩
  | .hbm, ⟨53, _⟩ => ⟨S32x2048, .f32⟩
  | .hbm, ⟨54, _⟩ => ⟨S32x2048, .f32⟩
  | .hbm, ⟨55, _⟩ => ⟨S_, .f32⟩
  | .hbm, ⟨56, _⟩ => ⟨S32x2048, .f32⟩
  | .hbm, ⟨57, _⟩ => ⟨S32x2048, .f32⟩
  | .hbm, ⟨58, _⟩ => ⟨S32x4096, .f32⟩
  | .hbm, ⟨59, _⟩ => ⟨S32x12288, .f32⟩
  | _, _ => ⟨S32x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_3 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_4 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩

abbrev nD : Nat := 1
abbrev τ : Topo := Topo.v7x

variable {F : FTy → Type} [FloatOps F]
-- ==== Kernel8.lean ====
abbrev S2x4096x4096 : Shape := ⟨3, ![2, 4096, 4096]⟩
abbrev S1x4096x12288 : Shape := ⟨3, ![1, 4096, 12288]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S8192x4096 : Shape := ⟨2, ![8192, 4096]⟩
abbrev S4096x12288 : Shape := ⟨2, ![4096, 12288]⟩
abbrev S8192x2048 : Shape := ⟨2, ![8192, 2048]⟩
abbrev S1024x4096 : Shape := ⟨2, ![1024, 4096]⟩
abbrev S4096x1024 : Shape := ⟨2, ![4096, 1024]⟩
abbrev S1024x128 : Shape := ⟨2, ![1024, 128]⟩
abbrev S1024x1024 : Shape := ⟨2, ![1024, 1024]⟩

abbrev nBuf : Space → Nat
  | .hbm => 33
  | .vmem => 10
  | .smem => 0
  | _ => 0

abbrev bufTy : (tb : Table) → Fin (tcTables nBuf tb) → BufTy
  | .hbm, ⟨0, _⟩ => ⟨S2x4096x4096, .f32⟩
  | .hbm, ⟨1, _⟩ => ⟨S1x4096x12288, .f32⟩
  | .hbm, ⟨2, _⟩ => ⟨S4096, .i32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S4096, .f32⟩
  | .hbm, ⟨18, _⟩ => ⟨S4096x1, .f32⟩
  | .hbm, ⟨19, _⟩ => ⟨S1x64, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S4096x64, .f32⟩
  | .hbm, ⟨25, _⟩ => ⟨S4096x128, .f32⟩
  | .hbm, ⟨26, _⟩ => ⟨S4096x64, .f32⟩
  | .hbm, ⟨27, _⟩ => ⟨S4096x128, .f32⟩
  | .hbm, ⟨28, _⟩ => ⟨S8192x4096, .f32⟩
  | .hbm, ⟨29, _⟩ => ⟨S8192x4096, .bf16⟩
  | .hbm, ⟨30, _⟩ => ⟨S4096x12288, .f32⟩
  | .hbm, ⟨31, _⟩ => ⟨S4096x12288, .bf16⟩
  | .hbm, ⟨32, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S2x4096x4096 : Shape := ⟨3, ![2, 4096, 4096]⟩
abbrev S1x4096x12288 : Shape := ⟨3, ![1, 4096, 12288]⟩
abbrev S4096x12288 : Shape := ⟨2, ![4096, 12288]⟩
abbrev S2x4096x12288 : Shape := ⟨3, ![2, 4096, 12288]⟩
abbrev S2x4096x2048 : Shape := ⟨3, ![2, 4096, 2048]⟩
abbrev S2x4096x8x2x128 : Shape := ⟨5, ![2, 4096, 8, 2, 128]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S1x4096x1x1x64 : Shape := ⟨5, ![1, 4096, 1, 1, 64]⟩
abbrev S2x4096x8x2x64 : Shape := ⟨5, ![2, 4096, 8, 2, 64]⟩
abbrev S8192x2048 : Shape := ⟨2, ![8192, 2048]⟩

abbrev nBuf : Space → Nat
  | .hbm => 49
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S1x4096x12288, .f32⟩
  | .hbm, ⟨2, _⟩ => ⟨S4096x12288, .f32⟩
  | .hbm, ⟨3, _⟩ => ⟨S2x4096x12288, .f32⟩
  | .hbm, ⟨4, _⟩ => ⟨S2x4096x2048, .f32⟩
  | .hbm, ⟨5, _⟩ => ⟨S2x4096x8x2x128, .f32⟩
  | .hbm, ⟨6, _⟩ => ⟨S4096, .i32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S4096, .f32⟩
  | .hbm, ⟨22, _⟩ => ⟨S4096x1, .f32⟩
  | .hbm, ⟨23, _⟩ => ⟨S1x64, .f32⟩
  | .hbm, ⟨24, _⟩ => ⟨S4096x64, .f32⟩
  | .hbm, ⟨25, _⟩ => ⟨S4096x64, .f32⟩
  | .hbm, ⟨26, _⟩ => ⟨S4096x64, .f32⟩
  | .hbm, ⟨27, _⟩ => ⟨S4096x64, .f32⟩
  | .hbm, ⟨28, _⟩ => ⟨S1x4096x1x1x64, .f32⟩
  | .hbm, ⟨29, _⟩ => ⟨S4096x64, .f32⟩
  | .hbm, ⟨30, _⟩ => ⟨S1x4096x1x1x64, .f32⟩
  | .hbm, ⟨31, _⟩ => ⟨S2x4096x8x2x64, .f32⟩
  | .hbm, ⟨32, _⟩ => ⟨S2x4096x8x2x64, .f32⟩
  | .hbm, ⟨33, _⟩ => ⟨S2x4096x8x2x64, .f32⟩
  | .hbm, ⟨34, _⟩ => ⟨S2x4096x8x2x64, .f32⟩
  | .hbm, ⟨35, _⟩ => ⟨S2x4096x8x2x64, .f32⟩
  | .hbm, ⟨36, _⟩ => ⟨S2x4096x8x2x64, .f32⟩
  | .hbm, ⟨37, _⟩ => ⟨S2x4096x8x2x64, .f32⟩
  | .hbm, ⟨38, _⟩ => ⟨S2x4096x8x2x64, .f32⟩
  | .hbm, ⟨39, _⟩ => ⟨S2x4096x8x2x64, .f32⟩
  | .hbm, ⟨40, _⟩ => ⟨S2x4096x8x2x64, .f32⟩
  | .hbm, ⟨41, _⟩ => ⟨S2x4096x8x2x64, .f32⟩
  | .hbm, ⟨42, _⟩ => ⟨S2x4096x8x2x64, .f32⟩
  | .hbm, ⟨43, _⟩ => ⟨S2x4096x8x2x128, .f32⟩
  | .hbm, ⟨44, _⟩ => ⟨S8192x2048, .f32⟩
  | .hbm, ⟨45, _⟩ => ⟨S_, .f32⟩
  | .hbm, ⟨46, _⟩ => ⟨S8192x2048, .f32⟩
  | .hbm, ⟨47, _⟩ => ⟨S8192x2048, .f32⟩
  | .hbm, ⟨48, _⟩ => ⟨S8192x2048, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_3 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩

abbrev nD : Nat := 1
abbrev τ : Topo := Topo.v7x

variable {F : FTy → Type} [FloatOps F]
-- ==== Kernel9.lean ====
abbrev S2x4096x4096 : Shape := ⟨3, ![2, 4096, 4096]⟩
abbrev S1x4096x12288 : Shape := ⟨3, ![1, 4096, 12288]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S8192x4096 : Shape := ⟨2, ![8192, 4096]⟩
abbrev S4096x12288 : Shape := ⟨2, ![4096, 12288]⟩
abbrev S8192x2048 : Shape := ⟨2, ![8192, 2048]⟩
abbrev S1024x4096 : Shape := ⟨2, ![1024, 4096]⟩
abbrev S4096x1024 : Shape := ⟨2, ![4096, 1024]⟩
abbrev S1024x128 : Shape := ⟨2, ![1024, 128]⟩
abbrev S1024x1024 : Shape := ⟨2, ![1024, 1024]⟩

abbrev nBuf : Space → Nat
  | .hbm => 33
  | .vmem => 10
  | .smem => 0
  | _ => 0

abbrev bufTy : (tb : Table) → Fin (tcTables nBuf tb) → BufTy
  | .hbm, ⟨0, _⟩ => ⟨S2x4096x4096, .f32⟩
  | .hbm, ⟨1, _⟩ => ⟨S1x4096x12288, .f32⟩
  | .hbm, ⟨2, _⟩ => ⟨S4096, .i32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S4096, .f32⟩
  | .hbm, ⟨18, _⟩ => ⟨S4096x1, .f32⟩
  | .hbm, ⟨19, _⟩ => ⟨S1x64, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S4096x64, .f32⟩
  | .hbm, ⟨25, _⟩ => ⟨S4096x128, .f32⟩
  | .hbm, ⟨26, _⟩ => ⟨S4096x64, .f32⟩
  | .hbm, ⟨27, _⟩ => ⟨S4096x128, .f32⟩
  | .hbm, ⟨28, _⟩ => ⟨S8192x4096, .f32⟩
  | .hbm, ⟨29, _⟩ => ⟨S8192x4096, .bf16⟩
  | .hbm, ⟨30, _⟩ => ⟨S4096x12288, .f32⟩
  | .hbm, ⟨31, _⟩ => ⟨S4096x12288, .bf16⟩
  | .hbm, ⟨32, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S2x4096x4096 : Shape := ⟨3, ![2, 4096, 4096]⟩
abbrev S1x4096x12288 : Shape := ⟨3, ![1, 4096, 12288]⟩
abbrev S4096x12288 : Shape := ⟨2, ![4096, 12288]⟩
abbrev S2x4096x12288 : Shape := ⟨3, ![2, 4096, 12288]⟩
abbrev S2x4096x2048 : Shape := ⟨3, ![2, 4096, 2048]⟩
abbrev S8192x2048 : Shape := ⟨2, ![8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S1x4096x12288, .f32⟩
  | .hbm, ⟨2, _⟩ => ⟨S4096x12288, .f32⟩
  | .hbm, ⟨3, _⟩ => ⟨S2x4096x12288, .f32⟩
  | .hbm, ⟨4, _⟩ => ⟨S2x4096x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x2048, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S32x1x4096 : Shape := ⟨3, ![32, 1, 4096]⟩
abbrev S1x4096x16384 : Shape := ⟨3, ![1, 4096, 16384]⟩
abbrev S1x16384x4096 : Shape := ⟨3, ![1, 16384, 4096]⟩
abbrev S1x4096 : Shape := ⟨2, ![1, 4096]⟩
abbrev S4096x16384 : Shape := ⟨2, ![4096, 16384]⟩
abbrev S16384x4096 : Shape := ⟨2, ![16384, 4096]⟩
abbrev S4096 : Shape := ⟨1, ![4096]⟩
abbrev S32x4096 : Shape := ⟨2, ![32, 4096]⟩
abbrev S4096x512 : Shape := ⟨2, ![4096, 512]⟩
abbrev S512x4096 : Shape := ⟨2, ![512, 4096]⟩
abbrev S32x512 : Shape := ⟨2, ![32, 512]⟩
abbrev S32 : Shape := ⟨1, ![32]⟩
abbrev S32x1 : Shape := ⟨2, ![32, 1]⟩

abbrev nBuf : Space → Nat
  | .hbm => 16
  | .vmem => 9
  | .smem => 0
  | _ => 0

abbrev bufTy : (tb : Table) → Fin (tcTables nBuf tb) → BufTy
  | .hbm, ⟨0, _⟩ => ⟨S32x1x4096, .f32⟩
  | .hbm, ⟨1, _⟩ => ⟨S1x4096x16384, .f32⟩
  | .hbm, ⟨2, _⟩ => ⟨S1x16384x4096, .f32⟩
  | .hbm, ⟨3, _⟩ => ⟨S1x4096, .f32⟩
  | .hbm, ⟨4, _⟩ => ⟨S1x4096, .f32⟩
  | .hbm, ⟨5, _⟩ => ⟨S4096x16384, .f32⟩
  | .hbm, ⟨6, _⟩ => ⟨S4096x16384, .bf16⟩
  | .hbm, ⟨7, _⟩ => ⟨S16384x4096, .f32⟩
  | .hbm, ⟨8, _⟩ => ⟨S16384x4096, .bf16⟩
  | .hbm, ⟨9, _⟩ => ⟨S4096, .f32⟩
  | .hbm, ⟨10, _⟩ => ⟨S1x4096, .f32⟩
  | .hbm, ⟨11, _⟩ => ⟨S4096, .f32⟩
  | .hbm, ⟨12, _⟩ => ⟨S1x4096, .f32⟩
  | .hbm, ⟨13, _⟩ => ⟨S32x4096, .f32⟩
  | .hbm, ⟨14, _⟩ => ⟨S32x4096, .bf16⟩
  | .hbm, ⟨15, _⟩ => ⟨S32x4096, .f32⟩
  | .local _ .vmem, ⟨0, _⟩ => ⟨S32x4096, .bf16⟩
  | .local _ .vmem, ⟨1, _⟩ => ⟨S32x4096, .f32⟩
  | .local _ .vmem, ⟨2, _⟩ => ⟨S4096x512, .bf16⟩
  | .local _ .vmem, ⟨3, _⟩ => ⟨S4096x512, .bf16⟩
  | .local _ .vmem, ⟨4, _⟩ => ⟨S512x4096, .bf16⟩
  | .local _ .vmem, ⟨5, _⟩ => ⟨S512x4096, .bf16⟩
  | .local _ .vmem, ⟨6, _⟩ => ⟨S1x4096, .f32⟩
  | .local _ .vmem, ⟨7, _⟩ => ⟨S1x4096, .f32⟩
  | .local _ .vmem, ⟨8, _⟩ => ⟨S32x4096, .f32⟩
  | _, _ => ⟨S32x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S32x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference10Ideal.lean ====
abbrev S32x1x4096 : Shape := ⟨3, ![32, 1, 4096]⟩
abbrev S1x4096x16384 : Shape := ⟨3, ![1, 4096, 16384]⟩
abbrev S1x16384x4096 : Shape := ⟨3, ![1, 16384, 4096]⟩
abbrev S1x4096 : Shape := ⟨2, ![1, 4096]⟩
abbrev S4096x16384 : Shape := ⟨2, ![4096, 16384]⟩
abbrev S32x1x16384 : Shape := ⟨3, ![32, 1, 16384]⟩
abbrev S_ : Shape := ⟨0, ![]⟩
abbrev S16384x4096 : Shape := ⟨2, ![16384, 4096]⟩
abbrev S32x1 : Shape := ⟨2, ![32, 1]⟩
abbrev S32x1x1 : Shape := ⟨3, ![32, 1, 1]⟩
abbrev S4096 : Shape := ⟨1, ![4096]⟩
abbrev S1x1x4096 : Shape := ⟨3, ![1, 1, 4096]⟩
abbrev S32x4096 : Shape := ⟨2, ![32, 4096]⟩

abbrev nBuf : Space → Nat
  | .hbm => 49
  | .vmem => 0
  | .smem => 0
  | _ => 0

abbrev bufTy : (tb : Table) → Fin (tcTables nBuf tb) → BufTy
  | .hbm, ⟨0, _⟩ => ⟨S32x1x4096, .f32⟩
  | .hbm, ⟨1, _⟩ => ⟨S1x4096x16384, .f32⟩
  | .hbm, ⟨2, _⟩ => ⟨S1x16384x4096, .f32⟩
  | .hbm, ⟨3, _⟩ => ⟨S1x4096, .f32⟩
  | .hbm, ⟨4, _⟩ => ⟨S1x4096, .f32⟩
  | .hbm, ⟨5, _⟩ => ⟨S4096x16384, .f32⟩
  | .hbm, ⟨6, _⟩ => ⟨S32x1x16384, .f32⟩
  | .hbm, ⟨7, _⟩ => ⟨S_, .f32⟩
  | .hbm, ⟨8, _⟩ => ⟨S32x1x16384, .f32⟩
  | .hbm, ⟨9, _⟩ => ⟨S32x1x16384, .f32⟩
  | .hbm, ⟨10, _⟩ => ⟨S32x1x16384, .f32⟩
  | .hbm, ⟨11, _⟩ => ⟨S16384x4096, .f32⟩
  | .hbm, ⟨12, _⟩ => ⟨S32x1x4096, .f32⟩
  | .hbm, ⟨13, _⟩ => ⟨S_, .f32⟩
  | .hbm, ⟨14, _⟩ => ⟨S32x1x4096, .f32⟩
  | .hbm, ⟨15, _⟩ => ⟨S32x1x4096, .f32⟩
  | .hbm, ⟨16, _⟩ => ⟨S32x1x4096, .f32⟩
  | .hbm, ⟨17, _⟩ => ⟨S_, .f32⟩
  | .hbm, ⟨18, _⟩ => ⟨S32x1, .f32⟩
  | .hbm, ⟨19, _⟩ => ⟨S32x1x1, .f32⟩
  | .hbm, ⟨20, _⟩ => ⟨S_, .f32⟩
  | .hbm, ⟨21, _⟩ => ⟨S32x1x1, .f32⟩
  | .hbm, ⟨22, _⟩ => ⟨S32x1x1, .f32⟩
  | .hbm, ⟨23, _⟩ => ⟨S32x1x4096, .f32⟩
  | .hbm, ⟨24, _⟩ => ⟨S32x1x4096, .f32⟩
  | .hbm, ⟨25, _⟩ => ⟨S32x1x4096, .f32⟩
  | .hbm, ⟨26, _⟩ => ⟨S_, .f32⟩
  | .hbm, ⟨27, _⟩ => ⟨S32x1, .f32⟩
  | .hbm, ⟨28, _⟩ => ⟨S32x1x1, .f32⟩
  | .hbm, ⟨29, _⟩ => ⟨S_, .f32⟩
  | .hbm, ⟨30, _⟩ => ⟨S32x1x1, .f32⟩
  | .hbm, ⟨31, _⟩ => ⟨S32x1x1, .f32⟩
  | .hbm, ⟨32, _⟩ => ⟨S32x1x4096, .f32⟩
  | .hbm, ⟨33, _⟩ => ⟨S32x1x4096, .f32⟩
  | .hbm, ⟨34, _⟩ => ⟨S_, .f32⟩
  | .hbm, ⟨35, _⟩ => ⟨S32x1x1, .f32⟩
  | .hbm, ⟨36, _⟩ => ⟨S32x1x1, .f32⟩
  | .hbm, ⟨37, _⟩ => ⟨S32x1x1, .f32⟩
  | .hbm, ⟨38, _⟩ => ⟨S32x1x4096, .f32⟩
  | .hbm, ⟨39, _⟩ => ⟨S32x1x4096, .f32⟩
  | .hbm, ⟨40, _⟩ => ⟨S4096, .f32⟩
  | .hbm, ⟨41, _⟩ => ⟨S1x1x4096, .f32⟩
  | .hbm, ⟨42, _⟩ => ⟨S32x1x4096, .f32⟩
  | .hbm, ⟨43, _⟩ => ⟨S32x1x4096, .f32⟩
  | .hbm, ⟨44, _⟩ => ⟨S4096, .f32⟩
  | .hbm, ⟨45, _⟩ => ⟨S1x1x4096, .f32⟩
  | .hbm, ⟨46, _⟩ => ⟨S32x1x4096, .f32⟩
  | .hbm, ⟨47, _⟩ => ⟨S32x1x4096, .f32⟩
  | .hbm, ⟨48, _⟩ => ⟨S32x4096, .f32⟩
  | _, _ => ⟨S32x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel11.lean ====
abbrev S32x1x4096 : Shape := ⟨3, ![32, 1, 4096]⟩
abbrev S32x1x8x256 : Shape := ⟨4, ![32, 1, 8, 256]⟩
abbrev S32x1x16x128 : Shape := ⟨4, ![32, 1, 16, 128]⟩
abbrev S1x4096x4096 : Shape := ⟨3, ![1, 4096, 4096]⟩
abbrev S1x4096 : Shape := ⟨2, ![1, 4096]⟩
abbrev S32x2048 : Shape := ⟨2, ![32, 2048]⟩
abbrev S32x4096 : Shape := ⟨2, ![32, 4096]⟩
abbrev S4096x4096 : Shape := ⟨2, ![4096, 4096]⟩
abbrev S4096 : Shape := ⟨1, ![4096]⟩
abbrev S32x512 : Shape := ⟨2, ![32, 512]⟩
abbrev S512x4096 : Shape := ⟨2, ![512, 4096]⟩
abbrev S32 : Shape := ⟨1, ![32]⟩
abbrev S32x1 : Shape := ⟨2, ![32, 1]⟩

abbrev nBuf : Space → Nat
  | .hbm => 19
  | .vmem => 11
  | .smem => 0
  | _ => 0

abbrev bufTy : (tb : Table) → Fin (tcTables nBuf tb) → BufTy
  | .hbm, ⟨0, _⟩ => ⟨S32x1x4096, .f32⟩
  | .hbm, ⟨1, _⟩ => ⟨S32x1x8x256, .f32⟩
  | .hbm, ⟨2, _⟩ => ⟨S32x1x16x128, .f32⟩
  | .hbm, ⟨3, _⟩ => ⟨S1x4096x4096, .f32⟩
  | .hbm, ⟨4, _⟩ => ⟨S1x4096, .f32⟩
  | .hbm, ⟨5, _⟩ => ⟨S1x4096, .f32⟩
  | .hbm, ⟨6, _⟩ => ⟨S32x2048, .f32⟩
  | .hbm, ⟨7, _⟩ => ⟨S32x2048, .bf16⟩
  | .hbm, ⟨8, _⟩ => ⟨S32x2048, .f32⟩
  | .hbm, ⟨9, _⟩ => ⟨S32x2048, .bf16⟩
  | .hbm, ⟨10, _⟩ => ⟨S32x4096, .f32⟩
  | .hbm, ⟨11, _⟩ => ⟨S4096x4096, .f32⟩
  | .hbm, ⟨12, _⟩ => ⟨S4096x4096, .bf16⟩
  | .hbm, ⟨13, _⟩ => ⟨S4096, .f32⟩
  | .hbm, ⟨14, _⟩ => ⟨S1x4096, .f32⟩
  | .hbm, ⟨15, _⟩ => ⟨S4096, .f32⟩
  | .hbm, ⟨16, _⟩ => ⟨S1x4096, .f32⟩
  | .hbm, ⟨17, _⟩ => ⟨S32x4096, .f32⟩
  | .hbm, ⟨18, _⟩ => ⟨S32x4096, .bf16⟩
  | .local _ .vmem, ⟨0, _⟩ => ⟨S32x512, .bf16⟩
  | .local _ .vmem, ⟨1, _⟩ => ⟨S32x512, .bf16⟩
  | .local _ .vmem, ⟨2, _⟩ => ⟨S32x512, .bf16⟩
  | .local _ .vmem, ⟨3, _⟩ => ⟨S32x512, .bf16⟩
  | .local _ .vmem, ⟨4, _⟩ => ⟨S32x4096, .f32⟩
  | .local _ .vmem, ⟨5, _⟩ => ⟨S512x4096, .bf16⟩
  | .local _ .vmem, ⟨6, _⟩ => ⟨S512x4096, .bf16⟩
  | .local _ .vmem, ⟨7, _⟩ => ⟨S1x4096, .f32⟩
  | .local _ .vmem, ⟨8, _⟩ => ⟨S1x4096, .f32⟩
  | .local _ .vmem, ⟨9, _⟩ => ⟨S32x4096, .f32⟩
  | .local _ .vmem, ⟨10, _⟩ => ⟨S32x4096, .bf16⟩
  | _, _ => ⟨S32x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S32x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Reference11Ideal.lean ====
abbrev S32x1x4096 : Shape := ⟨3, ![32, 1, 4096]⟩
abbrev S32x1x8x256 : Shape := ⟨4, ![32, 1, 8, 256]⟩
abbrev S32x1x16x128 : Shape := ⟨4, ![32, 1, 16, 128]⟩
abbrev S1x4096x4096 : Shape := ⟨3, ![1, 4096, 4096]⟩
abbrev S1x4096 : Shape := ⟨2, ![1, 4096]⟩
abbrev S32x1x2048 : Shape := ⟨3, ![32, 1, 2048]⟩
abbrev S_ : Shape := ⟨0, ![]⟩
abbrev S4096x4096 : Shape := ⟨2, ![4096, 4096]⟩
abbrev S32x1 : Shape := ⟨2, ![32, 1]⟩
abbrev S32x1x1 : Shape := ⟨3, ![32, 1, 1]⟩
abbrev S4096 : Shape := ⟨1, ![4096]⟩
abbrev S1x1x4096 : Shape := ⟨3, ![1, 1, 4096]⟩
abbrev S32x4096 : Shape := ⟨2, ![32, 4096]⟩

abbrev nBuf : Space → Nat
  | .hbm => 48
  | .vmem => 0
  | .smem => 0
  | _ => 0

abbrev bufTy : (tb : Table) → Fin (tcTables nBuf tb) → BufTy
  | .hbm, ⟨0, _⟩ => ⟨S32x1x4096, .f32⟩
  | .hbm, ⟨1, _⟩ => ⟨S32x1x8x256, .f32⟩
  | .hbm, ⟨2, _⟩ => ⟨S32x1x16x128, .f32⟩
  | .hbm, ⟨3, _⟩ => ⟨S1x4096x4096, .f32⟩
  | .hbm, ⟨4, _⟩ => ⟨S1x4096, .f32⟩
  | .hbm, ⟨5, _⟩ => ⟨S1x4096, .f32⟩
  | .hbm, ⟨6, _⟩ => ⟨S32x1x2048, .f32⟩
  | .hbm, ⟨7, _⟩ => ⟨S32x1x2048, .f32⟩
  | .hbm, ⟨8, _⟩ => ⟨S32x1x4096, .f32⟩
  | .hbm, ⟨9, _⟩ => ⟨S_, .f32⟩
  | .hbm, ⟨10, _⟩ => ⟨S32x1x4096, .f32⟩
  | .hbm, ⟨11, _⟩ => ⟨S32x1x4096, .f32⟩
  | .hbm, ⟨12, _⟩ => ⟨S4096x4096, .f32⟩
  | .hbm, ⟨13, _⟩ => ⟨S32x1x4096, .f32⟩
  | .hbm, ⟨14, _⟩ => ⟨S32x1x4096, .f32⟩
  | .hbm, ⟨15, _⟩ => ⟨S_, .f32⟩
  | .hbm, ⟨16, _⟩ => ⟨S32x1, .f32⟩
  | .hbm, ⟨17, _⟩ => ⟨S32x1x1, .f32⟩
  | .hbm, ⟨18, _⟩ => ⟨S_, .f32⟩
  | .hbm, ⟨19, _⟩ => ⟨S32x1x1, .f32⟩
  | .hbm, ⟨20, _⟩ => ⟨S32x1x1, .f32⟩
  | .hbm, ⟨21, _⟩ => ⟨S32x1x4096, .f32⟩
  | .hbm, ⟨22, _⟩ => ⟨S32x1x4096, .f32⟩
  | .hbm, ⟨23, _⟩ => ⟨S32x1x4096, .f32⟩
  | .hbm, ⟨24, _⟩ => ⟨S_, .f32⟩
  | .hbm, ⟨25, _⟩ => ⟨S32x1, .f32⟩
  | .hbm, ⟨26, _⟩ => ⟨S32x1x1, .f32⟩
  | .hbm, ⟨27, _⟩ => ⟨S_, .f32⟩
  | .hbm, ⟨28, _⟩ => ⟨S32x1x1, .f32⟩
  | .hbm, ⟨29, _⟩ => ⟨S32x1x1, .f32⟩
  | .hbm, ⟨30, _⟩ => ⟨S32x1x4096, .f32⟩
  | .hbm, ⟨31, _⟩ => ⟨S32x1x4096, .f32⟩
  | .hbm, ⟨32, _⟩ => ⟨S_, .f32⟩
  | .hbm, ⟨33, _⟩ => ⟨S32x1x1, .f32⟩
  | .hbm, ⟨34, _⟩ => ⟨S32x1x1, .f32⟩
  | .hbm, ⟨35, _⟩ => ⟨S32x1x1, .f32⟩
  | .hbm, ⟨36, _⟩ => ⟨S32x1x4096, .f32⟩
  | .hbm, ⟨37, _⟩ => ⟨S32x1x4096, .f32⟩
  | .hbm, ⟨38, _⟩ => ⟨S4096, .f32⟩
  | .hbm, ⟨39, _⟩ => ⟨S1x1x4096, .f32⟩
  | .hbm, ⟨40, _⟩ => ⟨S32x1x4096, .f32⟩
  | .hbm, ⟨41, _⟩ => ⟨S32x1x4096, .f32⟩
  | .hbm, ⟨42, _⟩ => ⟨S4096, .f32⟩
  | .hbm, ⟨43, _⟩ => ⟨S1x1x4096, .f32⟩
  | .hbm, ⟨44, _⟩ => ⟨S32x1x4096, .f32⟩
  | .hbm, ⟨45, _⟩ => ⟨S32x1x4096, .f32⟩
  | .hbm, ⟨46, _⟩ => ⟨S32x4096, .f32⟩
  | .hbm, ⟨47, _⟩ => ⟨S32x4096, .bf16⟩
  | _, _ => ⟨S32x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Proof.Soft.lean ====
/-
  The mathematics of a softmax taken block by block with a running maximum, over extended reals: no program here.
-/
module

public import Idealize.ShloMosaic.PureOps.Ideal

@[expose] public section

noncomputable section

namespace Cert.Soft

open Idealize.ShloMosaic

/-- The inclusion of the reals commutes with finite sums. -/
theorem coe_sum {ι : Type} (s : Finset ι) (f : ι → ℝ) :
    ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- A sum whose terms vanish off `T` and are real on it. -/
theorem sum_ite_coe {n : ℕ} (T : Finset (Fin n)) (f : Fin n → ℝ) :
    ∑ j, (if j ∈ T then ((f j : ℝ) : EReal) else 0) = ((∑ j ∈ T, f j : ℝ) : EReal) := by
  rw [← coe_sum]
  simp [Finset.sum_ite_mem]

/-- A maximum over a finite family is at least each member. -/
theorem le_fold {ι : Type} (t : Finset ι) (s : ι → EReal) (b : EReal) {j : ι} (hj : j ∈ t) : s j ≤ t.fold max b s :=
  Finset.le_fold_max (s j) |>.mpr (Or.inr ⟨j, hj, le_rfl⟩)

/-- A maximum of a finite family with nothing infinite above stays below `⊤`. -/
theorem fold_lt_top {ι : Type} (t : Finset ι) (s : ι → EReal) (hs : ∀ j ∈ t, s j < ⊤) : t.fold max ⊥ s < ⊤ :=
  Finset.fold_max_lt ⊤ |>.mpr ⟨bot_lt_top, hs⟩

/-- The running maximum after a block with at least one score in it is a real number. -/
theorem max_real {ι : Type} [Fintype ι] (m : EReal) (hm : m ≠ ⊤) (s : ι → EReal) (hs : ∀ j, s j ≠ ⊤) {j : ι} (hj : s j ≠ ⊥) :
    ∃ μ : ℝ, max m (Finset.univ.fold max ⊥ s) = μ := by
  have h1 : max m (Finset.univ.fold max ⊥ s) ≠ ⊤ :=
    (max_lt (lt_top_iff_ne_top.mpr hm) (fold_lt_top _ _ fun j _ => lt_top_iff_ne_top.mpr (hs j))).ne
  have h2 : max m (Finset.univ.fold max ⊥ s) ≠ ⊥ :=
    ((bot_lt_iff_ne_bot.mpr hj).trans_le ((le_fold _ s ⊥ (Finset.mem_univ j)).trans (le_max_right _ _))).ne'
  exact ⟨_, (EReal.coe_toReal h1 h2).symm⟩

variable {κ : Type} [DecidableEq κ]

/-- The running maximum, denominator and numerator after the keys `S`: all at their start values for no key, else
    the sums of the weights taken relative to SOME real maximum. -/
def Run (S : Finset κ) (x v : κ → ℝ) (m l a : EReal) : Prop :=
  (S = ∅ ∧ m = ⊥ ∧ l = 0 ∧ a = 0) ∨
    ∃ μ : ℝ, m = μ ∧ l = ((∑ j ∈ S, Real.rpow 2 (x j - μ) : ℝ) : EReal)
      ∧ a = ((∑ j ∈ S, Real.rpow 2 (x j - μ) * v j : ℝ) : EReal)

theorem Run.start (x v : κ → ℝ) : Run ∅ x v ⊥ 0 0 := Or.inl ⟨rfl, rfl, rfl, rfl⟩

theorem rpow_shift (y μ μ' : ℝ) : Real.rpow 2 (μ - μ') * Real.rpow 2 (y - μ) = Real.rpow 2 (y - μ') := by
  show (2 : ℝ) ^ (μ - μ') * (2 : ℝ) ^ (y - μ) = (2 : ℝ) ^ (y - μ')
  rw [← Real.rpow_add (by norm_num)]; congr 1; ring

/-- One block of keys: the keys `T` of the block enter, the others are masked. -/
theorem Run.step {S : Finset κ} {x v : κ → ℝ} {m l a : EReal} (h : Run S x v m l a) {n : ℕ} (e : Fin n → κ)
    (he : Function.Injective e) (hS : ∀ j, e j ∉ S) (T : Finset (Fin n)) (hT : T.Nonempty) (s u : Fin n → EReal)
    (hs : ∀ j, s j = if j ∈ T then ((x (e j) : ℝ) : EReal) else ⊥) (hu : ∀ j, u j = ((v (e j) : ℝ) : EReal))
    (m' : EReal) (hm' : m' = max m (Finset.univ.fold max ⊥ s)) :
    Run (S ∪ T.image e) x v m' (Ideal.exp2 (m - m') * l + ∑ j, Ideal.exp2 (s j - m'))
      (Ideal.exp2 (m - m') * a + ∑ j, Ideal.exp2 (s j - m') * u j) := by
  obtain ⟨j0, hj0⟩ := hT
  have hmt : m ≠ ⊤ := by
    rcases h with ⟨-, rfl, -, -⟩ | ⟨μ, rfl, -, -⟩
    · exact bot_ne_top
    · exact EReal.coe_ne_top _
  have hst : ∀ j, s j ≠ ⊤ := fun j => by
    rw [hs]; split
    · exact EReal.coe_ne_top _
    · exact bot_ne_top
  obtain ⟨μ', hμ'⟩ := max_real m hmt s hst (j := j0) (by rw [hs, if_pos hj0]; exact EReal.coe_ne_bot _)
  rw [hμ'] at hm'
  subst hm'
  have hp : ∀ j, Ideal.exp2 (s j - (μ' : EReal)) = if j ∈ T then ((Real.rpow 2 (x (e j) - μ') : ℝ) : EReal) else 0 := by
    intro j
    rw [hs]; split
    · rw [← EReal.coe_sub, Ideal.exp2_coe]
    · rw [EReal.bot_sub, Ideal.exp2_bot]
  have hpu : ∀ j, Ideal.exp2 (s j - (μ' : EReal)) * u j
      = if j ∈ T then ((Real.rpow 2 (x (e j) - μ') * v (e j) : ℝ) : EReal) else 0 := by
    intro j
    rw [hp, hu]; split
    · rw [EReal.coe_mul]
    · rw [zero_mul]
  have hd : Disjoint S (T.image e) := by
    rw [Finset.disjoint_left]
    intro k hk hk'
    obtain ⟨j, -, rfl⟩ := Finset.mem_image.mp hk'
    exact hS j hk
  rw [Finset.sum_congr rfl fun j _ => hp j, Finset.sum_congr rfl fun j _ => hpu j, sum_ite_coe, sum_ite_coe]
  refine Or.inr ⟨μ', rfl, ?_, ?_⟩
  · rw [Finset.sum_union hd, Finset.sum_image fun _ _ _ _ hh => he hh]
    rcases h with ⟨rfl, rfl, rfl, rfl⟩ | ⟨μ, rfl, rfl, rfl⟩
    · rw [mul_zero]; simp
    · rw [← EReal.coe_sub, Ideal.exp2_coe, ← EReal.coe_mul, ← EReal.coe_add, Finset.mul_sum]
      simp only [rpow_shift]
  · rw [Finset.sum_union hd, Finset.sum_image fun _ _ _ _ hh => he hh]
    rcases h with ⟨rfl, rfl, rfl, rfl⟩ | ⟨μ, rfl, rfl, rfl⟩
    · rw [mul_zero]; simp
    · rw [← EReal.coe_sub, Ideal.exp2_coe, ← EReal.coe_mul, ← EReal.coe_add, Finset.mul_sum]
      simp only [← mul_assoc, rpow_shift]

/-- A weighted mean over the keys `S`, with the weights `exp (y j)`. -/
def mean (S : Finset κ) (y v : κ → ℝ) : ℝ := (∑ j ∈ S, Real.exp (y j) * v j) / ∑ j ∈ S, Real.exp (y j)

theorem sum_exp_pos {S : Finset κ} (hS : S.Nonempty) (y : κ → ℝ) : 0 < ∑ j ∈ S, Real.exp (y j) :=
  Finset.sum_pos (fun _ _ => Real.exp_pos _) hS

/-- Dividing the numerator by the denominator at the end gives the mean. -/
theorem Run.finish {S : Finset κ} {x v : κ → ℝ} {m l a : EReal} (h : Run S x v m l a) (hS : S.Nonempty) (y : κ → ℝ)
    (hy : ∀ j ∈ S, x j * Real.log 2 = y j) : Ideal.div a l = ((mean S y v : ℝ) : EReal) := by
  rcases h with ⟨rfl, -⟩ | ⟨μ, -, rfl, rfl⟩
  · exact absurd hS Finset.not_nonempty_empty
  have hw : ∀ j ∈ S, Real.rpow 2 (x j - μ) = Real.exp (y j) * Real.rpow 2 (-μ) := by
    intro j hj
    show (2 : ℝ) ^ (x j - μ) = Real.exp (y j) * (2 : ℝ) ^ (-μ)
    rw [Real.rpow_def_of_pos (by norm_num), Real.rpow_def_of_pos (by norm_num), ← Real.exp_add, ← hy j hj]
    congr 1; ring
  have h2 : (Real.rpow 2 (-μ) : ℝ) ≠ 0 := (Real.rpow_pos_of_pos (by norm_num) _).ne'
  have e1 : ∑ j ∈ S, Real.rpow 2 (x j - μ) = (∑ j ∈ S, Real.exp (y j)) * Real.rpow 2 (-μ) := by
    rw [Finset.sum_mul]; exact Finset.sum_congr rfl hw
  have e2 : ∑ j ∈ S, Real.rpow 2 (x j - μ) * v j = (∑ j ∈ S, Real.exp (y j) * v j) * Real.rpow 2 (-μ) := by
    rw [Finset.sum_mul]; exact Finset.sum_congr rfl fun j hj => by rw [hw j hj]; ring
  have hD := (sum_exp_pos hS y).ne'
  rw [e1, e2, Ideal.div_coe (mul_ne_zero hD h2), ← EReal.coe_mul, mean]
  congr 1
  field_simp

variable [Fintype κ]

/-- The plain softmax of masked scores at one key. -/
theorem softmax_at {S : Finset κ} (hS : S.Nonempty) (y : κ → ℝ) (z : κ → EReal)
    (hz : ∀ j, z j = if j ∈ S then ((y j : ℝ) : EReal) else ⊥) (M : EReal) (hM : M = Finset.univ.fold max ⊥ z)
    (D : EReal) (hD : D = ∑ j, Ideal.exp (z j - M)) (j : κ) :
    Ideal.div (Ideal.exp (z j - M)) D
      = (((if j ∈ S then Real.exp (y j) else 0) / ∑ j ∈ S, Real.exp (y j) : ℝ) : EReal) := by
  obtain ⟨j0, hj0⟩ := hS
  have hzt : ∀ j, z j ≠ ⊤ := fun j => by
    rw [hz]; split
    · exact EReal.coe_ne_top _
    · exact bot_ne_top
  obtain ⟨μ, hμ⟩ := max_real ⊥ bot_ne_top z hzt (j := j0) (by rw [hz, if_pos hj0]; exact EReal.coe_ne_bot _)
  rw [max_eq_right bot_le, ← hM] at hμ
  subst hμ
  have hp : ∀ j, Ideal.exp (z j - (μ : EReal)) = (((if j ∈ S then Real.exp (y j) else 0) * Real.exp (-μ) : ℝ) : EReal) := by
    intro j
    rw [hz]; split
    · rw [← EReal.coe_sub, Ideal.exp_coe, sub_eq_add_neg, Real.exp_add]
    · rw [EReal.bot_sub, Ideal.exp_bot, zero_mul, EReal.coe_zero]
  have hsum : D = (((∑ j ∈ S, Real.exp (y j)) * Real.exp (-μ) : ℝ) : EReal) := by
    rw [hD, Finset.sum_congr rfl fun j _ => hp j, coe_sum, ← Finset.sum_mul]
    congr 2
    simp [Finset.sum_ite_mem]
  have hpos := (sum_exp_pos ⟨j0, hj0⟩ y).ne'
  rw [hsum, hp, Ideal.div_coe (mul_ne_zero hpos (Real.exp_pos _).ne'), ← EReal.coe_mul]
  congr 1
  have := (Real.exp_pos (-μ)).ne'
  field_simp

/-- The two softmaxes' difference against the values is the difference of the two means. -/
theorem diff_means {S : Finset κ} (y1 y2 v : κ → ℝ) (lam : ℝ) (p1 p2 u : κ → EReal)
    (h1 : ∀ j, p1 j = (((if j ∈ S then Real.exp (y1 j) else 0) / ∑ j ∈ S, Real.exp (y1 j) : ℝ) : EReal))
    (h2 : ∀ j, p2 j = (((if j ∈ S then Real.exp (y2 j) else 0) / ∑ j ∈ S, Real.exp (y2 j) : ℝ) : EReal))
    (hu : ∀ j, u j = ((v j : ℝ) : EReal)) :
    ∑ j, (p1 j - (lam : EReal) * p2 j) * u j = ((mean S y1 v : ℝ) : EReal) - (lam : EReal) * ((mean S y2 v : ℝ) : EReal) := by
  have key : ∀ y : κ → ℝ, mean S y v
      = ∑ j, ((if j ∈ S then Real.exp (y j) else 0) / ∑ j ∈ S, Real.exp (y j)) * v j := by
    intro y
    rw [mean, Finset.sum_div]
    rw [← Finset.sum_subset (Finset.subset_univ S)]
    · exact Finset.sum_congr rfl fun j hj => by rw [if_pos hj]; ring
    · intro j _ hj; rw [if_neg hj]; simp
  rw [Finset.sum_congr rfl fun j _ => by rw [h1, h2, hu, ← EReal.coe_mul, ← EReal.coe_sub, ← EReal.coe_mul], coe_sum,
    ← EReal.coe_mul, ← EReal.coe_sub]
  congr 1
  rw [key y1, key y2, Finset.mul_sum, ← Finset.sum_sub_distrib]
  exact Finset.sum_congr rfl fun j _ => by ring

end Cert.Soft

end
-- ==== Proof.Pay.lean ====
/-
  What the kernel's body computes for one block of keys, read at a row and a column, as one step of the running softmax.
-/
module

public import proofs.«01_k».proof.Proof.Gen.KernelIdeal.Skeleton
public import proofs.«01_k».proof.Proof.Soft
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe Idealize.SL.Sem
open Cert.Soft

theorem neg_inf : Ideal.ofBits .f32 0xFF800000#32 = ⊥ := by simp [Ideal.ofBits, Ideal.ieee]

/-- The keys of the first `K` blocks. -/
def before (K : ℕ) : Finset (Fin 4096) := Finset.univ.filter fun j => j.val < 512 * K
/-- The keys up to row `r` of block `K`. -/
def upto (K r : ℕ) : Finset (Fin 4096) := Finset.univ.filter fun j => j.val ≤ 512 * K + r

/-- Key `c` of block `K`. -/
def key (K : ℕ) (hK : K < 8) (c : Fin 512) : Fin 4096 := ⟨512 * K + c.val, by omega⟩

theorem key_inj (K : ℕ) (hK : K < 8) : Function.Injective (key K hK) := fun a b h => by
  have := congrArg Fin.val h
  simp only [key] at this
  exact Fin.ext (by omega)

theorem key_not_before (K : ℕ) (hK : K < 8) (c : Fin 512) : key K hK c ∉ before K := by
  simp [before, key]

theorem before_zero : before 0 = ∅ := by simp [before]

theorem before_succ (K : ℕ) (hK : K < 8) : before K ∪ Finset.univ.image (key K hK) = before (K + 1) := by
  ext j
  simp only [before, Finset.mem_union, Finset.mem_filter, Finset.mem_univ, true_and, Finset.mem_image]
  constructor
  · rintro (h | ⟨c, rfl⟩)
    · omega
    · simp only [key]; omega
  · intro h
    by_cases h' : j.val < 512 * K
    · exact Or.inl h'
    · exact Or.inr ⟨⟨j.val - 512 * K, by omega⟩, Fin.ext (by simp only [key]; omega)⟩

theorem upto_eq (K : ℕ) (hK : K < 8) (r : Fin 512) :
    before K ∪ (Finset.univ.filter fun c : Fin 512 => c.val ≤ r.val).image (key K hK) = upto K r := by
  ext j
  simp only [before, upto, Finset.mem_union, Finset.mem_filter, Finset.mem_univ, true_and, Finset.mem_image]
  constructor
  · rintro (h | ⟨c, hc, rfl⟩)
    · omega
    · simp only [key]; omega
  · intro h
    by_cases h' : j.val < 512 * K
    · exact Or.inl h'
    · exact Or.inr ⟨⟨j.val - 512 * K, by omega⟩, by simp only; omega, Fin.ext (by simp only [key]; omega)⟩

variable {x v : Fin 4096 → ℝ} {K : ℕ} (hK : K < 8)

/-- A whole block of keys. -/
theorem Run.whole {m l a : EReal} (h : Run (before K) x v m l a) (s u : Fin 512 → EReal)
    (hs : ∀ c, s c = ((x (key K hK c) : ℝ) : EReal)) (hu : ∀ c, u c = ((v (key K hK c) : ℝ) : EReal))
    (m' l' a' : EReal) (hm : m' = max m (Finset.univ.fold max ⊥ s))
    (hl : l' = Ideal.exp2 (m - m') * l + ∑ j, Ideal.exp2 (s j - m'))
    (ha : a' = Ideal.exp2 (m - m') * a + ∑ j, Ideal.exp2 (s j - m') * u j) :
    Run (before (K + 1)) x v m' l' a' := by
  rw [hl, ha, ← before_succ K hK]
  exact h.step (key K hK) (key_inj K hK) (key_not_before K hK) Finset.univ ⟨0, Finset.mem_univ _⟩ s u
    (fun j => by rw [hs, if_pos (Finset.mem_univ _)]) hu m' hm

/-- The block on the diagonal: only the keys up to the row. -/
theorem Run.diag {m l a : EReal} (h : Run (before K) x v m l a) (r : Fin 512) (s u : Fin 512 → EReal)
    (hs : ∀ c : Fin 512, s c = if c.val ≤ r.val then ((x (key K hK c) : ℝ) : EReal) else ⊥)
    (hu : ∀ c, u c = ((v (key K hK c) : ℝ) : EReal))
    (m' l' a' : EReal) (hm : m' = max m (Finset.univ.fold max ⊥ s))
    (hl : l' = Ideal.exp2 (m - m') * l + ∑ j, Ideal.exp2 (s j - m'))
    (ha : a' = Ideal.exp2 (m - m') * a + ∑ j, Ideal.exp2 (s j - m') * u j) :
    Run (upto K r) x v m' l' a' := by
  rw [hl, ha, ← upto_eq K hK r]
  exact h.step (key K hK) (key_inj K hK) (key_not_before K hK) _ ⟨r, by simp⟩ s u
    (fun j => by rw [hs]; simp only [Finset.mem_filter, Finset.mem_univ, true_and]) hu m' hm

section
variable (v5 : FVec Ideal S512x128 .bf16) (m l : FVec Ideal S512x1 .f32) (kb vb : FVec Ideal S1x512x256 .bf16)
  (acc : FVec Ideal S512x256 .f32) (r : Fin 512) (d : Fin 256)

theorem pay6_at : k0_pay6 (F := Ideal) v5 m kb (ix2 r 0)
    = max (m (ix2 r 0)) (Finset.univ.fold max ⊥ fun c => k0_pay4 (F := Ideal) v5 kb (ix2 r c)) := by
  pointwise [k0_pay6]
  rw [neg_inf]

theorem pay9_at : k0_pay9 (F := Ideal) v5 m l kb (ix2 r 0)
    = Ideal.exp2 (m (ix2 r 0) - k0_pay6 (F := Ideal) v5 m kb (ix2 r 0)) * l (ix2 r 0)
      + ∑ c, Ideal.exp2 (k0_pay4 (F := Ideal) v5 kb (ix2 r c) - k0_pay6 (F := Ideal) v5 m kb (ix2 r 0)) := by
  pointwise [k0_pay9, k0_pay7, k0_pay8]
  rfl

theorem pay15_at : k0_pay15 (F := Ideal) v5 m kb vb acc (ix2 r d)
    = Ideal.exp2 (m (ix2 r 0) - k0_pay6 (F := Ideal) v5 m kb (ix2 r 0)) * acc (ix2 r d)
      + ∑ c, Ideal.exp2 (k0_pay4 (F := Ideal) v5 kb (ix2 r c) - k0_pay6 (F := Ideal) v5 m kb (ix2 r 0)) * vb (ix3 0 c d) := by
  pointwise [k0_pay15, k0_pay7, k0_pay8, k0_pay3]
  rfl

theorem pay10_at : k0_pay10 (F := Ideal) v5 m kb (ix2 r 0)
    = max (m (ix2 r 0)) (Finset.univ.fold max ⊥ fun c => k0_pay5 (F := Ideal) v5 kb (ix2 r c)) := by
  pointwise [k0_pay10]
  rw [neg_inf]

theorem pay13_at : k0_pay13 (F := Ideal) v5 m l kb (ix2 r 0)
    = Ideal.exp2 (m (ix2 r 0) - k0_pay10 (F := Ideal) v5 m kb (ix2 r 0)) * l (ix2 r 0)
      + ∑ c, Ideal.exp2 (k0_pay5 (F := Ideal) v5 kb (ix2 r c) - k0_pay10 (F := Ideal) v5 m kb (ix2 r 0)) := by
  pointwise [k0_pay13, k0_pay11, k0_pay12]
  rfl

theorem pay38_at : k0_pay38 (F := Ideal) (k0_pay12 (F := Ideal) v5 m kb) (k0_pay14 (F := Ideal) v5 m kb vb) acc (ix2 r d)
    = Ideal.exp2 (m (ix2 r 0) - k0_pay10 (F := Ideal) v5 m kb (ix2 r 0)) * acc (ix2 r d)
      + ∑ c, Ideal.exp2 (k0_pay5 (F := Ideal) v5 kb (ix2 r c) - k0_pay10 (F := Ideal) v5 m kb (ix2 r 0)) * vb (ix3 0 c d) := by
  pointwise [k0_pay38, k0_pay14, k0_pay11, k0_pay12, k0_pay3]
  rfl

variable {v5 m l kb vb acc r d}

/-- One unmasked block, first component. -/
theorem trip1 (h : Run (before K) x v (m (ix2 r 0)) (l (ix2 r 0)) (acc (ix2 r d)))
    (hs : ∀ c, k0_pay4 (F := Ideal) v5 kb (ix2 r c) = ((x (key K hK c) : ℝ) : EReal))
    (hu : ∀ c, vb (ix3 0 c d) = ((v (key K hK c) : ℝ) : EReal)) :
    Run (before (K + 1)) x v (k0_pay6 (F := Ideal) v5 m kb (ix2 r 0)) (k0_pay9 (F := Ideal) v5 m l kb (ix2 r 0))
      (k0_pay37 (F := Ideal) (k0_pay15 (F := Ideal) v5 m kb vb acc) (ix2 r d)) :=
  Run.whole hK h _ _ hs hu _ _ _ (pay6_at _ _ _ _) (pay9_at _ _ _ _ _)
    ((by pointwise [k0_pay37] : k0_pay37 (F := Ideal) (k0_pay15 (F := Ideal) v5 m kb vb acc) (ix2 r d)
        = k0_pay15 (F := Ideal) v5 m kb vb acc (ix2 r d)).trans (pay15_at _ _ _ _ _ _ _))

/-- One unmasked block, second component. -/
theorem trip2 (h : Run (before K) x v (m (ix2 r 0)) (l (ix2 r 0)) (acc (ix2 r d)))
    (hs : ∀ c, k0_pay5 (F := Ideal) v5 kb (ix2 r c) = ((x (key K hK c) : ℝ) : EReal))
    (hu : ∀ c, vb (ix3 0 c d) = ((v (key K hK c) : ℝ) : EReal)) :
    Run (before (K + 1)) x v (k0_pay10 (F := Ideal) v5 m kb (ix2 r 0)) (k0_pay13 (F := Ideal) v5 m l kb (ix2 r 0))
      (k0_pay38 (F := Ideal) (k0_pay12 (F := Ideal) v5 m kb) (k0_pay14 (F := Ideal) v5 m kb vb) acc (ix2 r d)) :=
  Run.whole hK h _ _ hs hu _ _ _ (pay10_at _ _ _ _) (pay13_at _ _ _ _ _) (pay38_at _ _ _ _ _ _ _)

end

section
variable (v5 w32 : FVec Ideal S512x128 .bf16) (m l : FVec Ideal S512x1 .f32) (kb vb : FVec Ideal S1x512x256 .bf16)
  (z : FVec Ideal S512x512 .f32) (acc : FVec Ideal S512x256 .f32) (r : Fin 512) (d : Fin 256)

/-- The causal mask inside the block on the diagonal. -/
theorem mask_at (c r : Fin 512) (p q : EReal) :
    Scalar.select (IntOp.cmpi CmpIPredicate.sle (BitVec.ofNat 32 c.val) (BitVec.ofNat 32 r.val)) p q
      = if c.val ≤ r.val then p else q := by
  have e1 : (BitVec.ofNat 32 c.val).toNat = c.val := by
    rw [BitVec.toNat_ofNat]; exact Nat.mod_eq_of_lt (by omega)
  have h1 : (BitVec.ofNat 32 c.val).toInt = c.val := by
    rw [BitVec.toInt_eq_toNat_of_lt (by rw [e1]; omega), e1]
  have e2 : (BitVec.ofNat 32 r.val).toNat = r.val := by
    rw [BitVec.toNat_ofNat]; exact Nat.mod_eq_of_lt (by omega)
  have h2 : (BitVec.ofNat 32 r.val).toInt = r.val := by
    rw [BitVec.toInt_eq_toNat_of_lt (by rw [e2]; omega), e2]
  by_cases h : c.val ≤ r.val
  · simp [Scalar.select, IntOp.cmpi, BitVec.sle, h1, h2, h]
  · simp [Scalar.select, IntOp.cmpi, BitVec.sle, h1, h2, h]

theorem pay45_at : k0_pay45 (F := Ideal) v5 m w32 z (ix2 r 0)
    = max (m (ix2 r 0)) (Finset.univ.fold max ⊥ fun c => k0_pay44 (F := Ideal) v5 w32 z (ix2 r c)) := by
  pointwise [k0_pay45]
  rw [neg_inf]

theorem pay48_at : k0_pay48 (F := Ideal) v5 m l w32 z (ix2 r 0)
    = Ideal.exp2 (m (ix2 r 0) - k0_pay45 (F := Ideal) v5 m w32 z (ix2 r 0)) * l (ix2 r 0)
      + ∑ c, Ideal.exp2 (k0_pay44 (F := Ideal) v5 w32 z (ix2 r c) - k0_pay45 (F := Ideal) v5 m w32 z (ix2 r 0)) := by
  pointwise [k0_pay48, k0_pay46, k0_pay47]
  rfl

theorem pay55_at : k0_pay56 (F := Ideal) (k0_pay55 (F := Ideal) v5 m (k0_pay42 (F := Ideal) vb) w32 z acc) (ix2 r d)
    = Ideal.exp2 (m (ix2 r 0) - k0_pay45 (F := Ideal) v5 m w32 z (ix2 r 0)) * acc (ix2 r d)
      + ∑ c, Ideal.exp2 (k0_pay44 (F := Ideal) v5 w32 z (ix2 r c) - k0_pay45 (F := Ideal) v5 m w32 z (ix2 r 0)) * vb (ix3 0 c d) := by
  pointwise [k0_pay56, k0_pay55, k0_pay46, k0_pay47, k0_pay42]
  rfl

theorem pay44_at (c : Fin 512) : k0_pay44 (F := Ideal) v5 (k0_pay43 (F := Ideal) kb) (constant (F := Ideal) S512x512 .f32 0x00000000#32) (ix2 r c)
    = if c.val ≤ r.val then k0_pay4 (F := Ideal) v5 kb (ix2 r c) else ⊥ := by
  pointwise [k0_pay44, k0_pay43, k0_pay41, k0_pay4, k0_pay2]
  rw [neg_inf]
  exact mask_at c r _ _

theorem pay49_at (c : Fin 512) : k0_pay49 (F := Ideal) v5 (k0_pay41 (F := Ideal) kb) (ix2 r c)
    = if c.val ≤ r.val then k0_pay5 (F := Ideal) v5 kb (ix2 r c) else ⊥ := by
  pointwise [k0_pay49, k0_pay41, k0_pay5, k0_pay2]
  rw [neg_inf]
  exact mask_at c r _ _

variable (k2 : FVec Ideal S512x256 .bf16)

theorem pay50_at : k0_pay50 (F := Ideal) v5 m k2 (ix2 r 0)
    = max (m (ix2 r 0)) (Finset.univ.fold max ⊥ fun c => k0_pay49 (F := Ideal) v5 k2 (ix2 r c)) := by
  pointwise [k0_pay50]
  rw [neg_inf]

theorem pay53_at : k0_pay53 (F := Ideal) v5 m l k2 (ix2 r 0)
    = Ideal.exp2 (m (ix2 r 0) - k0_pay50 (F := Ideal) v5 m k2 (ix2 r 0)) * l (ix2 r 0)
      + ∑ c, Ideal.exp2 (k0_pay49 (F := Ideal) v5 k2 (ix2 r c) - k0_pay50 (F := Ideal) v5 m k2 (ix2 r 0)) := by
  pointwise [k0_pay53, k0_pay51, k0_pay52]
  rfl

theorem pay57_at : k0_pay57 (F := Ideal) (k0_pay52 (F := Ideal) v5 m k2) (k0_pay54 (F := Ideal) v5 m k2 (k0_pay42 (F := Ideal) vb)) acc (ix2 r d)
    = Ideal.exp2 (m (ix2 r 0) - k0_pay50 (F := Ideal) v5 m k2 (ix2 r 0)) * acc (ix2 r d)
      + ∑ c, Ideal.exp2 (k0_pay49 (F := Ideal) v5 k2 (ix2 r c) - k0_pay50 (F := Ideal) v5 m k2 (ix2 r 0)) * vb (ix3 0 c d) := by
  pointwise [k0_pay57, k0_pay54, k0_pay51, k0_pay52, k0_pay42]
  rfl

variable {v5 w32 m l kb vb z acc r d}

/-- The masked block, first component. -/
theorem last1 (h : Run (before K) x v (m (ix2 r 0)) (l (ix2 r 0)) (acc (ix2 r d)))
    (hs : ∀ c, k0_pay4 (F := Ideal) v5 kb (ix2 r c) = ((x (key K hK c) : ℝ) : EReal))
    (hu : ∀ c, vb (ix3 0 c d) = ((v (key K hK c) : ℝ) : EReal)) :
    Run (upto K r) x v
      (k0_pay45 (F := Ideal) v5 m (k0_pay43 (F := Ideal) kb) (constant (F := Ideal) S512x512 .f32 0x00000000#32) (ix2 r 0))
      (k0_pay48 (F := Ideal) v5 m l (k0_pay43 (F := Ideal) kb) (constant (F := Ideal) S512x512 .f32 0x00000000#32) (ix2 r 0))
      (k0_pay56 (F := Ideal) (k0_pay55 (F := Ideal) v5 m (k0_pay42 (F := Ideal) vb) (k0_pay43 (F := Ideal) kb)
        (constant (F := Ideal) S512x512 .f32 0x00000000#32) acc) (ix2 r d)) :=
  Run.diag hK h r _ _ (fun c => by rw [pay44_at, hs]) hu _ _ _ (pay45_at _ _ _ _ _) (pay48_at _ _ _ _ _ _)
    (pay55_at _ _ _ _ _ _ _ _)

/-- The masked block, second component. -/
theorem last2 (h : Run (before K) x v (m (ix2 r 0)) (l (ix2 r 0)) (acc (ix2 r d)))
    (hs : ∀ c, k0_pay5 (F := Ideal) v5 kb (ix2 r c) = ((x (key K hK c) : ℝ) : EReal))
    (hu : ∀ c, vb (ix3 0 c d) = ((v (key K hK c) : ℝ) : EReal)) :
    Run (upto K r) x v
      (k0_pay50 (F := Ideal) v5 m (k0_pay41 (F := Ideal) kb) (ix2 r 0))
      (k0_pay53 (F := Ideal) v5 m l (k0_pay41 (F := Ideal) kb) (ix2 r 0))
      (k0_pay57 (F := Ideal) (k0_pay52 (F := Ideal) v5 m (k0_pay41 (F := Ideal) kb))
        (k0_pay54 (F := Ideal) v5 m (k0_pay41 (F := Ideal) kb) (k0_pay42 (F := Ideal) vb)) acc (ix2 r d)) :=
  Run.diag hK h r _ _ (fun c => by rw [pay49_at, hs]) hu _ _ _ (pay50_at _ _ _ _) (pay53_at _ _ _ _ _)
    (pay57_at _ _ _ _ _ _ _)

end

end Cert.KernelIdeal.Val

end
-- ==== Proof.Block.lean ====
/-
  The kernel's output block: the loop over the blocks of keys before the diagonal, then the diagonal's block, as two running softmaxes.
-/
module

public import proofs.«01_k».proof.Proof.Gen.KernelIdeal.Value
public import proofs.«01_k».proof.Proof.Pay
public import Idealize.ShloMosaic.Lib.Pipeline.ValueKit
public import Idealize.ShloMosaic.Lib.VecWindow
public import Idealize.ShloMosaic.Lib.WholeRead

@[expose] public section

set_option maxRecDepth 16384

noncomputable section

namespace Cert.KernelIdeal.Val

open Cert.KernelIdeal Cert.KernelIdeal.Gen Idealize.ShloMosaic Idealize.ShloMosaic.TcCoe Idealize.SL.Sem
open Cert.Soft

theorem trips1 (i : grid0.Coords) : Scf.trips (0#32) (Scalar.addi (0#32) (Scalar.muli (Scalar.divsi (Scalar.subi (BitVec.ofNat 32 ↑(i 2)) 0#32) 1#32) 1#32)) 1#32 = (i 2).val := by
  have h : ∀ n : Fin 8, Scf.trips (0#32) (Scalar.addi (0#32) (Scalar.muli (Scalar.divsi (Scalar.subi (BitVec.ofNat 32 ↑n) 0#32) 1#32) 1#32)) 1#32 = n.val := by decide +kernel
  exact h (i 2)
theorem trips2 (i : grid0.Coords) : Scf.trips (Scalar.addi (0#32) (Scalar.muli (Scalar.divsi (Scalar.subi (BitVec.ofNat 32 ↑(i 2)) 0#32) 1#32) 1#32)) (Scalar.addi (0#32) (Scalar.subi (BitVec.ofNat 32 ↑(i 2)) 0#32)) 1#32 = 0 := by
  have h : ∀ n : Fin 8, Scf.trips (Scalar.addi (0#32) (Scalar.muli (Scalar.divsi (Scalar.subi (BitVec.ofNat 32 ↑n) 0#32) 1#32) 1#32)) (Scalar.addi (0#32) (Scalar.subi (BitVec.ofNat 32 ↑n) 0#32)) 1#32 = 0 := by decide +kernel
  exact h (i 2)
theorem off1_eq (i : grid0.Coords) (k : Fin (k0_t1_loop i).trips) : k0_off1 i k = ![0, 512 * k.val, 0] := by
  have h : ∀ n : Fin 8, (Scalar.indexCast (Scalar.muli (Scf.iv 0#32 1#32 n.val) 512#32)).toNat = 512 * n.val := by decide +kernel
  have hk : k.val < 8 := lt_of_lt_of_le k.isLt ((trips1 i).trans_le (i 2).isLt.le)
  unfold k0_off1
  exact congrArg (fun z => ![0, z, 0]) (h ⟨k.val, hk⟩)
theorem off3_eq (i : grid0.Coords) : k0_off3 i = ![0, 512 * (i 2).val, 0] := by
  have h : ∀ n : Fin 8, (Scalar.indexCast (Scalar.muli (BitVec.ofNat 32 n.val) 512#32)).toNat = 512 * n.val := by decide +kernel
  unfold k0_off3
  exact congrArg (fun z => ![0, z, 0]) (h (i 2))

variable (c : Dev nD) (i : grid0.Coords) (arg3 : Memref sig .tc .vmem S4x128 .f32) (harg3 : arg3.IsWhole) (arg4 : Memref sig .tc .vmem S1x256 .f32) (harg4 : arg4.IsWhole) (arg5 : Memref sig .tc .vmem S1x512x256 .f32) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S1x512x256 .bf16) (harg8 : arg8.IsWhole) (arg9 : Memref sig .tc .vmem S512x256 .f32) (harg9 : arg9.IsWhole) (arg10 : Memref sig .tc .vmem S512x256 .f32) (harg10 : arg10.IsWhole) (x0 : Vec Ideal S4x128 .f32) (x1 : Vec Ideal S1x256 .f32) (x2 : Vec Ideal S1x512x256 .f32) (x3 : Vec Ideal S1x4096x256 .bf16) (x4 : Vec Ideal S1x4096x256 .bf16)

section
variable (v0 : Vec Ideal S1x512x256 .f32) (X6 : BufTy.Contents (Elt Ideal) arg6.view.ty) (X7 : BufTy.Contents (Elt Ideal) arg7.view.ty)
  (k : Fin (k0_t1_loop i).trips) (acc : FVec Ideal S512x1 .f32 × FVec Ideal S512x1 .f32 × FVec Ideal S512x1 .f32 × FVec Ideal S512x1 .f32)
  (f9 : BufTy.Contents (Elt Ideal) arg9.view.ty) (f10 : BufTy.Contents (Elt Ideal) arg10.view.ty)

theorem trip_acc : (trip_k0_t1 (F := Ideal) Variants.none c none i arg3 harg3 arg4 harg4 arg5 harg5 arg6 harg6 arg7 harg7 arg8 harg8 arg9 harg9 arg10 harg10 v0 X6 X7 k).1 acc f9 f10
    = (k0_pay6 (F := Ideal) (k0_pay31 (F := Ideal) v0) acc.1 (View.readAt (Elt Ideal) arg6.view (Rect.unit (s := S1x4096x256) (k0_off1 i k) S1x512x256.size (k0_off1_inb i k)).toLoadRect X6),
       k0_pay9 (F := Ideal) (k0_pay31 (F := Ideal) v0) acc.1 acc.2.1 (View.readAt (Elt Ideal) arg6.view (Rect.unit (s := S1x4096x256) (k0_off1 i k) S1x512x256.size (k0_off1_inb i k)).toLoadRect X6),
       k0_pay10 (F := Ideal) (k0_pay32 (F := Ideal) v0) acc.2.2.1 (View.readAt (Elt Ideal) arg6.view (Rect.unit (s := S1x4096x256) (k0_off1 i k) S1x512x256.size (k0_off1_inb i k)).toLoadRect X6),
       k0_pay13 (F := Ideal) (k0_pay32 (F := Ideal) v0) acc.2.2.1 acc.2.2.2 (View.readAt (Elt Ideal) arg6.view (Rect.unit (s := S1x4096x256) (k0_off1 i k) S1x512x256.size (k0_off1_inb i k)).toLoadRect X6)) := by
  unfold trip_k0_t1
  dsimp only
  sl_unfold_run_names
  rfl

theorem trip_pieces9 : (trip_k0_t1 (F := Ideal) Variants.none c none i arg3 harg3 arg4 harg4 arg5 harg5 arg6 harg6 arg7 harg7 arg8 harg8 arg9 harg9 arg10 harg10 v0 X6 X7 k).2.1 acc f9 f10
    = [⟨(Rect.unit (s := S512x256) ![0, 0] ![512, 256] inb_S512x256_S512x256_0_0), k0_pay37 (F := Ideal) (k0_pay15 (F := Ideal) (k0_pay31 (F := Ideal) v0) acc.1 (View.readAt (Elt Ideal) arg6.view (Rect.unit (s := S1x4096x256) (k0_off1 i k) S1x512x256.size (k0_off1_inb i k)).toLoadRect X6)
        (View.readAt (Elt Ideal) arg7.view (Rect.unit (s := S1x4096x256) (k0_off1 i k) S1x512x256.size (k0_off1_inb i k)).toLoadRect X7) (View.readAt (Elt Ideal) arg9.view (Rect.unit (s := S512x256) ![0, 0] ![512, 256] inb_S512x256_S512x256_0_0).toLoadRect f9))⟩] := by
  unfold trip_k0_t1
  dsimp only
  sl_unfold_run_names
  rfl

theorem trip_pieces10 : (trip_k0_t1 (F := Ideal) Variants.none c none i arg3 harg3 arg4 harg4 arg5 harg5 arg6 harg6 arg7 harg7 arg8 harg8 arg9 harg9 arg10 harg10 v0 X6 X7 k).2.2.1 acc f9 f10
    = [⟨(Rect.unit (s := S512x256) ![0, 0] ![512, 256] inb_S512x256_S512x256_0_0), k0_pay38 (F := Ideal) (k0_pay12 (F := Ideal) (k0_pay32 (F := Ideal) v0) acc.2.2.1 (View.readAt (Elt Ideal) arg6.view (Rect.unit (s := S1x4096x256) (k0_off1 i k) S1x512x256.size (k0_off1_inb i k)).toLoadRect X6))
        (k0_pay14 (F := Ideal) (k0_pay32 (F := Ideal) v0) acc.2.2.1 (View.readAt (Elt Ideal) arg6.view (Rect.unit (s := S1x4096x256) (k0_off1 i k) S1x512x256.size (k0_off1_inb i k)).toLoadRect X6) (View.readAt (Elt Ideal) arg7.view (Rect.unit (s := S1x4096x256) (k0_off1 i k) S1x512x256.size (k0_off1_inb i k)).toLoadRect X7))
        (View.readAt (Elt Ideal) arg10.view (Rect.unit (s := S512x256) ![0, 0] ![512, 256] inb_S512x256_S512x256_0_0).toLoadRect f10)⟩] := by
  unfold trip_k0_t1
  dsimp only
  sl_unfold_run_names
  rfl

end

/-- A load of a block of rows of an operand held whole. -/
theorem ld_rows (x : Vec Ideal S1x4096x256 .bf16) (off : Fin 3 → ℕ) (inb : ∀ a, off a + S1x512x256.size a ≤ S1x4096x256.size a)
    (K : ℕ) (hK : K < 8) (h : off = ![0, 512 * K, 0]) (r : Fin 512) (e : Fin 256) :
    View.ld x (Rect.unit (s := S1x4096x256) off S1x512x256.size inb) (ix3 0 r e) = x (ix3 0 (key K hK r) e) := by
  subst h
  refine congrArg x (funext fun a => Fin.ext ?_)
  show (![0, 512 * K, 0] : Fin 3 → ℕ) a + 1 * ((ix3 0 r e : S1x512x256.Idx) a).val = ((ix3 0 (key K hK r) e : S1x4096x256.Idx) a).val
  fin_cases a <;> simp [key]

/-- The score of row `r` of a block of queries with a key, by component. -/
theorem pay4_at (x2 : Vec Ideal S1x512x256 .f32) (kb : Vec Ideal S1x512x256 .bf16) (r c : Fin 512) :
    k0_pay4 (F := Ideal) (k0_pay31 (F := Ideal) x2) kb (ix2 r c)
      = ∑ e : Fin 128, x2 (ix3 0 r ⟨e.val, by omega⟩) * (((Real.sqrt 128)⁻¹ * (Real.log 2)⁻¹ : ℝ) : EReal) * kb (ix3 0 c ⟨e.val, by omega⟩) := by
  pointwise [k0_pay4, k0_pay31, k0_pay2, k0_pay30]
  rfl

theorem pay5_at (x2 : Vec Ideal S1x512x256 .f32) (kb : Vec Ideal S1x512x256 .bf16) (r c : Fin 512) :
    k0_pay5 (F := Ideal) (k0_pay32 (F := Ideal) x2) kb (ix2 r c)
      = ∑ e : Fin 128, x2 (ix3 0 r ⟨128 + e.val, by omega⟩) * (((Real.sqrt 128)⁻¹ * (Real.log 2)⁻¹ : ℝ) : EReal) * kb (ix3 0 c ⟨128 + e.val, by omega⟩) := by
  pointwise [k0_pay5, k0_pay32, k0_pay2, k0_pay30]
  rfl

/-- The scores of one row of queries with the keys, per component, in the scale the kernel exponentiates in. -/
def sc1 (q : Fin 256 → ℝ) (Kf : Fin 4096 → Fin 256 → ℝ) (j : Fin 4096) : ℝ :=
  ∑ e : Fin 128, q ⟨e.val, by omega⟩ * ((Real.sqrt 128)⁻¹ * (Real.log 2)⁻¹) * Kf j ⟨e.val, by omega⟩
def sc2 (q : Fin 256 → ℝ) (Kf : Fin 4096 → Fin 256 → ℝ) (j : Fin 4096) : ℝ :=
  ∑ e : Fin 128, q ⟨128 + e.val, by omega⟩ * ((Real.sqrt 128)⁻¹ * (Real.log 2)⁻¹) * Kf j ⟨128 + e.val, by omega⟩

section
variable (Q : Fin 512 → Fin 256 → ℝ) (Kf V : Fin 4096 → Fin 256 → ℝ)
  (hQ : ∀ r e, x2 (ix3 0 r e) = ((Q r e : ℝ) : EReal)) (hK : ∀ j e, x3 (ix3 0 j e) = ((Kf j e : ℝ) : EReal))
  (hV : ∀ j e, x4 (ix3 0 j e) = ((V j e : ℝ) : EReal))
  (kb vb : Vec Ideal S1x512x256 .bf16) (K : ℕ) (h8 : K < 8)
  (hkb : ∀ c e, kb (ix3 0 c e) = x3 (ix3 0 (key K h8 c) e)) (hvb : ∀ c e, vb (ix3 0 c e) = x4 (ix3 0 (key K h8 c) e))

include hQ hK hkb in
theorem score1 (r c : Fin 512) : k0_pay4 (F := Ideal) (k0_pay31 (F := Ideal) x2) kb (ix2 r c) = ((sc1 (Q r) Kf (key K h8 c) : ℝ) : EReal) := by
  rw [pay4_at, sc1, ← coe_sum]
  exact Finset.sum_congr rfl fun e _ => by rw [hkb, hQ, hK, ← EReal.coe_mul, ← EReal.coe_mul]
include hQ hK hkb in
theorem score2 (r c : Fin 512) : k0_pay5 (F := Ideal) (k0_pay32 (F := Ideal) x2) kb (ix2 r c) = ((sc2 (Q r) Kf (key K h8 c) : ℝ) : EReal) := by
  rw [pay5_at, sc2, ← coe_sum]
  exact Finset.sum_congr rfl fun e _ => by rw [hkb, hQ, hK, ← EReal.coe_mul, ← EReal.coe_mul]

end

/-- The state before trip `k` of the loop over the blocks of keys before the diagonal. -/
def ST (k : ℕ) := st_k0_t1 (F := Ideal) Variants.none c none i arg3 harg3 arg4 harg4 arg5 harg5 arg6 harg6 arg7 harg7 arg8 harg8 arg9 harg9 arg10 harg10 x2 (harg6.unread x3) (harg7.unread x4)
  (arg9.view.writes (Elt Ideal) arg9.view.junk [⟨(Rect.unit (s := S512x256) ![0, 0] ![512, 256] inb_S512x256_S512x256_0_0), k0_pay33 (F := Ideal)⟩])
  (arg10.view.writes (Elt Ideal) arg10.view.junk [⟨(Rect.unit (s := S512x256) ![0, 0] ![512, 256] inb_S512x256_S512x256_0_0), k0_pay34 (F := Ideal)⟩]) (k0_pay35 (F := Ideal), k0_pay36 (F := Ideal), k0_pay35 (F := Ideal), k0_pay36 (F := Ideal)) k

/-- What the two accumulators hold before trip `k`. -/
def R9 (k : ℕ) : FVec Ideal S512x256 .f32 := View.readAt (Elt Ideal) arg9.view (Rect.unit (s := S512x256) ![0, 0] ![512, 256] inb_S512x256_S512x256_0_0).toLoadRect
  (arg9.view.writes (Elt Ideal) (arg9.view.writes (Elt Ideal) arg9.view.junk [⟨(Rect.unit (s := S512x256) ![0, 0] ![512, 256] inb_S512x256_S512x256_0_0), k0_pay33 (F := Ideal)⟩]) (ST c i arg3 harg3 arg4 harg4 arg5 harg5 arg6 harg6 arg7 harg7 arg8 harg8 arg9 harg9 arg10 harg10 x2 x3 x4 k).2.1)
def R10 (k : ℕ) : FVec Ideal S512x256 .f32 := View.readAt (Elt Ideal) arg10.view (Rect.unit (s := S512x256) ![0, 0] ![512, 256] inb_S512x256_S512x256_0_0).toLoadRect
  (arg10.view.writes (Elt Ideal) (arg10.view.writes (Elt Ideal) arg10.view.junk [⟨(Rect.unit (s := S512x256) ![0, 0] ![512, 256] inb_S512x256_S512x256_0_0), k0_pay34 (F := Ideal)⟩]) (ST c i arg3 harg3 arg4 harg4 arg5 harg5 arg6 harg6 arg7 harg7 arg8 harg8 arg9 harg9 arg10 harg10 x2 x3 x4 k).2.2)

theorem ST_zero : (ST c i arg3 harg3 arg4 harg4 arg5 harg5 arg6 harg6 arg7 harg7 arg8 harg8 arg9 harg9 arg10 harg10 x2 x3 x4 0) = ((k0_pay35 (F := Ideal), k0_pay36 (F := Ideal), k0_pay35 (F := Ideal), k0_pay36 (F := Ideal)), [], []) := rfl

theorem R9_zero : R9 c i arg3 harg3 arg4 harg4 arg5 harg5 arg6 harg6 arg7 harg7 arg8 harg8 arg9 harg9 arg10 harg10 x2 x3 x4 0 = k0_pay33 := by
  unfold R9
  rw [ST_zero]
  exact View.readAt_writes_full _ _ _ _ _ _
theorem R10_zero : R10 c i arg3 harg3 arg4 harg4 arg5 harg5 arg6 harg6 arg7 harg7 arg8 harg8 arg9 harg9 arg10 harg10 x2 x3 x4 0 = k0_pay34 := by
  unfold R10
  rw [ST_zero]
  exact View.readAt_writes_full _ _ _ _ _ _

theorem ST_succ (k : Fin (k0_t1_loop i).trips) : ST c i arg3 harg3 arg4 harg4 arg5 harg5 arg6 harg6 arg7 harg7 arg8 harg8 arg9 harg9 arg10 harg10 x2 x3 x4 (k.val + 1)
    = ((k0_pay6 (F := Ideal) (k0_pay31 (F := Ideal) x2) (ST c i arg3 harg3 arg4 harg4 arg5 harg5 arg6 harg6 arg7 harg7 arg8 harg8 arg9 harg9 arg10 harg10 x2 x3 x4 k.val).1.1 (View.readAt (Elt Ideal) arg6.view (Rect.unit (s := S1x4096x256) (k0_off1 i k) S1x512x256.size (k0_off1_inb i k)).toLoadRect (harg6.unread x3)),
       k0_pay9 (F := Ideal) (k0_pay31 (F := Ideal) x2) (ST c i arg3 harg3 arg4 harg4 arg5 harg5 arg6 harg6 arg7 harg7 arg8 harg8 arg9 harg9 arg10 harg10 x2 x3 x4 k.val).1.1 (ST c i arg3 harg3 arg4 harg4 arg5 harg5 arg6 harg6 arg7 harg7 arg8 harg8 arg9 harg9 arg10 harg10 x2 x3 x4 k.val).1.2.1 (View.readAt (Elt Ideal) arg6.view (Rect.unit (s := S1x4096x256) (k0_off1 i k) S1x512x256.size (k0_off1_inb i k)).toLoadRect (harg6.unread x3)),
       k0_pay10 (F := Ideal) (k0_pay32 (F := Ideal) x2) (ST c i arg3 harg3 arg4 harg4 arg5 harg5 arg6 harg6 arg7 harg7 arg8 harg8 arg9 harg9 arg10 harg10 x2 x3 x4 k.val).1.2.2.1 (View.readAt (Elt Ideal) arg6.view (Rect.unit (s := S1x4096x256) (k0_off1 i k) S1x512x256.size (k0_off1_inb i k)).toLoadRect (harg6.unread x3)),
       k0_pay13 (F := Ideal) (k0_pay32 (F := Ideal) x2) (ST c i arg3 harg3 arg4 harg4 arg5 harg5 arg6 harg6 arg7 harg7 arg8 harg8 arg9 harg9 arg10 harg10 x2 x3 x4 k.val).1.2.2.1 (ST c i arg3 harg3 arg4 harg4 arg5 harg5 arg6 harg6 arg7 harg7 arg8 harg8 arg9 harg9 arg10 harg10 x2 x3 x4 k.val).1.2.2.2 (View.readAt (Elt Ideal) arg6.view (Rect.unit (s := S1x4096x256) (k0_off1 i k) S1x512x256.size (k0_off1_inb i k)).toLoadRect (harg6.unread x3))),
      [⟨(Rect.unit (s := S512x256) ![0, 0] ![512, 256] inb_S512x256_S512x256_0_0), k0_pay37 (F := Ideal) (k0_pay15 (F := Ideal) (k0_pay31 (F := Ideal) x2) (ST c i arg3 harg3 arg4 harg4 arg5 harg5 arg6 harg6 arg7 harg7 arg8 harg8 arg9 harg9 arg10 harg10 x2 x3 x4 k.val).1.1 (View.readAt (Elt Ideal) arg6.view (Rect.unit (s := S1x4096x256) (k0_off1 i k) S1x512x256.size (k0_off1_inb i k)).toLoadRect (harg6.unread x3))
        (View.readAt (Elt Ideal) arg7.view (Rect.unit (s := S1x4096x256) (k0_off1 i k) S1x512x256.size (k0_off1_inb i k)).toLoadRect (harg7.unread x4)) (R9 c i arg3 harg3 arg4 harg4 arg5 harg5 arg6 harg6 arg7 harg7 arg8 harg8 arg9 harg9 arg10 harg10 x2 x3 x4 k.val))⟩] ++ (ST c i arg3 harg3 arg4 harg4 arg5 harg5 arg6 harg6 arg7 harg7 arg8 harg8 arg9 harg9 arg10 harg10 x2 x3 x4 k.val).2.1,
      [⟨(Rect.unit (s := S512x256) ![0, 0] ![512, 256] inb_S512x256_S512x256_0_0), k0_pay38 (F := Ideal) (k0_pay12 (F := Ideal) (k0_pay32 (F := Ideal) x2) (ST c i arg3 harg3 arg4 harg4 arg5 harg5 arg6 harg6 arg7 harg7 arg8 harg8 arg9 harg9 arg10 harg10 x2 x3 x4 k.val).1.2.2.1 (View.readAt (Elt Ideal) arg6.view (Rect.unit (s := S1x4096x256) (k0_off1 i k) S1x512x256.size (k0_off1_inb i k)).toLoadRect (harg6.unread x3)))
        (k0_pay14 (F := Ideal) (k0_pay32 (F := Ideal) x2) (ST c i arg3 harg3 arg4 harg4 arg5 harg5 arg6 harg6 arg7 harg7 arg8 harg8 arg9 harg9 arg10 harg10 x2 x3 x4 k.val).1.2.2.1 (View.readAt (Elt Ideal) arg6.view (Rect.unit (s := S1x4096x256) (k0_off1 i k) S1x512x256.size (k0_off1_inb i k)).toLoadRect (harg6.unread x3)) (View.readAt (Elt Ideal) arg7.view (Rect.unit (s := S1x4096x256) (k0_off1 i k) S1x512x256.size (k0_off1_inb i k)).toLoadRect (harg7.unread x4)))
        (R10 c i arg3 harg3 arg4 harg4 arg5 harg5 arg6 harg6 arg7 harg7 arg8 harg8 arg9 harg9 arg10 harg10 x2 x3 x4 k.val)⟩] ++ (ST c i arg3 harg3 arg4 harg4 arg5 harg5 arg6 harg6 arg7 harg7 arg8 harg8 arg9 harg9 arg10 harg10 x2 x3 x4 k.val).2.2) := by
  unfold R9 R10 ST
  rw [st_k0_t1_succ]
  dsimp only [tripR_k0_t1, tripL_k0_t1]
  rw [trip_acc, trip_pieces9, trip_pieces10]

theorem R9_succ (k : Fin (k0_t1_loop i).trips) : R9 c i arg3 harg3 arg4 harg4 arg5 harg5 arg6 harg6 arg7 harg7 arg8 harg8 arg9 harg9 arg10 harg10 x2 x3 x4 (k.val + 1)
    = k0_pay37 (F := Ideal) (k0_pay15 (F := Ideal) (k0_pay31 (F := Ideal) x2) (ST c i arg3 harg3 arg4 harg4 arg5 harg5 arg6 harg6 arg7 harg7 arg8 harg8 arg9 harg9 arg10 harg10 x2 x3 x4 k.val).1.1 (View.readAt (Elt Ideal) arg6.view (Rect.unit (s := S1x4096x256) (k0_off1 i k) S1x512x256.size (k0_off1_inb i k)).toLoadRect (harg6.unread x3))
        (View.readAt (Elt Ideal) arg7.view (Rect.unit (s := S1x4096x256) (k0_off1 i k) S1x512x256.size (k0_off1_inb i k)).toLoadRect (harg7.unread x4)) (R9 c i arg3 harg3 arg4 harg4 arg5 harg5 arg6 harg6 arg7 harg7 arg8 harg8 arg9 harg9 arg10 harg10 x2 x3 x4 k.val)) := by
  conv_lhs => unfold R9
  rw [ST_succ]
  exact View.readAt_writes_full _ _ _ _ _ _
theorem R10_succ (k : Fin (k0_t1_loop i).trips) : R10 c i arg3 harg3 arg4 harg4 arg5 harg5 arg6 harg6 arg7 harg7 arg8 harg8 arg9 harg9 arg10 harg10 x2 x3 x4 (k.val + 1)
    = k0_pay38 (F := Ideal) (k0_pay12 (F := Ideal) (k0_pay32 (F := Ideal) x2) (ST c i arg3 harg3 arg4 harg4 arg5 harg5 arg6 harg6 arg7 harg7 arg8 harg8 arg9 harg9 arg10 harg10 x2 x3 x4 k.val).1.2.2.1 (View.readAt (Elt Ideal) arg6.view (Rect.unit (s := S1x4096x256) (k0_off1 i k) S1x512x256.size (k0_off1_inb i k)).toLoadRect (harg6.unread x3)))
        (k0_pay14 (F := Ideal) (k0_pay32 (F := Ideal) x2) (ST c i arg3 harg3 arg4 harg4 arg5 harg5 arg6 harg6 arg7 harg7 arg8 harg8 arg9 harg9 arg10 harg10 x2 x3 x4 k.val).1.2.2.1 (View.readAt (Elt Ideal) arg6.view (Rect.unit (s := S1x4096x256) (k0_off1 i k) S1x512x256.size (k0_off1_inb i k)).toLoadRect (harg6.unread x3)) (View.readAt (Elt Ideal) arg7.view (Rect.unit (s := S1x4096x256) (k0_off1 i k) S1x512x256.size (k0_off1_inb i k)).toLoadRect (harg7.unread x4)))
        (R10 c i arg3 harg3 arg4 harg4 arg5 harg5 arg6 harg6 arg7 harg7 arg8 harg8 arg9 harg9 arg10 harg10 x2 x3 x4 k.val) := by
  conv_lhs => unfold R10
  rw [ST_succ]
  exact View.readAt_writes_full _ _ _ _ _ _

theorem trips_eq : (k0_t1_loop i).trips = (i 2).val := trips1 i

variable (Q : Fin 512 → Fin 256 → ℝ) (Kf V : Fin 4096 → Fin 256 → ℝ)
  (hQ : ∀ r e, x2 (ix3 0 r e) = ((Q r e : ℝ) : EReal)) (hK : ∀ j e, x3 (ix3 0 j e) = ((Kf j e : ℝ) : EReal))
  (hV : ∀ j e, x4 (ix3 0 j e) = ((V j e : ℝ) : EReal))

include hQ hK hV in
/-- Before trip `k` the two carried states are the running softmaxes over the first `k` blocks of keys. -/
theorem loop_run (k : ℕ) (hk : k ≤ (i 2).val) (r : Fin 512) (d : Fin 256) :
    Run (before k) (sc1 (Q r) Kf) (fun j => V j d) ((ST c i arg3 harg3 arg4 harg4 arg5 harg5 arg6 harg6 arg7 harg7 arg8 harg8 arg9 harg9 arg10 harg10 x2 x3 x4 k).1.1 (ix2 r 0)) ((ST c i arg3 harg3 arg4 harg4 arg5 harg5 arg6 harg6 arg7 harg7 arg8 harg8 arg9 harg9 arg10 harg10 x2 x3 x4 k).1.2.1 (ix2 r 0))
        (R9 c i arg3 harg3 arg4 harg4 arg5 harg5 arg6 harg6 arg7 harg7 arg8 harg8 arg9 harg9 arg10 harg10 x2 x3 x4 k (ix2 r d))
      ∧ Run (before k) (sc2 (Q r) Kf) (fun j => V j d) ((ST c i arg3 harg3 arg4 harg4 arg5 harg5 arg6 harg6 arg7 harg7 arg8 harg8 arg9 harg9 arg10 harg10 x2 x3 x4 k).1.2.2.1 (ix2 r 0)) ((ST c i arg3 harg3 arg4 harg4 arg5 harg5 arg6 harg6 arg7 harg7 arg8 harg8 arg9 harg9 arg10 harg10 x2 x3 x4 k).1.2.2.2 (ix2 r 0))
        (R10 c i arg3 harg3 arg4 harg4 arg5 harg5 arg6 harg6 arg7 harg7 arg8 harg8 arg9 harg9 arg10 harg10 x2 x3 x4 k (ix2 r d)) := by
  induction k with
  | zero =>
    have e35 : k0_pay35 (F := Ideal) (ix2 r 0) = ⊥ := by pointwise [k0_pay35]; exact neg_inf
    have e36 : k0_pay36 (F := Ideal) (ix2 r 0) = 0 := by pointwise [k0_pay36]
    have e33 : k0_pay33 (F := Ideal) (ix2 r d) = 0 := by pointwise [k0_pay33]
    have e34 : k0_pay34 (F := Ideal) (ix2 r d) = 0 := by pointwise [k0_pay34]
    rw [R9_zero, R10_zero, ST_zero, before_zero, e33, e34]
    dsimp only
    rw [e35, e36]
    exact ⟨Run.start _ _, Run.start _ _⟩
  | succ k ih =>
    have hi := (i 2).isLt
    have hi' : (i 2).val < 8 := hi
    obtain ⟨h1, h2⟩ := ih (by omega)
    have h8 : k < 8 := by omega
    let kk : Fin (k0_t1_loop i).trips := ⟨k, by rw [trips_eq]; omega⟩
    have hkb : ∀ c e, (View.readAt (Elt Ideal) arg6.view (Rect.unit (s := S1x4096x256) (k0_off1 i kk) S1x512x256.size (k0_off1_inb i kk)).toLoadRect (harg6.unread x3)) (ix3 0 c e)
        = x3 (ix3 0 (key k h8 c) e) := fun c e =>
      (harg6.readAt_unread x3 _ _).trans (ld_rows x3 _ (k0_off1_inb i kk) k h8 (off1_eq i kk) c e)
    have hvb : ∀ c e, (View.readAt (Elt Ideal) arg7.view (Rect.unit (s := S1x4096x256) (k0_off1 i kk) S1x512x256.size (k0_off1_inb i kk)).toLoadRect (harg7.unread x4)) (ix3 0 c e)
        = x4 (ix3 0 (key k h8 c) e) := fun c e =>
      (harg7.readAt_unread x4 _ _).trans (ld_rows x4 _ (k0_off1_inb i kk) k h8 (off1_eq i kk) c e)
    have e9 := R9_succ c i arg3 harg3 arg4 harg4 arg5 harg5 arg6 harg6 arg7 harg7 arg8 harg8 arg9 harg9 arg10 harg10 x2 x3 x4 kk
    have e10 := R10_succ c i arg3 harg3 arg4 harg4 arg5 harg5 arg6 harg6 arg7 harg7 arg8 harg8 arg9 harg9 arg10 harg10 x2 x3 x4 kk
    have es := ST_succ c i arg3 harg3 arg4 harg4 arg5 harg5 arg6 harg6 arg7 harg7 arg8 harg8 arg9 harg9 arg10 harg10 x2 x3 x4 kk
    rw [show k + 1 = kk.val + 1 from rfl, e9, e10, es]
    exact ⟨trip1 h8 h1 (score1 _ _ Q Kf hQ hK _ k h8 hkb r) (fun c => by rw [hvb, hV]),
      trip2 h8 h2 (score2 _ _ Q Kf hQ hK _ k h8 hkb r) (fun c => by rw [hvb, hV])⟩

/-- The weight of the second attention map, from the four parameter vectors. -/
def lamOf (x0 : Vec Ideal S4x128 .f32) : EReal :=
  Ideal.exp (∑ e, x0 (ix2 0 e) * x0 (ix2 1 e)) - Ideal.exp (∑ e, x0 (ix2 2 e) * x0 (ix2 3 e)) + Ideal.ofBits .f32 0x3E4CCCCD#32

section
variable (l1 l2 : FVec Ideal S512x1 .f32) (a1 a2 : FVec Ideal S512x256 .f32) (r : Fin 512) (d : Fin 256)

theorem pay58_at : k0_pay58 (F := Ideal) l1 l2 x0 a1 a2 (ix2 r d)
    = Ideal.div (a1 (ix2 r d)) (l1 (ix2 r 0)) - lamOf x0 * Ideal.div (a2 (ix2 r d)) (l2 (ix2 r 0)) := by
  pointwise [k0_pay58, lamOf]
  try rfl

theorem pay1_at : k0_pay1 (F := Ideal) (k0_pay58 (F := Ideal) l1 l2 x0 a1 a2) (k0_pay59 (F := Ideal) l1 l2 x0 a1 a2) x1 (ix3 0 r d)
    = k0_pay58 (F := Ideal) l1 l2 x0 a1 a2 (ix2 r d)
        * Ideal.rsqrt (Ideal.div (∑ x, k0_pay58 (F := Ideal) l1 l2 x0 a1 a2 (ix2 r x) * k0_pay58 (F := Ideal) l1 l2 x0 a1 a2 (ix2 r x))
            (Ideal.ofBits .f32 0x43800000#32) + Ideal.ofBits .f32 0x3727C5AC#32)
        * x1 (ix2 0 d) * Ideal.ofBits .f32 0x3F4CCCCD#32 := by
  pointwise [k0_pay1, k0_pay59]
  try rfl

end

/-- One row of the difference of the two attention maps applied to the values. -/
def mixed (S : Finset (Fin 4096)) (y1 y2 : Fin 4096 → ℝ) (lam : ℝ) (V : Fin 4096 → Fin 256 → ℝ) (d : Fin 256) : ℝ :=
  mean S y1 (fun j => V j d) - lam * mean S y2 (fun j => V j d)

/-- The row after its normalisation, the gain and the constant factor. -/
def normed (o : Fin 256 → ℝ) (g : Fin 256 → EReal) (d : Fin 256) : EReal :=
  (o d : EReal) * Ideal.rsqrt (Ideal.div (∑ x, (o x : EReal) * (o x : EReal)) (Ideal.ofBits .f32 0x43800000#32) + Ideal.ofBits .f32 0x3727C5AC#32)
    * g d * Ideal.ofBits .f32 0x3F4CCCCD#32

theorem pay1_of (l1 l2 : FVec Ideal S512x1 .f32) (a1 a2 : FVec Ideal S512x256 .f32) (r : Fin 512) (d : Fin 256) (o : Fin 256 → ℝ)
    (ho : ∀ x, k0_pay58 (F := Ideal) l1 l2 x0 a1 a2 (ix2 r x) = (o x : EReal)) :
    k0_pay1 (F := Ideal) (k0_pay58 (F := Ideal) l1 l2 x0 a1 a2) (k0_pay59 (F := Ideal) l1 l2 x0 a1 a2) x1 (ix3 0 r d)
      = normed o (fun d => x1 (ix2 0 d)) d := by
  rw [pay1_at]
  simp only [ho]
  rfl

include hQ hK hV in
/-- The block a grid point writes back, at row `r` and column `d`. -/
theorem out_at (lam : ℝ) (hlam : lamOf x0 = (lam : EReal)) (y1 y2 : Fin 512 → Fin 4096 → ℝ)
    (h1 : ∀ r j, sc1 (Q r) Kf j * Real.log 2 = y1 r j) (h2 : ∀ r j, sc2 (Q r) Kf j * Real.log 2 = y2 r j) (r : Fin 512) (d : Fin 256) :
    out0_A_5 (F := Ideal) c i arg3 harg3 arg4 harg4 arg5 harg5 arg6 harg6 arg7 harg7 arg8 harg8 arg9 harg9 arg10 harg10 x0 x1 x2 x3 x4 (ix3 0 r d)
      = normed (mixed (upto (i 2).val r.val) (y1 r) (y2 r) lam V) (fun d => x1 (ix2 0 d)) d := by
  have h8 : (i 2).val < 8 := (i 2).isLt
  have hkb : ∀ c e, (View.ld x3 (Rect.unit (s := S1x4096x256) (k0_off3 i) S1x512x256.size (k0_off3_inb i))) (ix3 0 c e) = x3 (ix3 0 (key (i 2).val h8 c) e) :=
    fun c e => ld_rows x3 _ (k0_off3_inb i) _ h8 (off3_eq i) c e
  have hvb : ∀ c e, (View.ld x4 (Rect.unit (s := S1x4096x256) (k0_off3 i) S1x512x256.size (k0_off3_inb i))) (ix3 0 c e) = x4 (ix3 0 (key (i 2).val h8 c) e) :=
    fun c e => ld_rows x4 _ (k0_off3_inb i) _ h8 (off3_eq i) c e
  have e9 : arg9.view.readCov ((ST c i arg3 harg3 arg4 harg4 arg5 harg5 arg6 harg6 arg7 harg7 arg8 harg8 arg9 harg9 arg10 harg10 x2 x3 x4 (i 2).val).2.1 ++ [⟨Rect.unit (s := S512x256) ![0, 0] ![512, 256] inb_S512x256_S512x256_0_0, k0_pay33 (F := Ideal)⟩])
      (Rect.unit (s := S512x256) ![0, 0] ![512, 256] inb_S512x256_S512x256_0_0).toLoadRect = R9 c i arg3 harg3 arg4 harg4 arg5 harg5 arg6 harg6 arg7 harg7 arg8 harg8 arg9 harg9 arg10 harg10 x2 x3 x4 (i 2).val := by
    unfold R9
    rw [← View.writes_append]
    rfl
  have e10 : arg10.view.readCov ((ST c i arg3 harg3 arg4 harg4 arg5 harg5 arg6 harg6 arg7 harg7 arg8 harg8 arg9 harg9 arg10 harg10 x2 x3 x4 (i 2).val).2.2 ++ [⟨Rect.unit (s := S512x256) ![0, 0] ![512, 256] inb_S512x256_S512x256_0_0, k0_pay34 (F := Ideal)⟩])
      (Rect.unit (s := S512x256) ![0, 0] ![512, 256] inb_S512x256_S512x256_0_0).toLoadRect = R10 c i arg3 harg3 arg4 harg4 arg5 harg5 arg6 harg6 arg7 harg7 arg8 harg8 arg9 harg9 arg10 harg10 x2 x3 x4 (i 2).val := by
    unfold R10
    rw [← View.writes_append]
    rfl
  frame_out
  simp only [trips2, st_k0_t2.eq_1, List.nil_append, trips1]
  have eST : st_k0_t1 (F := Ideal) Variants.none c none i arg3 harg3 arg4 harg4 arg5 harg5 arg6 harg6 arg7 harg7 arg8 harg8 arg9 harg9 arg10 harg10 x2 (harg6.unread x3) (harg7.unread x4) _ _ _ (i 2).val = ST c i arg3 harg3 arg4 harg4 arg5 harg5 arg6 harg6 arg7 harg7 arg8 harg8 arg9 harg9 arg10 harg10 x2 x3 x4 (i 2).val := rfl
  rw [eST, e9, e10]
  have hl := fun r d => loop_run c i arg3 harg3 arg4 harg4 arg5 harg5 arg6 harg6 arg7 harg7 arg8 harg8 arg9 harg9 arg10 harg10 x2 x3 x4 Q Kf V hQ hK hV (i 2).val le_rfl r d
  have hne : ∀ r : Fin 512, (upto (i 2).val r.val).Nonempty := fun r => ⟨key (i 2).val h8 r, by simp [upto, key]⟩
  have hg : ∀ (l1 l2 : FVec Ideal S512x1 .f32) (a1 a2 : FVec Ideal S512x256 .f32),
      (∀ r d, Ideal.div (a1 (ix2 r d)) (l1 (ix2 r 0)) = ((mean (upto (i 2).val r.val) (y1 r) (fun j => V j d) : ℝ) : EReal)) →
      (∀ r d, Ideal.div (a2 (ix2 r d)) (l2 (ix2 r 0)) = ((mean (upto (i 2).val r.val) (y2 r) (fun j => V j d) : ℝ) : EReal)) →
      ∀ r d, k0_pay58 (F := Ideal) l1 l2 x0 a1 a2 (ix2 r d) = ((mixed (upto (i 2).val r.val) (y1 r) (y2 r) lam V d : ℝ) : EReal) := by
    intro l1 l2 a1 a2 g1 g2 r d
    rw [pay58_at, hlam, g1, g2, ← EReal.coe_mul, ← EReal.coe_sub]
    rfl
  have g1 := fun (r : Fin 512) (d : Fin 256) => (last1 (vb := View.ld x4 (Rect.unit (s := S1x4096x256) (k0_off3 i) S1x512x256.size (k0_off3_inb i))) h8 (hl r d).1 (score1 _ _ Q Kf hQ hK _ _ h8 hkb r) (fun c => (hvb c d).trans (hV _ d))).finish (hne r) (y1 r) (fun j _ => h1 r j)
  have g2 := fun (r : Fin 512) (d : Fin 256) => (last2 (vb := View.ld x4 (Rect.unit (s := S1x4096x256) (k0_off3 i) S1x512x256.size (k0_off3_inb i))) h8 (hl r d).2 (score2 _ _ Q Kf hQ hK _ _ h8 hkb r) (fun c => (hvb c d).trans (hV _ d))).finish (hne r) (y2 r) (fun j _ => h2 r j)
  exact pay1_of x0 x1 _ _ _ _ r d _ (hg _ _ _ _ g1 g2 r)

end Cert.KernelIdeal.Val

end
-- ==== Proof.Common.lean ====
module

public import proofs.«01_k».proof.Proof.Block

/-! The attention's result at one place, as a function of the entries of the arguments. -/

@[expose] public section

noncomputable section

namespace Cert.Attn

open Idealize.ShloMosaic Cert.Soft Cert.KernelIdeal.Val

/-- The weight of the second softmax: the difference of two exponentials of inner products, plus a constant. -/
def lamAt (a0 a1 a2 a3 : Fin 128 → EReal) : EReal :=
  Ideal.exp (∑ e, a0 e * a1 e) - Ideal.exp (∑ e, a2 e * a3 e) + Ideal.ofBits .f32 0x3E4CCCCD#32

/-- The scaled score of key `j` for a query row, over the 128 components from `o` on. -/
def score (o : ℕ) (ho : o + 128 ≤ 256) (q k : Fin 256 → EReal) : ℝ :=
  (∑ e : Fin 128, (q ⟨o + e.val, by omega⟩).toReal * (k ⟨o + e.val, by omega⟩).toReal) * (Real.sqrt 128)⁻¹

/-- The keys that position `s` may see. -/
def past (s : Fin 4096) : Finset (Fin 4096) := Finset.univ.filter fun j => j.val ≤ s.val

/-- Entry `d` of the attention's row for one query position `s`, of one head. -/
def rowAt (lam : EReal) (g : Fin 256 → EReal) (q : Fin 256 → EReal) (k v : Fin 4096 → Fin 256 → EReal) (s : Fin 4096) (d : Fin 256) : EReal :=
  normed (mixed (past s) (fun j => score 0 (by omega) q (k j)) (fun j => score 128 (by omega) q (k j)) lam.toReal
    (fun j e => (v j e).toReal)) g d

/-- The base-2 score of the kernel, times `log 2`, is the scaled score. -/
theorem sc1_score (q : Fin 256 → EReal) (k : Fin 4096 → Fin 256 → EReal) (j : Fin 4096) :
    sc1 (fun e => (q e).toReal) (fun j e => (k j e).toReal) j * Real.log 2 = score 0 (by omega) q (k j) := by
  have h2 : Real.log 2 ≠ 0 := (Real.log_pos (by norm_num)).ne'
  unfold sc1 score
  rw [Finset.sum_mul, Finset.sum_mul]
  refine Finset.sum_congr rfl fun e _ => ?_
  simp only [Nat.zero_add]
  field_simp

theorem sc2_score (q : Fin 256 → EReal) (k : Fin 4096 → Fin 256 → EReal) (j : Fin 4096) :
    sc2 (fun e => (q e).toReal) (fun j e => (k j e).toReal) j * Real.log 2 = score 128 (by omega) q (k j) := by
  have h2 : Real.log 2 ≠ 0 := (Real.log_pos (by norm_num)).ne'
  unfold sc2 score
  rw [Finset.sum_mul, Finset.sum_mul]
  refine Finset.sum_congr rfl fun e _ => ?_
  field_simp

theorem real_sum {ι : Type} [Fintype ι] (a b : ι → EReal) (ha : ∀ e, a e = ((a e).toReal : EReal)) (hb : ∀ e, b e = ((b e).toReal : EReal)) :
    ∑ e, a e * b e = ((∑ e, (a e).toReal * (b e).toReal : ℝ) : EReal) := by
  rw [← coe_sum]
  refine Finset.sum_congr rfl fun e _ => ?_
  rw [EReal.coe_mul, ← ha, ← hb]

/-- The weight is a real number where its vectors are. -/
theorem lamAt_real (a0 a1 a2 a3 : Fin 128 → EReal) (h0 : ∀ e, a0 e = ((a0 e).toReal : EReal)) (h1 : ∀ e, a1 e = ((a1 e).toReal : EReal))
    (h2 : ∀ e, a2 e = ((a2 e).toReal : EReal)) (h3 : ∀ e, a3 e = ((a3 e).toReal : EReal)) :
    lamAt a0 a1 a2 a3 = ((lamAt a0 a1 a2 a3).toReal : EReal) := by
  have hc : ∃ w : ℝ, Ideal.ofBits .f32 0x3E4CCCCD#32 = (w : EReal) := by
    refine ⟨13421773 / 67108864, ?_⟩
    simp [Ideal.ofBits, Ideal.ieee, -EReal.coe_mul]
    norm_num
  obtain ⟨w, hw⟩ := hc
  have : ∃ x : ℝ, lamAt a0 a1 a2 a3 = (x : EReal) := by
    unfold lamAt
    rw [real_sum a0 a1 h0 h1, real_sum a2 a3 h2 h3, Ideal.exp_coe, Ideal.exp_coe, hw, ← EReal.coe_sub, ← EReal.coe_add]
    exact ⟨_, rfl⟩
  obtain ⟨x, hx⟩ := this
  rw [hx, EReal.toReal_coe]

/-- An array of extended reals all of whose entries are real numbers. -/
def AllReal {s : Shape} (x : s.Idx → EReal) : Prop := ∀ i, x i = ((x i).toReal : EReal)

open Cert.KernelIdeal in
/-- The whole result, from the arguments: position `s` of batch `b`, component `d` of head `h` at column `256 h + d`. -/
def attn (a0 a1 a2 a3 : Vec Ideal S1x128 .f32) (a4 : Vec Ideal S1x256 .f32) (a5 a6 a7 : Vec Ideal S2x4096x8x256 .f32) : Vec Ideal S2x4096x2048 .bf16 :=
  fun i => rowAt (lamAt (fun e => a0 (ix2 0 e)) (fun e => a1 (ix2 0 e)) (fun e => a2 (ix2 0 e)) (fun e => a3 (ix2 0 e)))
    (fun d => a4 (ix2 0 d)) (fun e => a5 (ix4 (i 0 : Fin 2) (i 1 : Fin 4096) (⟨(i 2 : Fin 2048).val / 256, by have h : (i 2 : Fin 2048).val < 2048 := (i 2).isLt; omega⟩ : Fin 8) e))
    (fun j e => a6 (ix4 (i 0 : Fin 2) j (⟨(i 2 : Fin 2048).val / 256, by have h : (i 2 : Fin 2048).val < 2048 := (i 2).isLt; omega⟩ : Fin 8) e))
    (fun j e => a7 (ix4 (i 0 : Fin 2) j (⟨(i 2 : Fin 2048).val / 256, by have h : (i 2 : Fin 2048).val < 2048 := (i 2).isLt; omega⟩ : Fin 8) e))
    (i 1 : Fin 4096) (⟨(i 2 : Fin 2048).val % 256, by omega⟩ : Fin 256)

end Cert.Attn
end
-- ==== Proof.Reads.lean ====
module

public import proofs.«01_k».proof.Proof.Block
public import Idealize.ShloMosaic.Lib.Claim

@[expose] public section

set_option maxRecDepth 16384

noncomputable section

namespace Cert.KernelIdeal.Val

open Cert.KernelIdeal Cert.KernelIdeal.Gen Idealize.ShloMosaic Idealize.ShloMosaic.TcCoe Idealize.SL.Sem
open Cert.Soft
variable (m : (ℓ : Loc nD τ sig) → Buf (Elt Ideal) ℓ)

theorem idx : ∀ t : Fin cfg0.N, win0_0.index t = ![0, 0] ∧ win0_1.index t = ![0, 0]
    ∧ win0_2.index t = ![t.val / 64, t.val % 8, t.val / 8 % 8] ∧ win0_3.index t = ![t.val / 64, 0, t.val / 8 % 8]
    ∧ win0_4.index t = ![t.val / 64, 0, t.val / 8 % 8] ∧ win0_5.index t = ![t.val / 64, t.val % 8, t.val / 8 % 8]
    ∧ (grid0.coords t 2).val = t.val % 8 :=
  (by decide +kernel : ∀ t : Fin grid0.N, _)

/-! What the blocks at a grid point hold, entry by entry, of the arguments. -/

theorem l_blk (c : Dev nD) (t : Fin cfg0.N) (a : Fin 4) (e : Fin 128) :
    (iblk m c 0 t : Vec Ideal S4x128 .f32) (ix2 a e) = (V m c main_v8 : Vec Ideal S4x128 .f32) (ix2 a e) := by
  blk_ext [iblk, idx t]
theorem l0_at (c : Dev nD) (t : Fin cfg0.N) (e : Fin 128) :
    (iblk m c 0 t : Vec Ideal S4x128 .f32) (ix2 0 e) = (m ((c : Thread nD τ).loc main_arg0) : Vec Ideal S1x128 .f32) (ix2 0 e) := by
  rw [l_blk]
  unfold V
  after_results
  dsimp only [Matrix.cons_val_zero, Matrix.cons_val_one, Matrix.cons_val, Fin.isValue]
  after_results_loop
  repeat rw [StableHlo.launchContents_devRef]
  pointwise

theorem l1_at (c : Dev nD) (t : Fin cfg0.N) (e : Fin 128) :
    (iblk m c 0 t : Vec Ideal S4x128 .f32) (ix2 1 e) = (m ((c : Thread nD τ).loc main_arg1) : Vec Ideal S1x128 .f32) (ix2 0 e) := by
  rw [l_blk]
  unfold V
  after_results
  dsimp only [Matrix.cons_val_zero, Matrix.cons_val_one, Matrix.cons_val, Fin.isValue]
  after_results_loop
  repeat rw [StableHlo.launchContents_devRef]
  pointwise

theorem l2_at (c : Dev nD) (t : Fin cfg0.N) (e : Fin 128) :
    (iblk m c 0 t : Vec Ideal S4x128 .f32) (ix2 2 e) = (m ((c : Thread nD τ).loc main_arg2) : Vec Ideal S1x128 .f32) (ix2 0 e) := by
  rw [l_blk]
  unfold V
  after_results
  dsimp only [Matrix.cons_val_zero, Matrix.cons_val_one, Matrix.cons_val, Fin.isValue]
  after_results_loop
  repeat rw [StableHlo.launchContents_devRef]
  pointwise

theorem l3_at (c : Dev nD) (t : Fin cfg0.N) (e : Fin 128) :
    (iblk m c 0 t : Vec Ideal S4x128 .f32) (ix2 3 e) = (m ((c : Thread nD τ).loc main_arg3) : Vec Ideal S1x128 .f32) (ix2 0 e) := by
  rw [l_blk]
  unfold V
  after_results
  dsimp only [Matrix.cons_val_zero, Matrix.cons_val_one, Matrix.cons_val, Fin.isValue]
  after_results_loop
  repeat rw [StableHlo.launchContents_devRef]
  pointwise

theorem q_at (c : Dev nD) (t : Fin cfg0.N) (b : Fin 2) (h qi : Fin 8) (hb : b.val = t.val / 64) (hh : h.val = t.val / 8 % 8) (hq : qi.val = t.val % 8)
    (r : Fin 512) (e : Fin 256) :
    (iblk m c 2 t : Vec Ideal S1x512x256 .f32) (ix3 0 r e) = (m ((c : Thread nD τ).loc main_arg5) : Vec Ideal S2x4096x8x256 .f32) (ix4 b ⟨512 * qi.val + r.val, by omega⟩ h e) := by
  blk_point [iblk, V, idx t]
theorem k_at (c : Dev nD) (t : Fin cfg0.N) (b : Fin 2) (h : Fin 8) (hb : b.val = t.val / 64) (hh : h.val = t.val / 8 % 8)
    (r : Fin 4096) (e : Fin 256) :
    (iblk m c 3 t : Vec Ideal S1x4096x256 .bf16) (ix3 0 r e) = (m ((c : Thread nD τ).loc main_arg6) : Vec Ideal S2x4096x8x256 .f32) (ix4 b r h e) := by
  blk_point [iblk, V, idx t]
theorem v_at (c : Dev nD) (t : Fin cfg0.N) (b : Fin 2) (h : Fin 8) (hb : b.val = t.val / 64) (hh : h.val = t.val / 8 % 8)
    (r : Fin 4096) (e : Fin 256) :
    (iblk m c 4 t : Vec Ideal S1x4096x256 .bf16) (ix3 0 r e) = (m ((c : Thread nD τ).loc main_arg7) : Vec Ideal S2x4096x8x256 .f32) (ix4 b r h e) := by
  blk_point [iblk, V, idx t]
theorem g_at (c : Dev nD) (t : Fin cfg0.N) (e : Fin 256) :
    (iblk m c 1 t : Vec Ideal S1x256 .f32) (ix2 0 e) = (m ((c : Thread nD τ).loc main_arg4) : Vec Ideal S1x256 .f32) (ix2 0 e) := by
  blk_point [iblk, V, idx t]

end Cert.KernelIdeal.Val
end
-- ==== Proof.Kern.lean ====
module

public import proofs.«01_k».proof.Proof.Common
public import proofs.«01_k».proof.Proof.Reads
public import proofs.«01_k».proof.Proof.Gen.KernelIdeal.Value

/-! The array that the call returns, entry by entry. -/

@[expose] public section

set_option maxRecDepth 16384

noncomputable section

namespace Cert.KernelIdeal.Val

open Cert.KernelIdeal Cert.KernelIdeal.Gen Idealize.ShloMosaic Idealize.ShloMosaic.TcCoe Idealize.SL.Sem
open Cert.Soft Cert.Attn
variable (m : (ℓ : Loc nD τ sig) → Buf (Elt Ideal) ℓ)

/-- The result as a function of the memory at the start. -/
def arr (c : Dev nD) : Vec Ideal S2x4096x2048 .bf16 :=
  attn (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- What the grid point `t` leaves in its output block. -/
theorem block_at (c : Dev nD)
    (h0 : AllReal (s := S1x128) (m ((c : Thread nD τ).loc main_arg0))) (h1 : AllReal (s := S1x128) (m ((c : Thread nD τ).loc main_arg1)))
    (h2 : AllReal (s := S1x128) (m ((c : Thread nD τ).loc main_arg2))) (h3 : AllReal (s := S1x128) (m ((c : Thread nD τ).loc main_arg3)))
    (h5 : AllReal (s := S2x4096x8x256) (m ((c : Thread nD τ).loc main_arg5))) (h6 : AllReal (s := S2x4096x8x256) (m ((c : Thread nD τ).loc main_arg6)))
    (h7 : AllReal (s := S2x4096x8x256) (m ((c : Thread nD τ).loc main_arg7)))
    (t : Fin cfg0.N) (b : Fin 2) (h qi : Fin 8) (hb : b.val = t.val / 64) (hh : h.val = t.val / 8 % 8) (hq : qi.val = t.val % 8)
    (r : Fin 512) (d : Fin 256) :
    outsAt0 m c t (ix3 0 r d) = arr m c (ix3 b ⟨512 * qi.val + r.val, by omega⟩ ⟨h.val * 256 + d.val, by omega⟩) := by
  have hg : (grid0.coords t 2).val = qi.val := by rw [(idx t).2.2.2.2.2.2, hq]
  have e1 : (⟨(h.val * 256 + d.val) / 256, by omega⟩ : Fin 8) = h := Fin.ext (by show (h.val * 256 + d.val) / 256 = h.val; omega)
  have e2 : (⟨(h.val * 256 + d.val) % 256, by omega⟩ : Fin 256) = d := Fin.ext (by show (h.val * 256 + d.val) % 256 = d.val; omega)
  have hl : lamOf (iblk m c 0 t) = lamAt (fun e => (m ((c : Thread nD τ).loc main_arg0) : Vec Ideal S1x128 .f32) (ix2 0 e)) (fun e => (m ((c : Thread nD τ).loc main_arg1) : Vec Ideal S1x128 .f32) (ix2 0 e))
      (fun e => (m ((c : Thread nD τ).loc main_arg2) : Vec Ideal S1x128 .f32) (ix2 0 e)) (fun e => (m ((c : Thread nD τ).loc main_arg3) : Vec Ideal S1x128 .f32) (ix2 0 e)) := by
    unfold lamOf lamAt
    simp only [l0_at, l1_at, l2_at, l3_at]
  have hlr := lamAt_real (fun e => (m ((c : Thread nD τ).loc main_arg0) : Vec Ideal S1x128 .f32) (ix2 0 e)) (fun e => (m ((c : Thread nD τ).loc main_arg1) : Vec Ideal S1x128 .f32) (ix2 0 e))
      (fun e => (m ((c : Thread nD τ).loc main_arg2) : Vec Ideal S1x128 .f32) (ix2 0 e)) (fun e => (m ((c : Thread nD τ).loc main_arg3) : Vec Ideal S1x128 .f32) (ix2 0 e))
      (fun e => h0 _) (fun e => h1 _) (fun e => h2 _) (fun e => h3 _)
  have key := out_at c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
    (iblk m c 0 t) (iblk m c 1 t) (iblk m c 2 t) (iblk m c 3 t) (iblk m c 4 t)
    (fun r e => ((m ((c : Thread nD τ).loc main_arg5) : Vec Ideal S2x4096x8x256 .f32) (ix4 b ⟨512 * qi.val + r.val, by omega⟩ h e)).toReal)
    (fun j e => ((m ((c : Thread nD τ).loc main_arg6) : Vec Ideal S2x4096x8x256 .f32) (ix4 b j h e)).toReal)
    (fun j e => ((m ((c : Thread nD τ).loc main_arg7) : Vec Ideal S2x4096x8x256 .f32) (ix4 b j h e)).toReal)
    (fun r e => (q_at m c t b h qi hb hh hq r e).trans (h5 _)) (fun j e => (k_at m c t b h hb hh j e).trans (h6 _)) (fun j e => (v_at m c t b h hb hh j e).trans (h7 _))
    _ (hl.trans hlr) _ _ (fun r j => sc1_score _ _ j) (fun r j => sc2_score _ _ j) r d
  unfold outsAt0
  refine key.trans ?_
  rw [hg]
  simp only [g_at]
  unfold arr attn
  unfold rowAt
  simp only [ix3_0, ix3_1, ix3_2]
  rw [e1, e2]
  rfl

end Cert.KernelIdeal.Val
end
-- ==== Proof.Final.lean ====
module

public import proofs.«01_k».proof.Proof.Kern
public import proofs.«01_k».proof.Proof.Gen.KernelIdeal.Value
public import Idealize.ShloMosaic.Lib.Pipeline.ValueKit

/-! The array that the call returns, as a whole. -/

@[expose] public section

set_option maxRecDepth 16384

noncomputable section

namespace Cert.KernelIdeal.Val

open Cert.KernelIdeal Cert.KernelIdeal.Gen Idealize.ShloMosaic Idealize.ShloMosaic.TcCoe Idealize.SL.Sem
open Cert.Soft Cert.Attn
variable (m : (ℓ : Loc nD τ sig) → Buf (Elt Ideal) ℓ)

theorem block_pt (c : Dev nD)
    (h0 : AllReal (s := S1x128) (m ((c : Thread nD τ).loc main_arg0))) (h1 : AllReal (s := S1x128) (m ((c : Thread nD τ).loc main_arg1)))
    (h2 : AllReal (s := S1x128) (m ((c : Thread nD τ).loc main_arg2))) (h3 : AllReal (s := S1x128) (m ((c : Thread nD τ).loc main_arg3)))
    (h5 : AllReal (s := S2x4096x8x256) (m ((c : Thread nD τ).loc main_arg5))) (h6 : AllReal (s := S2x4096x8x256) (m ((c : Thread nD τ).loc main_arg6)))
    (h7 : AllReal (s := S2x4096x8x256) (m ((c : Thread nD τ).loc main_arg7)))
    (t : Fin cfg0.N) (y : S1x512x256.Idx) (b : Fin 2) (s : Fin 4096) (n : Fin 2048) (hb : b.val = t.val / 64) (hs : s.val = 512 * (t.val % 8) + (y 1).val)
    (hn : n.val = t.val / 8 % 8 * 256 + (y 2).val) :
    outsAt0 m c t y = arr m c (ix3 b s n) := by
  have ht : t.val < 128 := t.isLt
  idx_vars y
  have e : y0 = 0 := Subsingleton.elim _ _
  subst e
  have es : s = ⟨512 * (⟨t.val % 8, by omega⟩ : Fin 8).val + y1.val, by show 512 * (t.val % 8) + y1.val < 4096; have := y1.isLt; omega⟩ := Fin.ext hs
  have en : n = ⟨(⟨t.val / 8 % 8, by omega⟩ : Fin 8).val * 256 + y2.val, by show t.val / 8 % 8 * 256 + y2.val < 2048; have := y2.isLt; omega⟩ := Fin.ext hn
  rw [es, en]
  exact block_at m c h0 h1 h2 h3 h5 h6 h7 t b ⟨t.val / 8 % 8, by omega⟩ ⟨t.val % 8, by omega⟩ hb rfl rfl y1 y2

/-- The whole array after the run. -/
theorem final (c : Dev nD)
    (h0 : AllReal (s := S1x128) (m ((c : Thread nD τ).loc main_arg0))) (h1 : AllReal (s := S1x128) (m ((c : Thread nD τ).loc main_arg1)))
    (h2 : AllReal (s := S1x128) (m ((c : Thread nD τ).loc main_arg2))) (h3 : AllReal (s := S1x128) (m ((c : Thread nD τ).loc main_arg3)))
    (h5 : AllReal (s := S2x4096x8x256) (m ((c : Thread nD τ).loc main_arg5))) (h6 : AllReal (s := S2x4096x8x256) (m ((c : Thread nD τ).loc main_arg6)))
    (h7 : AllReal (s := S2x4096x8x256) (m ((c : Thread nD τ).loc main_arg7))) :
    (dats m 0 c).arrAt 5 cfg0.N = arr m c := by
  refine (dats m 0 c).arrAt_eq_of_covers 5 _ (by decide +kernel) fun t _ y => ?_
  blk_simp
  rw [after0_5]
  have ht : t.val < 128 := t.isLt
  have hw := (idx t).2.2.2.2.2.1
  have e1 : ((y : S1x512x256.Idx) 1).val < 512 := ((y : S1x512x256.Idx) 1).isLt
  have e2 : ((y : S1x512x256.Idx) 2).val < 256 := ((y : S1x512x256.Idx) 2).isLt
  refine (block_pt m c h0 h1 h2 h3 h5 h6 h7 t y ⟨t.val / 64, by omega⟩ ⟨512 * (t.val % 8) + ((y : S1x512x256.Idx) 1).val, by omega⟩
    ⟨t.val / 8 % 8 * 256 + ((y : S1x512x256.Idx) 2).val, by omega⟩ rfl rfl rfl).trans ?_
  blk_ext [idx t]

end Cert.KernelIdeal.Val
end
-- ==== Proof.RefScore.lean ====
module

public import proofs.«01_k».proof.Proof.Common
public import proofs.«01_k».proof.Proof.Gen.ReferenceIdeal.Read
public import Idealize.ShloMosaic.Lib.Pointwise

/-! The reference's result, entry by entry. -/

@[expose] public section

set_option maxRecDepth 16384

noncomputable section

namespace Cert.ReferenceIdeal.Val

open Cert.ReferenceIdeal Cert.ReferenceIdeal.Gen Cert.ReferenceIdeal.Read Idealize.ShloMosaic Idealize.ShloMosaic.TcCoe Idealize.SL.Sem
open Cert.Soft Cert.Attn
open Cert.KernelIdeal.Val (normed mixed)

variable (x0 x1 x2 x3 : Vec Ideal S1x128 .f32) (x4 : Vec Ideal S1x256 .f32) (x5 x6 x7 : Vec Ideal S2x4096x8x256 .f32)

theorem lam_at (i : S_.Idx) : val_main_v11 (F := Ideal) x0 x1 x2 x3 i
    = lamAt (fun e => x0 (ix2 0 e)) (fun e => x1 (ix2 0 e)) (fun e => x2 (ix2 0 e)) (fun e => x3 (ix2 0 e)) := by
  unfold lamAt
  pointwise [val_main_v11, val_main_v10, val_main_v9, val_main_v8, val_main_v7, val_main_v6, val_main_v5, val_main_v4, val_main_v3, val_main_v2, val_main_v1, val_main_v0, val_main_cst, val_main_cst_0, val_main_cst_1]

theorem sle_nat (a b : ℕ) (ha : a < 4096) (hb : b < 4096) :
    IntOp.cmpi CmpIPredicate.sle (BitVec.ofNat 32 a) (BitVec.ofNat 32 b) = BitVec.ofBool (decide (a ≤ b)) := by
  show BitVec.ofBool ((BitVec.ofNat 32 a).sle (BitVec.ofNat 32 b)) = _
  congr 1
  rw [BitVec.sle_eq_decide]
  congr 1
  rw [BitVec.toInt_eq_toNat_of_lt (by simp; omega), BitVec.toInt_eq_toNat_of_lt (by simp; omega)]
  simp [Nat.mod_eq_of_lt (show a < 4294967296 by omega), Nat.mod_eq_of_lt (show b < 4294967296 by omega)]

/-- The mask keeps the keys up to the query's position. -/
theorem mask_at (i j : Fin 4096) : val_main_v17 (F := Ideal) (ix2 i j) = if j ∈ past i then 1#1 else 0#1 := by
  pointwise [val_main_v17, val_main_v16, val_main_v15, val_main_v14, val_main_v13, val_main_v12]
  rw [sle_nat _ _ j.isLt i.isLt]
  have hm : (j ∈ past i) = (j.val ≤ i.val) := by
    unfold past
    rw [Finset.mem_filter]
    simp only [Finset.mem_univ, true_and]
  simp only [hm]
  by_cases h : j.val ≤ i.val
  · rw [if_pos h, decide_eq_true h]; rfl
  · rw [if_neg h, decide_eq_false h]; rfl

theorem root_eq : Ideal.sqrt (Ideal.ofBits FTy.f32 1124073472#32) = ((Real.sqrt 128 : ℝ) : EReal) := by
  have e : Ideal.ofBits FTy.f32 1124073472#32 = ((128 : ℝ) : EReal) := by
    simp [Ideal.ofBits, Ideal.ieee, -EReal.coe_mul]
    norm_num
  rw [e]
  show (if (128 : ℝ) < 0 then (⊥ : EReal) else ((Real.sqrt 128 : ℝ) : EReal)) = _
  rw [if_neg (by norm_num)]

theorem ninf_eq : Ideal.ofBits FTy.f32 0xFF800000#32 = ⊥ := by simp [Ideal.ofBits, Ideal.ieee]

theorem div_root (x : EReal) : Ideal.div x ((Real.sqrt 128 : ℝ) : EReal) = x * (((Real.sqrt 128)⁻¹ : ℝ) : EReal) := by
  rw [Ideal.div_coe (by positivity), one_div]

section
include x5 x6
variable (h5 : AllReal (s := S2x4096x8x256) x5) (h6 : AllReal (s := S2x4096x8x256) x6)
include h5 h6

/-- The masked score of the first component. -/
theorem score1_at (b : Fin 2) (h : Fin 8) (i j : Fin 4096) : val_main_v24 (F := Ideal) x5 x6 (ix4 b h i j)
    = if j ∈ past i then ((score 0 (by omega) (fun e => x5 (ix4 b i h e)) (fun e => x6 (ix4 b j h e)) : ℝ) : EReal) else ⊥ := by
  have e23 : val_main_v23 (F := Ideal) x5 x6 (ix4 b h i j) = ((score 0 (by omega) (fun e => x5 (ix4 b i h e)) (fun e => x6 (ix4 b j h e)) : ℝ) : EReal) := by
    pointwise [val_main_v23, val_main_v22, val_main_v21, val_main_v20, val_main_v19, val_main_v18, val_main_cst_2]
    rw [root_eq, div_root, real_sum _ _ (fun e => h5 _) (fun e => h6 _), ← EReal.coe_mul]
    unfold score
    simp only [Nat.zero_add]
  have e0 : val_main_call0_v1 (F := Ideal) (ix4 b h i j) = if j ∈ past i then 1#1 else 0#1 := by
    pointwise [val_main_call0_v1]
    exact mask_at i j
  have e1 : val_main_call0_v2 (F := Ideal) (ix4 b h i j) = ⊥ := by
    pointwise [val_main_call0_v2, val_main_call0_v0, val_main_cst_3]
    exact ninf_eq
  rw [val_main_v24_apply, e0, e1, e23]
  by_cases hm : j ∈ past i <;> simp [hm, Scalar.select]

theorem score2_at (b : Fin 2) (h : Fin 8) (i j : Fin 4096) : val_main_v42 (F := Ideal) x5 x6 (ix4 b h i j)
    = if j ∈ past i then ((score 128 (by omega) (fun e => x5 (ix4 b i h e)) (fun e => x6 (ix4 b j h e)) : ℝ) : EReal) else ⊥ := by
  have e23 : val_main_v41 (F := Ideal) x5 x6 (ix4 b h i j) = ((score 128 (by omega) (fun e => x5 (ix4 b i h e)) (fun e => x6 (ix4 b j h e)) : ℝ) : EReal) := by
    pointwise [val_main_v41, val_main_v40, val_main_v39, val_main_v38, val_main_v37, val_main_v36, val_main_cst_7]
    rw [root_eq, div_root, real_sum _ _ (fun e => h5 _) (fun e => h6 _), ← EReal.coe_mul]
    rfl
  have e0 : val_main_call1_v1 (F := Ideal) (ix4 b h i j) = if j ∈ past i then 1#1 else 0#1 := by
    pointwise [val_main_call1_v1]
    exact mask_at i j
  have e1 : val_main_call1_v2 (F := Ideal) (ix4 b h i j) = ⊥ := by
    pointwise [val_main_call1_v2, val_main_call1_v0, val_main_cst_8]
    exact ninf_eq
  rw [val_main_v42_apply, e0, e1, e23]
  by_cases hm : j ∈ past i <;> simp [hm, Scalar.select]
end

end Cert.ReferenceIdeal.Val
end
-- ==== Proof.Ref.lean ====
module

public import proofs.«01_k».proof.Proof.RefScore
public import proofs.«01_k».proof.Proof.Gen.ReferenceIdeal.Read
public import Idealize.ShloMosaic.Lib.Pointwise

/-! The reference's result, entry by entry. -/

@[expose] public section

set_option maxRecDepth 16384

noncomputable section

namespace Cert.ReferenceIdeal.Val

open Cert.ReferenceIdeal Cert.ReferenceIdeal.Gen Cert.ReferenceIdeal.Read Idealize.ShloMosaic Idealize.ShloMosaic.TcCoe Idealize.SL.Sem
open Cert.Soft Cert.Attn
open Cert.KernelIdeal.Val (normed mixed)

variable (x0 x1 x2 x3 : Vec Ideal S1x128 .f32) (x4 : Vec Ideal S1x256 .f32) (x5 x6 x7 : Vec Ideal S2x4096x8x256 .f32)

theorem top_at (y : FVec Ideal S2x8x4096x4096 .f32) (b : Fin 2) (h : Fin 8) (i : Fin 4096) :
    Host.reduce FloatOps.maximumf y (constant S_ .f32 0xFF800000#32) reducesTo_S2x8x4096x4096_S2x8x4096_d3 h_S_ (ix3 b h i)
      = Finset.univ.fold max ⊥ fun j => y (ix4 b h i j) := by
  pointwise []
  rw [ninf_eq]

section
variable (y e : FVec Ideal S2x8x4096x4096 .f32) (b : Fin 2) (h : Fin 8) (i j : Fin 4096)

theorem max_row (z : Fin 4096 → EReal) (hz : ∀ j, y (ix4 b h i j) = z j) :
    Finset.univ.fold max ⊥ (fun j => y (ix4 b h i j)) = Finset.univ.fold max ⊥ z := by
  congr 1
  exact funext hz
end

section
variable (h5 : AllReal (s := S2x4096x8x256) x5) (h6 : AllReal (s := S2x4096x8x256) x6)

/-- The probabilities of a row: exponentials of the scores over their sum, and zero for the keys that are masked. -/
def prob (S : Finset (Fin 4096)) (y : Fin 4096 → ℝ) (j : Fin 4096) : ℝ := (if j ∈ S then Real.exp (y j) else 0) / ∑ j ∈ S, Real.exp (y j)

theorem past_nonempty (i : Fin 4096) : (past i).Nonempty := ⟨i, by unfold past; rw [Finset.mem_filter]; exact ⟨Finset.mem_univ _, le_rfl⟩⟩

theorem v27_at (b : Fin 2) (h : Fin 8) (i : Fin 4096) : val_main_v27 (F := Ideal) x5 x6 (ix3 b h i)
    = Finset.univ.fold max ⊥ fun j => val_main_v24 (F := Ideal) x5 x6 (ix4 b h i j) := by
  rw [val_main_v27_apply]
  unfold val_main_v25
  generalize val_main_v24 (F := Ideal) x5 x6 = y
  have e := top_at y b h i
  have e2 : val_main_v26 (F := Ideal) (ix3 b h i) = ⊥ := by
    pointwise [val_main_v26, val_main_cst_5]
    exact ninf_eq
  rw [e2]
  refine (congrArg _ e).trans ?_
  exact max_eq_right bot_le

theorem v45_at (b : Fin 2) (h : Fin 8) (i : Fin 4096) : val_main_v45 (F := Ideal) x5 x6 (ix3 b h i)
    = Finset.univ.fold max ⊥ fun j => val_main_v42 (F := Ideal) x5 x6 (ix4 b h i j) := by
  rw [val_main_v45_apply]
  unfold val_main_v43
  generalize val_main_v42 (F := Ideal) x5 x6 = y
  have e := top_at y b h i
  have e2 : val_main_v44 (F := Ideal) (ix3 b h i) = ⊥ := by
    pointwise [val_main_v44, val_main_cst_10]
    exact ninf_eq
  rw [e2]
  refine (congrArg _ e).trans ?_
  exact max_eq_right bot_le

theorem v31_at (b : Fin 2) (h : Fin 8) (i j : Fin 4096) : val_main_v31 (F := Ideal) x5 x6 (ix4 b h i j)
    = Ideal.exp (val_main_v24 (F := Ideal) x5 x6 (ix4 b h i j) - val_main_v27 (F := Ideal) x5 x6 (ix3 b h i)) := by
  pointwise [val_main_v31, val_main_v30, val_main_v29, val_main_v28]

theorem v49_at (b : Fin 2) (h : Fin 8) (i j : Fin 4096) : val_main_v49 (F := Ideal) x5 x6 (ix4 b h i j)
    = Ideal.exp (val_main_v42 (F := Ideal) x5 x6 (ix4 b h i j) - val_main_v45 (F := Ideal) x5 x6 (ix3 b h i)) := by
  pointwise [val_main_v49, val_main_v48, val_main_v47, val_main_v46]

theorem v35_at (b : Fin 2) (h : Fin 8) (i j : Fin 4096) : val_main_v35 (F := Ideal) x5 x6 (ix4 b h i j)
    = Ideal.div (val_main_v31 (F := Ideal) x5 x6 (ix4 b h i j)) (∑ j, val_main_v31 (F := Ideal) x5 x6 (ix4 b h i j)) := by
  pointwise [val_main_v35, val_main_v34, val_main_v33, val_main_v32, val_main_cst_6]

theorem v53_at (b : Fin 2) (h : Fin 8) (i j : Fin 4096) : val_main_v53 (F := Ideal) x5 x6 (ix4 b h i j)
    = Ideal.div (val_main_v49 (F := Ideal) x5 x6 (ix4 b h i j)) (∑ j, val_main_v49 (F := Ideal) x5 x6 (ix4 b h i j)) := by
  pointwise [val_main_v53, val_main_v52, val_main_v51, val_main_v50, val_main_cst_11]

include h5 h6

theorem prob1_at (b : Fin 2) (h : Fin 8) (i j : Fin 4096) : val_main_v35 (F := Ideal) x5 x6 (ix4 b h i j)
    = (prob (past i) (fun j => score 0 (by omega) (fun e => x5 (ix4 b i h e)) (fun e => x6 (ix4 b j h e))) j : EReal) := by
  rw [v35_at]
  simp only [v31_at]
  exact softmax_at (past_nonempty i) _ (fun j => val_main_v24 (F := Ideal) x5 x6 (ix4 b h i j)) (fun j => score1_at x5 x6 h5 h6 b h i j) _ (v27_at x5 x6 b h i) _ rfl j

theorem prob2_at (b : Fin 2) (h : Fin 8) (i j : Fin 4096) : val_main_v53 (F := Ideal) x5 x6 (ix4 b h i j)
    = (prob (past i) (fun j => score 128 (by omega) (fun e => x5 (ix4 b i h e)) (fun e => x6 (ix4 b j h e))) j : EReal) := by
  rw [v53_at]
  simp only [v49_at]
  exact softmax_at (past_nonempty i) _ (fun j => val_main_v42 (F := Ideal) x5 x6 (ix4 b h i j)) (fun j => score2_at x5 x6 h5 h6 b h i j) _ (v45_at x5 x6 b h i) _ rfl j

variable (h0 : AllReal (s := S1x128) x0) (h1 : AllReal (s := S1x128) x1) (h2 : AllReal (s := S1x128) x2) (h3 : AllReal (s := S1x128) x3)
variable (h7 : AllReal (s := S2x4096x8x256) x7)
include h0 h1 h2 h3 h7

/-- The difference of the two attentions. -/
theorem mix_at (b : Fin 2) (h : Fin 8) (i : Fin 4096) (d : Fin 256) : val_main_v58 (F := Ideal) x0 x1 x2 x3 x5 x6 x7 (ix4 b i h d)
    = ((mixed (past i) (fun j => score 0 (by omega) (fun e => x5 (ix4 b i h e)) (fun e => x6 (ix4 b j h e)))
        (fun j => score 128 (by omega) (fun e => x5 (ix4 b i h e)) (fun e => x6 (ix4 b j h e)))
        (lamAt (fun e => x0 (ix2 0 e)) (fun e => x1 (ix2 0 e)) (fun e => x2 (ix2 0 e)) (fun e => x3 (ix2 0 e))).toReal
        (fun j e => (x7 (ix4 b j h e)).toReal) d : ℝ) : EReal) := by
  have hl := lamAt_real (fun e => x0 (ix2 0 e)) (fun e => x1 (ix2 0 e)) (fun e => x2 (ix2 0 e)) (fun e => x3 (ix2 0 e))
    (fun e => h0 _) (fun e => h1 _) (fun e => h2 _) (fun e => h3 _)
  pointwise [val_main_v58, val_main_v57, val_main_v56, val_main_v55, val_main_v54]
  rw [lam_at, hl]
  simp only [mul_comm (x7 _)]
  rw [EReal.toReal_coe]
  refine (diff_means _ _ (fun j => (x7 (ix4 b j h d)).toReal) _ _ _ _ (fun j => prob1_at x5 x6 h5 h6 b h i j) (fun j => prob2_at x5 x6 h5 h6 b h i j) (fun j => h7 _)).trans ?_
  unfold mixed
  rw [EReal.coe_sub, EReal.coe_mul]

theorem v74_at (x4 : Vec Ideal S1x256 .f32) (b : Fin 2) (h : Fin 8) (i : Fin 4096) (d : Fin 256) : val_main_v74 (F := Ideal) x0 x1 x2 x3 x4 x5 x6 x7 (ix4 b i h d)
    = rowAt (lamAt (fun e => x0 (ix2 0 e)) (fun e => x1 (ix2 0 e)) (fun e => x2 (ix2 0 e)) (fun e => x3 (ix2 0 e))) (fun d => x4 (ix2 0 d))
      (fun e => x5 (ix4 b i h e)) (fun j e => x6 (ix4 b j h e)) (fun j e => x7 (ix4 b j h e)) i d := by
  pointwise [val_main_v74, val_main_v73, val_main_v72, val_main_v71, val_main_v70, val_main_v69, val_main_v68, val_main_v67, val_main_v66, val_main_v65, val_main_v64, val_main_v63, val_main_v62, val_main_v61, val_main_v60, val_main_v59, val_main_cst_12, val_main_cst_13, val_main_cst_14, val_main_cst_15]
  simp only [mix_at x0 x1 x2 x3 x5 x6 x7 h5 h6 h0 h1 h2 h3 h7]
  rfl

/-- The reference's result. -/
theorem result (x4 : Vec Ideal S1x256 .f32) : val_main_v76 (F := Ideal) x0 x1 x2 x3 x4 x5 x6 x7 = attn x0 x1 x2 x3 x4 x5 x6 x7 := by
  funext i
  idx_vars i
  have hn : i2.val < 2048 := i2.isLt
  have e : val_main_v76 (F := Ideal) x0 x1 x2 x3 x4 x5 x6 x7 (ix3 i0 i1 i2)
      = val_main_v74 (F := Ideal) x0 x1 x2 x3 x4 x5 x6 x7 (ix4 i0 i1 ⟨i2.val / 256, by omega⟩ ⟨i2.val % 256, by omega⟩) := by
    pointwise [val_main_v76, val_main_v75]
  rw [e]
  exact v74_at x0 x1 x2 x3 x5 x6 x7 h5 h6 h0 h1 h2 h3 h7 x4 i0 _ i1 _
end

end Cert.ReferenceIdeal.Val
end
-- ==== Proof.Fin.lean ====
module

public import proofs.«01_k».proof.Pre_finite
public import proofs.«01_k».proof.Proof.Common
public import Idealize.ShloMosaic.Lib.Pointwise

/-! The precondition, read entry by entry: the arrays that it speaks of hold real numbers. -/

@[expose] public section

set_option maxRecDepth 16384

noncomputable section

namespace Cert.Pre_finite.Val

open Cert.Pre_finite Idealize.ShloMosaic
open Cert.Attn

theorem facts : Cert.Pre_finite.Facts := ⟨by decide, by decide⟩

/-- An extended real whose absolute value is below `⊤` is a real number. -/
theorem real_of_lt (x : EReal) (h : BitVec.ofBool (decide (max x (-x) < Ideal.ofBits .f32 0x7F800000#32)) = 1#1) : x = (x.toReal : EReal) := by
  have e : Ideal.ofBits .f32 0x7F800000#32 = ⊤ := by simp [Ideal.ofBits, Ideal.ieee]
  rw [e] at h
  have h' : max x (-x) < ⊤ := by
    by_contra hc
    rw [decide_eq_false hc] at h
    exact absurd h (by decide)
  refine (EReal.coe_toReal ?_ ?_).symm
  · rintro rfl
    simp at h'
  · rintro rfl
    simp at h'

theorem pre2 [Facts] (x : FVec Ideal S1x128 .f32)
    (h : cmpf .olt (Host.absf x) (broadcastInDim S1x128 ![] Facts.bcast_S_S1x128 (constant S_ .f32 0x7F800000#32)) = fun _ => 1#1) :
    AllReal (s := S1x128) x := by
  intro i
  have h := congrFun h i
  idx_vars i
  revert h
  pointwise []
  exact real_of_lt _

theorem pre4 [Facts] (x : FVec Ideal S2x4096x8x256 .f32)
    (h : cmpf .olt (Host.absf x) (broadcastInDim S2x4096x8x256 ![] Facts.bcast_S_S2x4096x8x256 (constant S_ .f32 0x7F800000#32)) = fun _ => 1#1) :
    AllReal (s := S2x4096x8x256) x := by
  intro i
  have h := congrFun h i
  idx_vars i
  revert h
  pointwise []
  exact real_of_lt _

end Cert.Pre_finite.Val
end
-- ==== Proof.Norm.lean ====
module

public import proofs.«01_k».proof.Defs
public import Idealize.ShloMosaic.Lib.Pointwise
public import Idealize.ShloMosaic.Lib.Claim

/-! The norm of a row of 4096 entries, and the feed-forward part of a row. -/

@[expose] public section

noncomputable section

namespace Cert.Layer

open Idealize.ShloMosaic

/-- The literal 4096, by which a sum over a row is divided. -/
def width : EReal := Ideal.ofBits FTy.f32 0x45800000#32
/-- The literal that is added to the variance. -/
def eps : EReal := Ideal.ofBits FTy.f32 0x3727C5AC#32
/-- The literal by which the residual is multiplied. -/
def alpha : EReal := Ideal.ofBits FTy.f32 0x3F9837F0#32

/-- The mean of a row. -/
def mean (z : Fin 4096 → EReal) : EReal := Ideal.div (∑ k, z k) width

/-- Entry `n` of the layer norm of the row `z`, with gain `g` and offset `b` there. -/
def norm (z : Fin 4096 → EReal) (g b : EReal) (n : Fin 4096) : EReal :=
  (z n - mean z) * Ideal.rsqrt (Ideal.div (∑ k, (z k - mean z) * (z k - mean z)) width + eps) * g + b

/-- Entry `f` of the hidden row: the rectified product, squared. -/
def relu2 (h : Fin 4096 → EReal) (U : Fin 4096 → Fin 16384 → EReal) (f : Fin 16384) : EReal :=
  max (∑ e, h e * U e f) 0 * max (∑ e, h e * U e f) 0

/-- Entry `n` of the scaled residual plus the feed-forward part. -/
def ffRow (h : Fin 4096 → EReal) (U : Fin 4096 → Fin 16384 → EReal) (W : Fin 16384 → Fin 4096 → EReal) (n : Fin 4096) : EReal :=
  alpha * h n + ∑ f, relu2 h U f * W f n

end Cert.Layer
end
-- ==== Proof.Ff.lean ====
module

public import proofs.«01_k».proof.Proof.Norm
public import proofs.«01_k».proof.Proof.Gen.Kernel2Ideal.Value
public import Idealize.ShloMosaic.Lib.Pipeline.ValueKit

/-! The feed-forward call: what its payloads compute and what its blocks hold. -/

@[expose] public section

set_option maxRecDepth 16384

noncomputable section

namespace Cert.Kernel2Ideal.Val

open Cert.Kernel2Ideal Cert.Kernel2Ideal.Gen Idealize.ShloMosaic Idealize.ShloMosaic.TcCoe Idealize.SL.Sem
open Cert.Layer
variable (m : (ℓ : Loc nD τ sig) → Buf (Elt Ideal) ℓ)

/-- The first store of a run: the scaled residual. -/
theorem start_at (x : Vec Ideal S512x4096 .f32) (i : S512x4096.Idx) : k0_pay1 (F := Ideal) x i = alpha * x i := by
  pointwise [k0_pay1]
  rfl

/-- Every point adds the part of its tile of hidden columns. -/
theorem add_at (x : Vec Ideal S512x4096 .bf16) (w : Vec Ideal S4096x512 .bf16) (a : Vec Ideal S512x4096 .f32) (v : Vec Ideal S512x4096 .bf16) (i : S512x4096.Idx) :
    k0_pay2 (F := Ideal) x w a v i = a i + ∑ f : Fin 512, max (∑ e : Fin 4096, x (ix2 (i 0) e) * w (ix2 e f)) 0 * max (∑ e : Fin 4096, x (ix2 (i 0) e) * w (ix2 e f)) 0 * v (ix2 f (i 1)) := by
  pointwise [k0_pay2]

/-- The last point normalises each row. -/
theorem norm_at (x : Vec Ideal S512x4096 .f32) (g b : Vec Ideal S1x4096 .f32) (r : Fin 512) (n : Fin 4096) :
    k0_pay3 (F := Ideal) x g b (ix2 r n) = norm (fun k => x (ix2 r k)) (g (ix2 0 n)) (b (ix2 0 n)) n := by
  pointwise [k0_pay3]
  rfl

theorem idx : ∀ t : Fin cfg0.N, win0_0.index t = ![t.val / 32, 0] ∧ win0_1.index t = ![t.val / 32, 0]
    ∧ win0_2.index t = ![0, t.val % 32] ∧ win0_3.index t = ![t.val % 32, 0]
    ∧ win0_4.index t = ![0, 0] ∧ win0_5.index t = ![0, 0] ∧ win0_6.index t = ![t.val / 32, 0] :=
  (by decide +kernel : ∀ t : Fin grid0.N, _)

/-- The residual's row `r` of the 8192. -/
def hRow (c : Dev nD) (r : Fin 8192) (e : Fin 4096) : EReal :=
  (m ((c : Thread nD τ).loc main_arg0) : Vec Ideal S2x4096x4096 .f32) (ix3 ⟨r.val / 4096, by omega⟩ ⟨r.val % 4096, by omega⟩ e)
/-- The two weights, the gain and the offset. -/
def wUp (c : Dev nD) (e : Fin 4096) (f : Fin 16384) : EReal := (m ((c : Thread nD τ).loc main_arg1) : Vec Ideal S1x4096x16384 .f32) (ix3 0 e f)
def wDown (c : Dev nD) (f : Fin 16384) (n : Fin 4096) : EReal := (m ((c : Thread nD τ).loc main_arg2) : Vec Ideal S1x16384x4096 .f32) (ix3 0 f n)
def gain (c : Dev nD) (n : Fin 4096) : EReal := (m ((c : Thread nD τ).loc main_arg3) : Vec Ideal S1x4096 .f32) (ix2 0 n)
def offs (c : Dev nD) (n : Fin 4096) : EReal := (m ((c : Thread nD τ).loc main_arg4) : Vec Ideal S1x4096 .f32) (ix2 0 n)

theorem x_at (c : Dev nD) (t : Fin cfg0.N) (r : Fin 512) (e : Fin 4096) (R : Fin 8192) (hR : R.val = t.val / 32 * 512 + r.val) :
    (iblk m c 0 t : Vec Ideal S512x4096 .bf16) (ix2 r e) = hRow m c R e := by
  unfold hRow
  blk_point [iblk, V, idx t]

theorem h_at (c : Dev nD) (t : Fin cfg0.N) (r : Fin 512) (e : Fin 4096) (R : Fin 8192) (hR : R.val = t.val / 32 * 512 + r.val) :
    (iblk m c 1 t : Vec Ideal S512x4096 .f32) (ix2 r e) = hRow m c R e := by
  unfold hRow
  blk_point [iblk, V, idx t]

theorem up_at (c : Dev nD) (t : Fin cfg0.N) (e : Fin 4096) (f : Fin 512) (f' : Fin 16384) (hf : f'.val = t.val % 32 * 512 + f.val) :
    (iblk m c 2 t : Vec Ideal S4096x512 .bf16) (ix2 e f) = wUp m c e f' := by
  unfold wUp
  blk_point [iblk, V, idx t]

theorem down_at (c : Dev nD) (t : Fin cfg0.N) (f : Fin 512) (n : Fin 4096) (f' : Fin 16384) (hf : f'.val = t.val % 32 * 512 + f.val) :
    (iblk m c 3 t : Vec Ideal S512x4096 .bf16) (ix2 f n) = wDown m c f' n := by
  unfold wDown
  blk_point [iblk, V, idx t]

theorem g_at (c : Dev nD) (t : Fin cfg0.N) (n : Fin 4096) : (iblk m c 4 t : Vec Ideal S1x4096 .f32) (ix2 0 n) = gain m c n := by
  unfold gain
  blk_point [iblk, V, idx t]

theorem b_at (c : Dev nD) (t : Fin cfg0.N) (n : Fin 4096) : (iblk m c 5 t : Vec Ideal S1x4096 .f32) (ix2 0 n) = offs m c n := by
  unfold offs
  blk_point [iblk, V, idx t]

end Cert.Kernel2Ideal.Val
end
-- ==== Proof.FfArr.lean ====
module

public import proofs.«01_k».proof.Proof.Ff

/-! The array that the feed-forward call returns. -/

@[expose] public section

set_option maxRecDepth 16384

noncomputable section

namespace Cert.Kernel2Ideal.Val

open Cert.Kernel2Ideal Cert.Kernel2Ideal.Gen Cert.Kernel2Ideal.Value Idealize.ShloMosaic Idealize.ShloMosaic.TcCoe Idealize.SL.Sem
open Cert.Layer
variable (m : (ℓ : Loc nD τ sig) → Buf (Elt Ideal) ℓ)

/-- The result as a function of the memory at the start. -/
def arr (c : Dev nD) : Vec Ideal S8192x4096 .f32 := fun i =>
  norm (ffRow (hRow m c (i 0)) (wUp m c) (wDown m c)) (gain m c (i 1)) (offs m c (i 1)) (i 1)

/-- The array's row that row `r` of point `n`'s block is, and the hidden column that column `f` of its tile is. -/
def row (n : ℕ) (r : Fin 512) : Fin 8192 := ⟨(n / 32 * 512 + r.val) % 8192, Nat.mod_lt _ (by decide)⟩
def col (n : ℕ) (f : Fin 512) : Fin 16384 := ⟨n % 32 * 512 + f.val, by omega⟩

/-- What point `n` adds. -/
def part (c : Dev nD) (n : ℕ) (i : S512x4096.Idx) : EReal :=
  ∑ f : Fin 512, relu2 (hRow m c (row n (i 0))) (wUp m c) (col n f) * wDown m c (col n f) (i 1)

theorem point_lt (t : Fin cfg0.N) : t.val < 512 := lt_of_lt_of_eq t.isLt N_0

theorem row_val (t : Fin cfg0.N) (r : Fin 512) : (row t.val r).val = t.val / 32 * 512 + r.val :=
  Nat.mod_eq_of_lt (by have := point_lt t; omega)

theorem part_at (c : Dev nD) (t : Fin cfg0.N) (acc : Vec Ideal S512x4096 .f32) (i : S512x4096.Idx) :
    k0_pay2 (F := Ideal) (iblk m c 0 t) (iblk m c 2 t) acc (iblk m c 3 t) i = acc i + part m c t.val i := by
  rw [add_at]
  unfold part relu2
  refine congrArg (acc i + ·) (Finset.sum_congr rfl fun f _ => ?_)
  rw [down_at m c t f (i 1) (col t.val f) rfl]
  simp only [x_at m c t (i 0) _ (row t.val (i 0)) (row_val t (i 0)), up_at m c t _ f (col t.val f) rfl]

theorem first_at (c : Dev nD) (t : Fin cfg0.N) (i : S512x4096.Idx) :
    k0_pay1 (F := Ideal) (iblk m c 1 t) i = alpha * hRow m c (row t.val (i 0)) (i 1) := by
  rw [start_at]
  refine congrArg (alpha * ·) ?_
  have e : i = ix2 (i 0) (i 1) := by idx_vars i; rfl
  rw [e]
  exact h_at m c t (i 0) (i 1) _ (row_val t (i 0))

/-- What the buffer holds before the last point of run `q`. -/
theorem fold (c : Dev nD) (q : ℕ) (h : 32 * q + 30 < cfg0.N) (i : S512x4096.Idx) :
    Pipeline.accAt (reset6 m c) (step6 m c) (32 * q) 30 h i
      = alpha * hRow m c (row (32 * q) (i 0)) (i 1) + ∑ s ∈ Finset.range 31, part m c (32 * q + s) i := by
  refine Pipeline.accAt_add_apply (β := EReal) (reset6 m c) (step6 m c) (fun i => alpha * hRow m c (row (32 * q) (i 0)) (i 1)) (part m c) (32 * q) 30
    (fun h i => ?_) (fun n h acc i h1 h2 => ?_) 30 le_rfl h i
  · unfold reset6
    rw [part_at m c ⟨32 * q, h⟩, first_at]
  · unfold step6
    rw [if_pos ⟨by omega, by omega⟩, part_at m c ⟨n, h⟩]

/-- All the tiles together are the sum over the hidden columns. -/
theorem parts (c : Dev nD) (q : ℕ) (i : S512x4096.Idx) :
    ∑ s ∈ Finset.range 32, part m c (32 * q + s) i
      = ∑ f : Fin 16384, relu2 (hRow m c (row (32 * q) (i 0))) (wUp m c) f * wDown m c f (i 1) := by
  rw [Finset.sum_range]
  unfold part
  refine Fin.sum_mul_add_congr fun s k hl => ?_
  have e : row (32 * q + s.val) (i 0) = row (32 * q) (i 0) := Fin.ext (by
    show ((32 * q + s.val) / 32 * 512 + (i 0).val) % 8192 = (32 * q / 32 * 512 + (i 0).val) % 8192
    have := s.isLt
    rw [show (32 * q + s.val) / 32 = 32 * q / 32 by omega])
  have e' : col (32 * q + s.val) k = ⟨s.val * 512 + k.val, hl⟩ := Fin.ext (by
    show (32 * q + s.val) % 32 * 512 + k.val = s.val * 512 + k.val
    have := s.isLt
    rw [show (32 * q + s.val) % 32 = s.val by omega])
  rw [e, e']

/-- What the last point of a run leaves. -/
theorem last_at (c : Dev nD) (t : Fin cfg0.N) (hf : t.val % 32 = 31) (r : Fin 512) (n : Fin 4096) (R : Fin 8192) (hR : R.val = t.val / 32 * 512 + r.val) :
    outsAt0 m c t.val t.isLt (ix2 r n) = arr m c (ix2 R n) := by
  have ht := point_lt t
  have hlt : 32 * (t.val / 32) + 31 < cfg0.N := by rw [show 32 * (t.val / 32) + 31 = t.val by omega]; exact t.isLt
  have e : outsAt0 m c t.val t.isLt = Pipeline.accAt (reset6 m c) (step6 m c) (32 * (t.val / 32)) 31 hlt := by
    rw [outsAt_6_eq]
    have : ∀ (j : ℕ) (h : 32 * (t.val / 32) + j < cfg0.N), j = 31 → Pipeline.accAt (reset6 m c) (step6 m c) (32 * (t.val / 32)) j h = Pipeline.accAt (reset6 m c) (step6 m c) (32 * (t.val / 32)) 31 hlt := by
      intro j h hj; subst hj; rfl
    exact this _ _ hf
  have hr : row (32 * (t.val / 32)) r = R := Fin.ext (by
    show (32 * (t.val / 32) / 32 * 512 + r.val) % 8192 = R.val
    rw [hR]; omega)
  rw [e, Pipeline.accAt_succ]
  have hA := fun k => fold m c (t.val / 32) (Nat.lt_of_succ_lt hlt) (ix2 r k)
  generalize Pipeline.accAt (reset6 m c) (step6 m c) (32 * (t.val / 32)) 30 _ = A at hA ⊢
  unfold step6
  rw [if_neg (by omega), if_pos ⟨by omega, by omega⟩, norm_at, g_at, b_at]
  unfold arr
  refine congrArg (fun z => norm z (gain m c n) (offs m c n) n) (funext fun k => ?_)
  rw [part_at m c ⟨_, hlt⟩, hA, add_assoc, ← Finset.sum_range_succ (fun s => part m c (32 * (t.val / 32) + s) (ix2 r k)) 31, parts]
  show alpha * hRow m c (row (32 * (t.val / 32)) r) k + ∑ f : Fin 16384, relu2 (hRow m c (row (32 * (t.val / 32)) r)) (wUp m c) f * wDown m c f k = _
  rw [hr]
  rfl

end Cert.Kernel2Ideal.Val
end
-- ==== Proof.FfFinal.lean ====
module

public import proofs.«01_k».proof.Proof.FfArr

/-! The array after the feed-forward call's run, as a whole. -/

@[expose] public section

set_option maxRecDepth 16384

noncomputable section

namespace Cert.Kernel2Ideal.Val

open Cert.Kernel2Ideal Cert.Kernel2Ideal.Gen Idealize.ShloMosaic Idealize.ShloMosaic.TcCoe Idealize.SL.Sem
variable (m : (ℓ : Loc nD τ sig) → Buf (Elt Ideal) ℓ)

theorem block_pt (c : Dev nD) (t : Fin cfg0.N) (hf : t.val % 32 = 31) (y : S512x4096.Idx) (R : Fin 8192) (n : Fin 4096)
    (hR : R.val = t.val / 32 * 512 + (y 0).val) (hn : n.val = (y 1).val) : outsAt0 m c t.val t.isLt y = arr m c (ix2 R n) := by
  idx_vars y
  have en : n = y1 := Fin.ext hn
  rw [en]
  exact last_at m c t hf y0 y1 R hR

/-- The whole array after the run. -/
theorem final (c : Dev nD) : (dats m 0 c).arrAt 6 cfg0.N = arr m c := by
  refine (dats m 0 c).arrAt_eq_of_covers 6 _ (by decide +kernel) fun t hf y => ?_
  blk_simp
  rw [after0_6]
  have ht := point_lt t
  have e0 : ((y : S512x4096.Idx) 0).val < 512 := ((y : S512x4096.Idx) 0).isLt
  have e1 : ((y : S512x4096.Idx) 1).val < 4096 := ((y : S512x4096.Idx) 1).isLt
  refine (block_pt m c t ((flush0_6 t).mp hf) y ⟨t.val / 32 * 512 + ((y : S512x4096.Idx) 0).val, by omega⟩ ⟨((y : S512x4096.Idx) 1).val, e1⟩ rfl rfl).trans ?_
  blk_ext [idx t]

end Cert.Kernel2Ideal.Val
end
-- ==== Proof.FfRef.lean ====
module

public import proofs.«01_k».proof.Proof.Norm
public import proofs.«01_k».proof.Proof.Gen.Reference2Ideal.Read

/-! The feed-forward part's reference, entry by entry. -/

@[expose] public section

set_option maxRecDepth 16384

noncomputable section

namespace Cert.Reference2Ideal.Val

open Cert.Reference2Ideal Cert.Reference2Ideal.Read Idealize.ShloMosaic
open Cert.Layer

/-- The row of the residual plus the feed-forward part. -/
theorem z_at (x0 : Vec Ideal S2x4096x4096 .f32) (x1 : Vec Ideal S1x4096x16384 .f32) (x2 : Vec Ideal S1x16384x4096 .f32) (b : Fin 2) (s n : Fin 4096) :
    val_main_v8 (F := Ideal) x0 x1 x2 (ix3 b s n) = ffRow (fun e => x0 (ix3 b s e)) (fun e f => x1 (ix3 0 e f)) (fun f k => x2 (ix3 0 f k)) n := by
  pointwise [val_main_v8, val_main_v7, val_main_v6, val_main_cst, val_main_v5, val_main_v4, val_main_v3, val_main_v2, val_main_call0_v0, val_main_call0_cst, val_main_v1, val_main_v0]
  rfl

theorem mean_at (x0 : Vec Ideal S2x4096x4096 .f32) (x1 : Vec Ideal S1x4096x16384 .f32) (x2 : Vec Ideal S1x16384x4096 .f32) (b : Fin 2) (s : Fin 4096) (u : Fin 1) :
    val_main_v12 (F := Ideal) x0 x1 x2 (ix3 b s u) = mean (fun k => val_main_v8 (F := Ideal) x0 x1 x2 (ix3 b s k)) := by
  pointwise [val_main_v12, val_main_v11, val_main_cst_1, val_main_v10, val_main_v9, val_main_cst_0]
  rfl

theorem result (x0 : Vec Ideal S2x4096x4096 .f32) (x1 : Vec Ideal S1x4096x16384 .f32) (x2 : Vec Ideal S1x16384x4096 .f32) (x3 x4 : Vec Ideal S1x4096 .f32) (R : Fin 8192) (n : Fin 4096) :
    val_main_v35 (F := Ideal) x0 x1 x2 x3 x4 (ix2 R n)
      = norm (ffRow (fun e => x0 (ix3 ⟨R.val / 4096, by omega⟩ ⟨R.val % 4096, by omega⟩ e)) (fun e f => x1 (ix3 0 e f)) (fun f k => x2 (ix3 0 f k)))
        (x3 (ix2 0 n)) (x4 (ix2 0 n)) n := by
  pointwise [val_main_v35, val_main_v34, val_main_v33, val_main_v32, val_main_v31, val_main_v30, val_main_v29, val_main_v28, val_main_v27, val_main_v26,
    val_main_v25, val_main_v24, val_main_v23, val_main_v22, val_main_cst_4, val_main_v21, val_main_v20, val_main_v19, val_main_v18, val_main_cst_3,
    val_main_v17, val_main_v16, val_main_cst_2, val_main_v15, val_main_v14, val_main_v13]
  simp only [mean_at, z_at]
  rfl

end Cert.Reference2Ideal.Val
end
-- ==== Proof.Proj.lean ====
module

public import Idealize.ShloMosaic.Lib.Pipeline.ValueKit

/-! A section of the projection: the entry of a matrix product, and where the 8192 rows lie in the group's two sequences. -/

@[expose] public section

set_option maxRecDepth 16384

noncomputable section

namespace Cert.Layer

open Idealize.ShloMosaic

/-- Row `r` of the 8192 rows against column `n` of the layer's weight. -/
def proj (x : Vec Ideal ⟨3, ![2, 4096, 4096]⟩ .f32) (w : Vec Ideal ⟨3, ![1, 4096, 12288]⟩ .f32) (r : Fin 8192) (n : Fin 12288) : EReal :=
  ∑ e : Fin 4096, x (ix3 ⟨r.val / 4096, by omega⟩ ⟨r.val % 4096, by omega⟩ e) * w (ix3 0 e n)

/-- The literals by which the two sections of queries are scaled. -/
def scaleA : EReal := Ideal.ofBits FTy.f32 0x3E0293EE#32
def scaleB : EReal := Ideal.ofBits FTy.f32 0x3DB504F3#32

/-- The angle by which position `p` turns the pair `j` of a head's columns: the position times the
    base to the power `-2 j / 128`, in the constants that the host's text carries. -/
def angle (p j : ℕ) : EReal :=
  FloatOps.sitofp (F := Ideal) FTy.f32 (BitVec.ofNat 32 p)
    * Ideal.pow (Ideal.ofBits FTy.f32 1176256512#32)
        (Ideal.div (-(Ideal.ofBits FTy.f32 1073741824#32 * FloatOps.sitofp (F := Ideal) FTy.f32 (BitVec.ofNat 32 j)))
          (Ideal.ofBits FTy.f32 1124073472#32))

/-- A row `u` of a section turned by position `p`, at column `n`: the lower half of a head's 128 columns
    takes the cosine minus the sine of the upper half, the upper half the cosine plus the sine of the lower. -/
def rope (u : Fin 2048 → EReal) (p : ℕ) (n : Fin 2048) : EReal :=
  if h : n.val % 128 < 64 then
    u n * Ideal.cos (angle p (n.val % 128)) - u ⟨n.val + 64, by omega⟩ * Ideal.sin (angle p (n.val % 128))
  else
    u n * Ideal.cos (angle p (n.val % 128 - 64)) + u ⟨n.val - 64, by omega⟩ * Ideal.sin (angle p (n.val % 128 - 64))

/-- Row `r` of the sample's 32 rows against column `n` of the layer's weight. -/
def row (x : Vec Ideal ⟨3, ![32, 1, 4096]⟩ .f32) (w : Vec Ideal ⟨3, ![1, 4096, 12288]⟩ .f32) (r : Fin 32) (n : Fin 12288) : EReal :=
  ∑ e : Fin 4096, x (ix3 r 0 e) * w (ix3 0 e n)

/-- The same turn as `rope`, of a row of all 12288 columns. -/
def ropeAll (u : Fin 12288 → EReal) (p : ℕ) (n : Fin 12288) : EReal :=
  if h : n.val % 128 < 64 then
    u n * Ideal.cos (angle p (n.val % 128)) - u ⟨n.val + 64, by omega⟩ * Ideal.sin (angle p (n.val % 128))
  else
    u n * Ideal.cos (angle p (n.val % 128 - 64)) + u ⟨n.val - 64, by omega⟩ * Ideal.sin (angle p (n.val % 128 - 64))

/-- The constant by which column `n` is scaled: one for the first section, one for the fourth, and 1 for the others. -/
def colScale (n : Fin 12288) : EReal :=
  if 6144 ≤ n.val ∧ n.val < 8192 then Ideal.ofBits FTy.f32 0x3DB504F3#32 else if n.val < 2048 then Ideal.ofBits FTy.f32 0x3E0293EE#32 else 1

/-- A row of the projection: its first two sections turned, and two of the six scaled. -/
def sections (u : Fin 12288 → EReal) (p : ℕ) (n : Fin 12288) : EReal :=
  (if n.val < 4096 then ropeAll u p n else u n) * colScale n

end Cert.Layer
end
-- ==== Proof.DK.lean ====
module

public import proofs.«01_k».proof.Proof.Proj
public import proofs.«01_k».proof.Proof.Gen.Kernel3Ideal.Value
public import Idealize.ShloMosaic.Lib.Pipeline.ValueKit

/-! The projection onto the keys' columns, with the rotation by position: what its payloads compute. -/

@[expose] public section

set_option maxRecDepth 16384

noncomputable section

namespace Cert.Kernel3Ideal.Val

open Cert.Kernel3Ideal Cert.Kernel3Ideal.Gen Idealize.ShloMosaic Idealize.ShloMosaic.TcCoe Idealize.SL.Sem
open Cert.Layer

/-- Column `n`'s place in its 128 columns, and the column half a head away in them. -/
def lane (n : Fin 1024) : Fin 128 := ⟨n.val % 128, Nat.mod_lt _ (by decide)⟩
def half (n : Fin 1024) : Fin 1024 := ⟨n.val / 128 * 128 + (n.val % 128 + 64) % 128, by omega⟩

/-- The product of the two blocks, entry by entry. -/
theorem prod_at (x : Vec Ideal S1024x4096 .bf16) (w : Vec Ideal S4096x1024 .bf16) (r n : Fin 1024) :
    k0_pay3 (F := Ideal) x w (ix2 r n) = ∑ e : Fin 4096, x (ix2 r e) * w (ix2 e n) := by
  pointwise [k0_pay3]

/-- What a block holds: each product times its cosine, plus the product half a head away times its sine. -/
def turn (u : Vec Ideal S1024x1024 .f32) (co si : Vec Ideal S1024x128 .f32) (r n : Fin 1024) : EReal :=
  u (ix2 r n) * co (ix2 r (lane n)) + u (ix2 r (half n)) * si (ix2 r (lane n))

theorem out_at (x0 : Vec Ideal S1024x4096 .bf16) (x1 : Vec Ideal S4096x1024 .bf16) (x2 x3 : Vec Ideal S1024x128 .f32) (y : S1024x1024.Idx) :
    out0_4 (F := Ideal) x0 x1 x2 x3 y = turn (k0_pay3 (F := Ideal) x0 x1) x2 x3 (y 0) (y 1) := by
  unfold_out out0_4
  frame_out
  canon_tiles x h
  all_goals
    open_payloads
    unfold turn lane half
    pointwise
    generalize k0_pay3 (F := Ideal) x0 x1 = u
    refine congrArg₂ (fun a b : EReal => a + b) (congrArg₂ (fun a b : EReal => a * b) ?_ ?_) (congrArg₂ (fun a b : EReal => a * b) ?_ ?_) <;> blk_ext

theorem outB_at (x0 : Vec Ideal S1024x4096 .bf16) (x1 : Vec Ideal S4096x1024 .bf16) (x2 x3 : Vec Ideal S1024x128 .f32) (y : S1024x1024.Idx) :
    (out0_5 (F := Ideal) x0 x1 x2 x3 y : EReal) = turn (k0_pay3 (F := Ideal) x0 x1) x2 x3 (y 0) (y 1) := by
  unfold_out out0_5
  frame_out
  canon_tiles x h
  all_goals
    open_payloads
    unfold turn lane half
    pointwise
    generalize k0_pay3 (F := Ideal) x0 x1 = u
    refine congrArg₂ (fun a b : EReal => a + b) (congrArg₂ (fun a b : EReal => a * b) ?_ ?_) (congrArg₂ (fun a b : EReal => a * b) ?_ ?_) <;> blk_ext

theorem idx : ∀ t : Fin cfg0.N, win0_0.index t = ![t.val / 2, 0] ∧ win0_1.index t = ![0, 2 + t.val % 2]
    ∧ win0_2.index t = ![t.val / 2 % 4, 0] ∧ win0_3.index t = ![t.val / 2 % 4, 0]
    ∧ win0_4.index t = ![t.val / 2, t.val % 2] ∧ win0_5.index t = ![t.val / 2, t.val % 2] :=
  (by decide +kernel : ∀ t : Fin grid0.N, _)

theorem point_lt (t : Fin cfg0.N) : t.val < 16 := lt_of_lt_of_eq t.isLt N_0

variable (m : (ℓ : Loc nD τ sig) → Buf (Elt Ideal) ℓ)

/-- The two arguments. -/
abbrev xs (c : Dev nD) : Vec Ideal S2x4096x4096 .f32 := m ((c : Thread nD τ).loc main_arg0)
abbrev ws (c : Dev nD) : Vec Ideal S1x4096x12288 .f32 := m ((c : Thread nD τ).loc main_arg1)

theorem x_at (c : Dev nD) (t : Fin cfg0.N) (r : Fin 1024) (e : Fin 4096) (R : Fin 8192) (hR : R.val = t.val / 2 * 1024 + r.val) :
    (iblk m c 0 t : Vec Ideal S1024x4096 .bf16) (ix2 r e) = xs m c (ix3 ⟨R.val / 4096, by omega⟩ ⟨R.val % 4096, by omega⟩ e) := by
  blk_point [iblk, V, idx t]

theorem w_at (c : Dev nD) (t : Fin cfg0.N) (e : Fin 4096) (n : Fin 1024) (N : Fin 12288) (hN : N.val = 2048 + (t.val % 2 * 1024 + n.val)) :
    (iblk m c 1 t : Vec Ideal S4096x1024 .bf16) (ix2 e n) = ws m c (ix3 0 e N) := by
  blk_point [iblk, V, idx t]

theorem cos_blk (c : Dev nD) (t : Fin cfg0.N) (r : Fin 1024) (k : Fin 128) (p : Fin 4096) (hp : p.val = t.val / 2 % 4 * 1024 + r.val) :
    (iblk m c 2 t : Vec Ideal S1024x128 .f32) (ix2 r k) = (V m c main_v19 : Vec Ideal S4096x128 .f32) (ix2 p k) := by
  blk_ext [iblk, idx t]

theorem cos_at (c : Dev nD) (t : Fin cfg0.N) (r : Fin 1024) (k : Fin 128) (p : Fin 4096) (hp : p.val = t.val / 2 % 4 * 1024 + r.val) :
    (iblk m c 2 t : Vec Ideal S1024x128 .f32) (ix2 r k) = if k.val < 64 then Ideal.cos (angle p.val k.val) else Ideal.cos (angle p.val (k.val - 64)) := by
  rw [cos_blk m c t r k p hp]
  unfold angle V
  after_results
  pointwise
  split_ifs <;> rfl

theorem sin_blk (c : Dev nD) (t : Fin cfg0.N) (r : Fin 1024) (k : Fin 128) (p : Fin 4096) (hp : p.val = t.val / 2 % 4 * 1024 + r.val) :
    (iblk m c 3 t : Vec Ideal S1024x128 .f32) (ix2 r k) = (V m c main_v21 : Vec Ideal S4096x128 .f32) (ix2 p k) := by
  blk_ext [iblk, idx t]

theorem sin_at (c : Dev nD) (t : Fin cfg0.N) (r : Fin 1024) (k : Fin 128) (p : Fin 4096) (hp : p.val = t.val / 2 % 4 * 1024 + r.val) :
    (iblk m c 3 t : Vec Ideal S1024x128 .f32) (ix2 r k) = if k.val < 64 then -Ideal.sin (angle p.val k.val) else Ideal.sin (angle p.val (k.val - 64)) := by
  rw [sin_blk m c t r k p hp]
  unfold angle V
  after_results
  pointwise
  split_ifs <;> rfl

/-- Each of the two results as a function of the memory at the start. -/
def entry (c : Dev nD) (r : Fin 8192) (n : Fin 2048) : EReal := rope (fun k => proj (xs m c) (ws m c) r ⟨2048 + k.val, by omega⟩) (r.val % 4096) n
def arr (c : Dev nD) : Vec Ideal S8192x2048 .f32 := fun i => entry m c (i 0) (i 1)
def arrB (c : Dev nD) : Vec Ideal S8192x2048 .bf16 := fun i => entry m c (i 0) (i 1)

theorem prod_pt (c : Dev nD) (t : Fin cfg0.N) (r n : Fin 1024) (R : Fin 8192) (N : Fin 2048)
    (hR : R.val = t.val / 2 * 1024 + r.val) (hN : N.val = t.val % 2 * 1024 + n.val) :
    k0_pay3 (F := Ideal) (iblk m c 0 t) (iblk m c 1 t) (ix2 r n) = proj (xs m c) (ws m c) R ⟨2048 + N.val, by omega⟩ := by
  rw [prod_at]
  unfold proj
  refine Finset.sum_congr rfl fun e _ => ?_
  rw [x_at m c t r e R hR, w_at m c t e n ⟨2048 + N.val, by omega⟩ (by show 2048 + N.val = _; omega)]

theorem turn_pt (c : Dev nD) (t : Fin cfg0.N) (r n : Fin 1024) (R : Fin 8192) (N : Fin 2048)
    (hR : R.val = t.val / 2 * 1024 + r.val) (hN : N.val = t.val % 2 * 1024 + n.val) :
    turn (k0_pay3 (F := Ideal) (iblk m c 0 t) (iblk m c 1 t)) (iblk m c 2 t) (iblk m c 3 t) r n = entry m c R N := by
  have ht := point_lt t
  have hr := r.isLt
  have hn := n.isLt
  have hp : R.val % 4096 = t.val / 2 % 4 * 1024 + r.val := by omega
  have hk : (lane n).val = N.val % 128 := by
    show n.val % 128 = N.val % 128
    omega
  unfold turn entry rope
  rw [cos_at m c t r (lane n) ⟨R.val % 4096, by omega⟩ hp, sin_at m c t r (lane n) ⟨R.val % 4096, by omega⟩ hp, prod_pt m c t r n R N hR hN, hk]
  by_cases h : N.val % 128 < 64
  · rw [if_pos h, if_pos h, dif_pos h, prod_pt m c t r (half n) R ⟨N.val + 64, by omega⟩ hR (by
      show N.val + 64 = t.val % 2 * 1024 + (n.val / 128 * 128 + (n.val % 128 + 64) % 128)
      omega), mul_neg, sub_eq_add_neg]
  · rw [if_neg h, if_neg h, dif_neg h, prod_pt m c t r (half n) R ⟨N.val - 64, by omega⟩ hR (by
      show N.val - 64 = t.val % 2 * 1024 + (n.val / 128 * 128 + (n.val % 128 + 64) % 128)
      omega)]

theorem block_pt (c : Dev nD) (t : Fin cfg0.N) (y : S1024x1024.Idx) (R : Fin 8192) (N : Fin 2048)
    (hR : R.val = t.val / 2 * 1024 + (y 0).val) (hN : N.val = t.val % 2 * 1024 + (y 1).val) :
    out0_4 (F := Ideal) (iblk m c 0 t) (iblk m c 1 t) (iblk m c 2 t) (iblk m c 3 t) y = arr m c (ix2 R N) := by
  rw [out_at]
  exact turn_pt m c t (y 0) (y 1) R N hR hN

theorem block_ptB (c : Dev nD) (t : Fin cfg0.N) (y : S1024x1024.Idx) (R : Fin 8192) (N : Fin 2048)
    (hR : R.val = t.val / 2 * 1024 + (y 0).val) (hN : N.val = t.val % 2 * 1024 + (y 1).val) :
    out0_5 (F := Ideal) (iblk m c 0 t) (iblk m c 1 t) (iblk m c 2 t) (iblk m c 3 t) y = arrB m c (ix2 R N) := by
  rw [outB_at]
  exact turn_pt m c t (y 0) (y 1) R N hR hN

end Cert.Kernel3Ideal.Val
end
-- ==== Proof.DKFinal.lean ====
module

public import proofs.«01_k».proof.Proof.DK

/-! The two arrays after this projection's run, as wholes. -/

@[expose] public section

set_option maxRecDepth 16384

noncomputable section

namespace Cert.Kernel3Ideal.Val

open Cert.Kernel3Ideal Cert.Kernel3Ideal.Gen Idealize.ShloMosaic Idealize.ShloMosaic.TcCoe Idealize.SL.Sem
variable (m : (ℓ : Loc nD τ sig) → Buf (Elt Ideal) ℓ)

theorem final (c : Dev nD) : (dats m 0 c).arrAt 4 cfg0.N = arr m c := by
  refine (dats m 0 c).arrAt_eq_of_covers 4 _ (by decide +kernel) fun t hf y => ?_
  blk_simp
  rw [after0_4]
  have ht := point_lt t
  have e0 : ((y : S1024x1024.Idx) 0).val < 1024 := ((y : S1024x1024.Idx) 0).isLt
  have e1 : ((y : S1024x1024.Idx) 1).val < 1024 := ((y : S1024x1024.Idx) 1).isLt
  refine (block_pt m c t y ⟨t.val / 2 * 1024 + ((y : S1024x1024.Idx) 0).val, by omega⟩ ⟨t.val % 2 * 1024 + ((y : S1024x1024.Idx) 1).val, by omega⟩ rfl rfl).trans ?_
  blk_ext [idx t]

theorem finalB (c : Dev nD) : (dats m 0 c).arrAt 5 cfg0.N = arrB m c := by
  refine (dats m 0 c).arrAt_eq_of_covers 5 _ (by decide +kernel) fun t hf y => ?_
  blk_simp
  rw [after0_5]
  have ht := point_lt t
  have e0 : ((y : S1024x1024.Idx) 0).val < 1024 := ((y : S1024x1024.Idx) 0).isLt
  have e1 : ((y : S1024x1024.Idx) 1).val < 1024 := ((y : S1024x1024.Idx) 1).isLt
  refine (block_ptB m c t y ⟨t.val / 2 * 1024 + ((y : S1024x1024.Idx) 0).val, by omega⟩ ⟨t.val % 2 * 1024 + ((y : S1024x1024.Idx) 1).val, by omega⟩ rfl rfl).trans ?_
  blk_ext [idx t]

end Cert.Kernel3Ideal.Val
end
-- ==== Proof.DKRef.lean ====
module

public import proofs.«01_k».proof.Proof.Proj
public import proofs.«01_k».proof.Proof.Gen.Reference3Ideal.Read

/-! The reference of the projection onto the keys' columns, with the rotation by position, entry by entry. -/

@[expose] public section

set_option maxRecDepth 16384

noncomputable section

namespace Cert.Reference3Ideal.Val

open Cert.Reference3Ideal Cert.Reference3Ideal.Read Idealize.ShloMosaic
open Cert.Layer

theorem angle_at (p : Fin 4096) (j : Fin 64) : val_main_v20 (F := Ideal) (ix2 p j) = angle p.val j.val := by
  pointwise [val_main_v20, val_main_v19, val_main_v18, val_main_v17, val_main_v16, val_main_v15, val_main_v14, val_main_v13, val_main_v12, val_main_v11,
    val_main_v10, val_main_v9, val_main_v8, val_main_v7, val_main_v6, val_main_v5, val_main_v4, val_main_cst, val_main_cst_0, val_main_cst_1, val_main_cst_2]
  rfl

theorem u_at (x0 : Vec Ideal S2x4096x4096 .f32) (x1 : Vec Ideal S1x4096x12288 .f32) (b : Fin 2) (p : Fin 4096) (g : Fin 8) (a : Fin 2) (k : Fin 128) :
    val_main_v3 (F := Ideal) x0 x1 (ix5 b p g a k) = ∑ e : Fin 4096, x0 (ix3 b p e) * x1 (ix3 0 e ⟨2048 + (g.val * 256 + a.val * 128 + k.val), by omega⟩) := by
  pointwise [val_main_v3, val_main_v2, val_main_v1, val_main_v0]

theorem result (x0 : Vec Ideal S2x4096x4096 .f32) (x1 : Vec Ideal S1x4096x12288 .f32) (R : Fin 8192) (n : Fin 2048) :
    val_main_v38 (F := Ideal) x0 x1 (ix2 R n) = rope (fun k => proj x0 x1 R ⟨2048 + k.val, by omega⟩) (R.val % 4096) n := by
  pointwise [val_main_v38, val_main_v37, val_main_v36, val_main_v31, val_main_v28, val_main_v30, val_main_v33, val_main_v35, val_main_v25, val_main_v26,
    val_main_v27, val_main_v29, val_main_v32, val_main_v34, val_main_v22, val_main_v24, val_main_v23, val_main_v21]
  simp only [angle_at]
  simp only [u_at]
  unfold rope
  unfold proj
  split_ifs with h
  · refine congrArg₂ (fun a b : EReal => a - b) (congrArg₂ (fun a b : EReal => a * b) (Finset.sum_congr rfl fun e _ => congrArg (fun k => x0 _ * x1 (ix3 0 e k)) (Fin.ext ?_)) rfl)
      (congrArg₂ (fun a b : EReal => a * b) (Finset.sum_congr rfl fun e _ => congrArg (fun k => x0 _ * x1 (ix3 0 e k)) (Fin.ext ?_)) rfl)
    all_goals
      dsimp only
      omega
  all_goals
    refine congrArg₂ (fun a b : EReal => a + b) (congrArg₂ (fun a b : EReal => a * b) (Finset.sum_congr rfl fun e _ => congrArg (fun k => x0 _ * x1 (ix3 0 e k)) (Fin.ext ?_)) rfl)
        (congrArg₂ (fun a b : EReal => a * b) (Finset.sum_congr rfl fun e _ => congrArg (fun k => x0 _ * x1 (ix3 0 e k)) (Fin.ext ?_)) rfl)
    all_goals
      dsimp only
      omega

theorem resultB (x0 : Vec Ideal S2x4096x4096 .f32) (x1 : Vec Ideal S1x4096x12288 .f32) (i : S8192x2048.Idx) :
    val_main_v39 (F := Ideal) x0 x1 i = val_main_v38 (F := Ideal) x0 x1 i := by
  pointwise [val_main_v39]

end Cert.Reference3Ideal.Val
end
-- ==== Proof.DV.lean ====
module

public import proofs.«01_k».proof.Proof.Proj
public import proofs.«01_k».proof.Proof.Gen.Kernel4Ideal.Value
public import Idealize.ShloMosaic.Lib.Pipeline.ValueKit

/-! The projection onto the columns from 4096 on: what its payloads compute and what its blocks hold. -/

@[expose] public section

set_option maxRecDepth 16384

noncomputable section

namespace Cert.Kernel4Ideal.Val

open Cert.Kernel4Ideal Cert.Kernel4Ideal.Gen Cert.Kernel4Ideal.Value Idealize.ShloMosaic Idealize.ShloMosaic.TcCoe Idealize.SL.Sem
open Cert.Layer
variable (m : (ℓ : Loc nD τ sig) → Buf (Elt Ideal) ℓ)

/-- The product of the two blocks, entry by entry. -/
theorem prod_at (x : Vec Ideal S1024x4096 .bf16) (w : Vec Ideal S4096x1024 .bf16) (r n : Fin 1024) :
    k0_pay7 (F := Ideal) x w (ix2 r n) = ∑ e : Fin 4096, x (ix2 r e) * w (ix2 e n) := by
  pointwise [k0_pay7]

theorem idx : ∀ t : Fin cfg0.N, win0_0.index t = ![t.val / 2, 0] ∧ win0_1.index t = ![0, 4 + t.val % 2]
    ∧ win0_4.index t = ![t.val / 2, t.val % 2] ∧ win0_5.index t = ![t.val / 2, t.val % 2] :=
  (by decide +kernel : ∀ t : Fin grid0.N, _)

theorem point_lt (t : Fin cfg0.N) : t.val < 16 := lt_of_lt_of_eq t.isLt N_0

/-- The two arguments. -/
abbrev xs (c : Dev nD) : Vec Ideal S2x4096x4096 .f32 := m ((c : Thread nD τ).loc main_arg0)
abbrev ws (c : Dev nD) : Vec Ideal S1x4096x12288 .f32 := m ((c : Thread nD τ).loc main_arg1)

theorem x_at (c : Dev nD) (t : Fin cfg0.N) (r : Fin 1024) (e : Fin 4096) (R : Fin 8192) (hR : R.val = t.val / 2 * 1024 + r.val) :
    (iblk m c 0 t : Vec Ideal S1024x4096 .bf16) (ix2 r e) = xs m c (ix3 ⟨R.val / 4096, by omega⟩ ⟨R.val % 4096, by omega⟩ e) := by
  blk_point [iblk, V, idx t]

theorem w_at (c : Dev nD) (t : Fin cfg0.N) (e : Fin 4096) (n : Fin 1024) (N : Fin 12288) (hN : N.val = 4096 + (t.val % 2 * 1024 + n.val)) :
    (iblk m c 1 t : Vec Ideal S4096x1024 .bf16) (ix2 e n) = ws m c (ix3 0 e N) := by
  blk_point [iblk, V, idx t]

/-- Each of the two results as a function of the memory at the start. -/
def entry (c : Dev nD) (r : Fin 8192) (n : Fin 2048) : EReal := proj (xs m c) (ws m c) r ⟨4096 + n.val, by omega⟩
def arr (c : Dev nD) : Vec Ideal S8192x2048 .f32 := fun i => entry m c (i 0) (i 1)
def arrB (c : Dev nD) : Vec Ideal S8192x2048 .bf16 := fun i => entry m c (i 0) (i 1)

theorem out_at (x0 : Vec Ideal S1024x4096 .bf16) (x1 : Vec Ideal S4096x1024 .bf16) (x2 x3 : Vec Ideal S1024x128 .f32) (y : S1024x1024.Idx) :
    out0_4 (F := Ideal) x0 x1 x2 x3 y = k0_pay7 (F := Ideal) x0 x1 (ix2 (y 0) (y 1)) := by
  unfold_out out0_4
  frame_out
  refine (canon4_eq _ _ y).trans ?_
  blk_ext

theorem outB_at (x0 : Vec Ideal S1024x4096 .bf16) (x1 : Vec Ideal S4096x1024 .bf16) (x2 x3 : Vec Ideal S1024x128 .f32) (y : S1024x1024.Idx) :
    (out0_5 (F := Ideal) x0 x1 x2 x3 y : EReal) = k0_pay7 (F := Ideal) x0 x1 (ix2 (y 0) (y 1)) := by
  unfold_out out0_5
  frame_out
  refine (canon5_eq _ _ y).trans ?_
  pointwise
  blk_ext

theorem prod_pt (c : Dev nD) (t : Fin cfg0.N) (r n : Fin 1024) (R : Fin 8192) (N : Fin 2048)
    (hR : R.val = t.val / 2 * 1024 + r.val) (hN : N.val = t.val % 2 * 1024 + n.val) :
    k0_pay7 (F := Ideal) (iblk m c 0 t) (iblk m c 1 t) (ix2 r n) = entry m c R N := by
  rw [prod_at]
  unfold entry proj
  refine Finset.sum_congr rfl fun e _ => ?_
  rw [x_at m c t r e R hR, w_at m c t e n ⟨4096 + N.val, by omega⟩ (by show 4096 + N.val = _; omega)]

theorem block_pt (c : Dev nD) (t : Fin cfg0.N) (y : S1024x1024.Idx) (R : Fin 8192) (N : Fin 2048)
    (hR : R.val = t.val / 2 * 1024 + (y 0).val) (hN : N.val = t.val % 2 * 1024 + (y 1).val) :
    out0_4 (F := Ideal) (iblk m c 0 t) (iblk m c 1 t) (iblk m c 2 t) (iblk m c 3 t) y = arr m c (ix2 R N) := by
  rw [out_at]
  exact prod_pt m c t (y 0) (y 1) R N hR hN

theorem block_ptB (c : Dev nD) (t : Fin cfg0.N) (y : S1024x1024.Idx) (R : Fin 8192) (N : Fin 2048)
    (hR : R.val = t.val / 2 * 1024 + (y 0).val) (hN : N.val = t.val % 2 * 1024 + (y 1).val) :
    out0_5 (F := Ideal) (iblk m c 0 t) (iblk m c 1 t) (iblk m c 2 t) (iblk m c 3 t) y = arrB m c (ix2 R N) := by
  rw [outB_at]
  exact prod_pt m c t (y 0) (y 1) R N hR hN

end Cert.Kernel4Ideal.Val
end
-- ==== Proof.DVFinal.lean ====
module

public import proofs.«01_k».proof.Proof.DV

/-! The two arrays after this projection's run, as wholes. -/

@[expose] public section

set_option maxRecDepth 16384

noncomputable section

namespace Cert.Kernel4Ideal.Val

open Cert.Kernel4Ideal Cert.Kernel4Ideal.Gen Idealize.ShloMosaic Idealize.ShloMosaic.TcCoe Idealize.SL.Sem
variable (m : (ℓ : Loc nD τ sig) → Buf (Elt Ideal) ℓ)

theorem final (c : Dev nD) : (dats m 0 c).arrAt 4 cfg0.N = arr m c := by
  refine (dats m 0 c).arrAt_eq_of_covers 4 _ (by decide +kernel) fun t hf y => ?_
  blk_simp
  rw [after0_4]
  have ht := point_lt t
  have e0 : ((y : S1024x1024.Idx) 0).val < 1024 := ((y : S1024x1024.Idx) 0).isLt
  have e1 : ((y : S1024x1024.Idx) 1).val < 1024 := ((y : S1024x1024.Idx) 1).isLt
  refine (block_pt m c t y ⟨t.val / 2 * 1024 + ((y : S1024x1024.Idx) 0).val, by omega⟩ ⟨t.val % 2 * 1024 + ((y : S1024x1024.Idx) 1).val, by omega⟩ rfl rfl).trans ?_
  blk_ext [idx t]

theorem finalB (c : Dev nD) : (dats m 0 c).arrAt 5 cfg0.N = arrB m c := by
  refine (dats m 0 c).arrAt_eq_of_covers 5 _ (by decide +kernel) fun t hf y => ?_
  blk_simp
  rw [after0_5]
  have ht := point_lt t
  have e0 : ((y : S1024x1024.Idx) 0).val < 1024 := ((y : S1024x1024.Idx) 0).isLt
  have e1 : ((y : S1024x1024.Idx) 1).val < 1024 := ((y : S1024x1024.Idx) 1).isLt
  refine (block_ptB m c t y ⟨t.val / 2 * 1024 + ((y : S1024x1024.Idx) 0).val, by omega⟩ ⟨t.val % 2 * 1024 + ((y : S1024x1024.Idx) 1).val, by omega⟩ rfl rfl).trans ?_
  blk_ext [idx t]

end Cert.Kernel4Ideal.Val
end
-- ==== Proof.DVRef.lean ====
module

public import proofs.«01_k».proof.Proof.Proj
public import proofs.«01_k».proof.Proof.Gen.Reference4Ideal.Read

/-! The reference of the projection onto the columns from 4096 on, entry by entry. -/

@[expose] public section

set_option maxRecDepth 16384

noncomputable section

namespace Cert.Reference4Ideal.Val

open Cert.Reference4Ideal Cert.Reference4Ideal.Read Idealize.ShloMosaic
open Cert.Layer

theorem result (x0 : Vec Ideal S2x4096x4096 .f32) (x1 : Vec Ideal S1x4096x12288 .f32) (R : Fin 8192) (n : Fin 2048) :
    val_main_v3 (F := Ideal) x0 x1 (ix2 R n) = proj x0 x1 R ⟨4096 + n.val, by omega⟩ := by
  unfold proj
  pointwise [val_main_v3, val_main_v2, val_main_v1, val_main_v0]
  blk_ext

theorem resultB (x0 : Vec Ideal S2x4096x4096 .f32) (x1 : Vec Ideal S1x4096x12288 .f32) (i : S8192x2048.Idx) :
    val_main_v4 (F := Ideal) x0 x1 i = val_main_v3 (F := Ideal) x0 x1 i := by
  pointwise [val_main_v4]

end Cert.Reference4Ideal.Val
end
-- ==== Proof.SK.lean ====
module

public import proofs.«01_k».proof.Proof.Proj
public import proofs.«01_k».proof.Proof.Gen.Kernel5Ideal.Value
public import Idealize.ShloMosaic.Lib.Pipeline.ValueKit

/-! The projection onto the columns from 8192 on: what its payloads compute and what its blocks hold. -/

@[expose] public section

set_option maxRecDepth 16384

noncomputable section

namespace Cert.Kernel5Ideal.Val

open Cert.Kernel5Ideal Cert.Kernel5Ideal.Gen Cert.Kernel5Ideal.Value Idealize.ShloMosaic Idealize.ShloMosaic.TcCoe Idealize.SL.Sem
open Cert.Layer
variable (m : (ℓ : Loc nD τ sig) → Buf (Elt Ideal) ℓ)

/-- The product of the two blocks, entry by entry. -/
theorem prod_at (x : Vec Ideal S1024x4096 .bf16) (w : Vec Ideal S4096x1024 .bf16) (r n : Fin 1024) :
    k0_pay7 (F := Ideal) x w (ix2 r n) = ∑ e : Fin 4096, x (ix2 r e) * w (ix2 e n) := by
  pointwise [k0_pay7]

theorem idx : ∀ t : Fin cfg0.N, win0_0.index t = ![t.val / 2, 0] ∧ win0_1.index t = ![0, 8 + t.val % 2]
    ∧ win0_4.index t = ![t.val / 2, t.val % 2] ∧ win0_5.index t = ![t.val / 2, t.val % 2] :=
  (by decide +kernel : ∀ t : Fin grid0.N, _)

theorem point_lt (t : Fin cfg0.N) : t.val < 16 := lt_of_lt_of_eq t.isLt N_0

/-- The two arguments. -/
abbrev xs (c : Dev nD) : Vec Ideal S2x4096x4096 .f32 := m ((c : Thread nD τ).loc main_arg0)
abbrev ws (c : Dev nD) : Vec Ideal S1x4096x12288 .f32 := m ((c : Thread nD τ).loc main_arg1)

theorem x_at (c : Dev nD) (t : Fin cfg0.N) (r : Fin 1024) (e : Fin 4096) (R : Fin 8192) (hR : R.val = t.val / 2 * 1024 + r.val) :
    (iblk m c 0 t : Vec Ideal S1024x4096 .bf16) (ix2 r e) = xs m c (ix3 ⟨R.val / 4096, by omega⟩ ⟨R.val % 4096, by omega⟩ e) := by
  blk_point [iblk, V, idx t]

theorem w_at (c : Dev nD) (t : Fin cfg0.N) (e : Fin 4096) (n : Fin 1024) (N : Fin 12288) (hN : N.val = 8192 + (t.val % 2 * 1024 + n.val)) :
    (iblk m c 1 t : Vec Ideal S4096x1024 .bf16) (ix2 e n) = ws m c (ix3 0 e N) := by
  blk_point [iblk, V, idx t]

/-- Each of the two results as a function of the memory at the start. -/
def entry (c : Dev nD) (r : Fin 8192) (n : Fin 2048) : EReal := proj (xs m c) (ws m c) r ⟨8192 + n.val, by omega⟩
def arr (c : Dev nD) : Vec Ideal S8192x2048 .f32 := fun i => entry m c (i 0) (i 1)
def arrB (c : Dev nD) : Vec Ideal S8192x2048 .bf16 := fun i => entry m c (i 0) (i 1)

theorem out_at (x0 : Vec Ideal S1024x4096 .bf16) (x1 : Vec Ideal S4096x1024 .bf16) (x2 x3 : Vec Ideal S1024x128 .f32) (y : S1024x1024.Idx) :
    out0_4 (F := Ideal) x0 x1 x2 x3 y = k0_pay7 (F := Ideal) x0 x1 (ix2 (y 0) (y 1)) := by
  unfold_out out0_4
  frame_out
  refine (canon4_eq _ _ y).trans ?_
  blk_ext

theorem outB_at (x0 : Vec Ideal S1024x4096 .bf16) (x1 : Vec Ideal S4096x1024 .bf16) (x2 x3 : Vec Ideal S1024x128 .f32) (y : S1024x1024.Idx) :
    (out0_5 (F := Ideal) x0 x1 x2 x3 y : EReal) = k0_pay7 (F := Ideal) x0 x1 (ix2 (y 0) (y 1)) := by
  unfold_out out0_5
  frame_out
  refine (canon5_eq _ _ y).trans ?_
  pointwise
  blk_ext

theorem prod_pt (c : Dev nD) (t : Fin cfg0.N) (r n : Fin 1024) (R : Fin 8192) (N : Fin 2048)
    (hR : R.val = t.val / 2 * 1024 + r.val) (hN : N.val = t.val % 2 * 1024 + n.val) :
    k0_pay7 (F := Ideal) (iblk m c 0 t) (iblk m c 1 t) (ix2 r n) = entry m c R N := by
  rw [prod_at]
  unfold entry proj
  refine Finset.sum_congr rfl fun e _ => ?_
  rw [x_at m c t r e R hR, w_at m c t e n ⟨8192 + N.val, by omega⟩ (by show 8192 + N.val = _; omega)]

theorem block_pt (c : Dev nD) (t : Fin cfg0.N) (y : S1024x1024.Idx) (R : Fin 8192) (N : Fin 2048)
    (hR : R.val = t.val / 2 * 1024 + (y 0).val) (hN : N.val = t.val % 2 * 1024 + (y 1).val) :
    out0_4 (F := Ideal) (iblk m c 0 t) (iblk m c 1 t) (iblk m c 2 t) (iblk m c 3 t) y = arr m c (ix2 R N) := by
  rw [out_at]
  exact prod_pt m c t (y 0) (y 1) R N hR hN

theorem block_ptB (c : Dev nD) (t : Fin cfg0.N) (y : S1024x1024.Idx) (R : Fin 8192) (N : Fin 2048)
    (hR : R.val = t.val / 2 * 1024 + (y 0).val) (hN : N.val = t.val % 2 * 1024 + (y 1).val) :
    out0_5 (F := Ideal) (iblk m c 0 t) (iblk m c 1 t) (iblk m c 2 t) (iblk m c 3 t) y = arrB m c (ix2 R N) := by
  rw [outB_at]
  exact prod_pt m c t (y 0) (y 1) R N hR hN

end Cert.Kernel5Ideal.Val
end
-- ==== Proof.SKFinal.lean ====
module

public import proofs.«01_k».proof.Proof.SK

/-! The two arrays after this projection's run, as wholes. -/

@[expose] public section

set_option maxRecDepth 16384

noncomputable section

namespace Cert.Kernel5Ideal.Val

open Cert.Kernel5Ideal Cert.Kernel5Ideal.Gen Idealize.ShloMosaic Idealize.ShloMosaic.TcCoe Idealize.SL.Sem
variable (m : (ℓ : Loc nD τ sig) → Buf (Elt Ideal) ℓ)

theorem final (c : Dev nD) : (dats m 0 c).arrAt 4 cfg0.N = arr m c := by
  refine (dats m 0 c).arrAt_eq_of_covers 4 _ (by decide +kernel) fun t hf y => ?_
  blk_simp
  rw [after0_4]
  have ht := point_lt t
  have e0 : ((y : S1024x1024.Idx) 0).val < 1024 := ((y : S1024x1024.Idx) 0).isLt
  have e1 : ((y : S1024x1024.Idx) 1).val < 1024 := ((y : S1024x1024.Idx) 1).isLt
  refine (block_pt m c t y ⟨t.val / 2 * 1024 + ((y : S1024x1024.Idx) 0).val, by omega⟩ ⟨t.val % 2 * 1024 + ((y : S1024x1024.Idx) 1).val, by omega⟩ rfl rfl).trans ?_
  blk_ext [idx t]

theorem finalB (c : Dev nD) : (dats m 0 c).arrAt 5 cfg0.N = arrB m c := by
  refine (dats m 0 c).arrAt_eq_of_covers 5 _ (by decide +kernel) fun t hf y => ?_
  blk_simp
  rw [after0_5]
  have ht := point_lt t
  have e0 : ((y : S1024x1024.Idx) 0).val < 1024 := ((y : S1024x1024.Idx) 0).isLt
  have e1 : ((y : S1024x1024.Idx) 1).val < 1024 := ((y : S1024x1024.Idx) 1).isLt
  refine (block_ptB m c t y ⟨t.val / 2 * 1024 + ((y : S1024x1024.Idx) 0).val, by omega⟩ ⟨t.val % 2 * 1024 + ((y : S1024x1024.Idx) 1).val, by omega⟩ rfl rfl).trans ?_
  blk_ext [idx t]

end Cert.Kernel5Ideal.Val
end
-- ==== Proof.SKRef.lean ====
module

public import proofs.«01_k».proof.Proof.Proj
public import proofs.«01_k».proof.Proof.Gen.Reference5Ideal.Read

/-! The reference of the projection onto the columns from 8192 on, entry by entry. -/

@[expose] public section

set_option maxRecDepth 16384

noncomputable section

namespace Cert.Reference5Ideal.Val

open Cert.Reference5Ideal Cert.Reference5Ideal.Read Idealize.ShloMosaic
open Cert.Layer

theorem result (x0 : Vec Ideal S2x4096x4096 .f32) (x1 : Vec Ideal S1x4096x12288 .f32) (R : Fin 8192) (n : Fin 2048) :
    val_main_v3 (F := Ideal) x0 x1 (ix2 R n) = proj x0 x1 R ⟨8192 + n.val, by omega⟩ := by
  unfold proj
  pointwise [val_main_v3, val_main_v2, val_main_v1, val_main_v0]
  blk_ext

theorem resultB (x0 : Vec Ideal S2x4096x4096 .f32) (x1 : Vec Ideal S1x4096x12288 .f32) (i : S8192x2048.Idx) :
    val_main_v4 (F := Ideal) x0 x1 i = val_main_v3 (F := Ideal) x0 x1 i := by
  pointwise [val_main_v4]

end Cert.Reference5Ideal.Val
end
-- ==== Proof.SV.lean ====
module

public import proofs.«01_k».proof.Proof.Proj
public import proofs.«01_k».proof.Proof.Gen.Kernel6Ideal.Value
public import Idealize.ShloMosaic.Lib.Pipeline.ValueKit

/-! The projection onto the columns from 10240 on: what its payloads compute and what its blocks hold. -/

@[expose] public section

set_option maxRecDepth 16384

noncomputable section

namespace Cert.Kernel6Ideal.Val

open Cert.Kernel6Ideal Cert.Kernel6Ideal.Gen Cert.Kernel6Ideal.Value Idealize.ShloMosaic Idealize.ShloMosaic.TcCoe Idealize.SL.Sem
open Cert.Layer
variable (m : (ℓ : Loc nD τ sig) → Buf (Elt Ideal) ℓ)

/-- The product of the two blocks, entry by entry. -/
theorem prod_at (x : Vec Ideal S1024x4096 .bf16) (w : Vec Ideal S4096x1024 .bf16) (r n : Fin 1024) :
    k0_pay7 (F := Ideal) x w (ix2 r n) = ∑ e : Fin 4096, x (ix2 r e) * w (ix2 e n) := by
  pointwise [k0_pay7]

theorem idx : ∀ t : Fin cfg0.N, win0_0.index t = ![t.val / 2, 0] ∧ win0_1.index t = ![0, 10 + t.val % 2]
    ∧ win0_4.index t = ![t.val / 2, t.val % 2] ∧ win0_5.index t = ![t.val / 2, t.val % 2] :=
  (by decide +kernel : ∀ t : Fin grid0.N, _)

theorem point_lt (t : Fin cfg0.N) : t.val < 16 := lt_of_lt_of_eq t.isLt N_0

/-- The two arguments. -/
abbrev xs (c : Dev nD) : Vec Ideal S2x4096x4096 .f32 := m ((c : Thread nD τ).loc main_arg0)
abbrev ws (c : Dev nD) : Vec Ideal S1x4096x12288 .f32 := m ((c : Thread nD τ).loc main_arg1)

theorem x_at (c : Dev nD) (t : Fin cfg0.N) (r : Fin 1024) (e : Fin 4096) (R : Fin 8192) (hR : R.val = t.val / 2 * 1024 + r.val) :
    (iblk m c 0 t : Vec Ideal S1024x4096 .bf16) (ix2 r e) = xs m c (ix3 ⟨R.val / 4096, by omega⟩ ⟨R.val % 4096, by omega⟩ e) := by
  blk_point [iblk, V, idx t]

theorem w_at (c : Dev nD) (t : Fin cfg0.N) (e : Fin 4096) (n : Fin 1024) (N : Fin 12288) (hN : N.val = 10240 + (t.val % 2 * 1024 + n.val)) :
    (iblk m c 1 t : Vec Ideal S4096x1024 .bf16) (ix2 e n) = ws m c (ix3 0 e N) := by
  blk_point [iblk, V, idx t]

/-- Each of the two results as a function of the memory at the start. -/
def entry (c : Dev nD) (r : Fin 8192) (n : Fin 2048) : EReal := proj (xs m c) (ws m c) r ⟨10240 + n.val, by omega⟩
def arr (c : Dev nD) : Vec Ideal S8192x2048 .f32 := fun i => entry m c (i 0) (i 1)
def arrB (c : Dev nD) : Vec Ideal S8192x2048 .bf16 := fun i => entry m c (i 0) (i 1)

theorem out_at (x0 : Vec Ideal S1024x4096 .bf16) (x1 : Vec Ideal S4096x1024 .bf16) (x2 x3 : Vec Ideal S1024x128 .f32) (y : S1024x1024.Idx) :
    out0_4 (F := Ideal) x0 x1 x2 x3 y = k0_pay7 (F := Ideal) x0 x1 (ix2 (y 0) (y 1)) := by
  unfold_out out0_4
  frame_out
  refine (canon4_eq _ _ y).trans ?_
  blk_ext

theorem outB_at (x0 : Vec Ideal S1024x4096 .bf16) (x1 : Vec Ideal S4096x1024 .bf16) (x2 x3 : Vec Ideal S1024x128 .f32) (y : S1024x1024.Idx) :
    (out0_5 (F := Ideal) x0 x1 x2 x3 y : EReal) = k0_pay7 (F := Ideal) x0 x1 (ix2 (y 0) (y 1)) := by
  unfold_out out0_5
  frame_out
  refine (canon5_eq _ _ y).trans ?_
  pointwise
  blk_ext

theorem prod_pt (c : Dev nD) (t : Fin cfg0.N) (r n : Fin 1024) (R : Fin 8192) (N : Fin 2048)
    (hR : R.val = t.val / 2 * 1024 + r.val) (hN : N.val = t.val % 2 * 1024 + n.val) :
    k0_pay7 (F := Ideal) (iblk m c 0 t) (iblk m c 1 t) (ix2 r n) = entry m c R N := by
  rw [prod_at]
  unfold entry proj
  refine Finset.sum_congr rfl fun e _ => ?_
  rw [x_at m c t r e R hR, w_at m c t e n ⟨10240 + N.val, by omega⟩ (by show 10240 + N.val = _; omega)]

theorem block_pt (c : Dev nD) (t : Fin cfg0.N) (y : S1024x1024.Idx) (R : Fin 8192) (N : Fin 2048)
    (hR : R.val = t.val / 2 * 1024 + (y 0).val) (hN : N.val = t.val % 2 * 1024 + (y 1).val) :
    out0_4 (F := Ideal) (iblk m c 0 t) (iblk m c 1 t) (iblk m c 2 t) (iblk m c 3 t) y = arr m c (ix2 R N) := by
  rw [out_at]
  exact prod_pt m c t (y 0) (y 1) R N hR hN

theorem block_ptB (c : Dev nD) (t : Fin cfg0.N) (y : S1024x1024.Idx) (R : Fin 8192) (N : Fin 2048)
    (hR : R.val = t.val / 2 * 1024 + (y 0).val) (hN : N.val = t.val % 2 * 1024 + (y 1).val) :
    out0_5 (F := Ideal) (iblk m c 0 t) (iblk m c 1 t) (iblk m c 2 t) (iblk m c 3 t) y = arrB m c (ix2 R N) := by
  rw [outB_at]
  exact prod_pt m c t (y 0) (y 1) R N hR hN

end Cert.Kernel6Ideal.Val
end
-- ==== Proof.SVFinal.lean ====
module

public import proofs.«01_k».proof.Proof.SV

/-! The two arrays after this projection's run, as wholes. -/

@[expose] public section

set_option maxRecDepth 16384

noncomputable section

namespace Cert.Kernel6Ideal.Val

open Cert.Kernel6Ideal Cert.Kernel6Ideal.Gen Idealize.ShloMosaic Idealize.ShloMosaic.TcCoe Idealize.SL.Sem
variable (m : (ℓ : Loc nD τ sig) → Buf (Elt Ideal) ℓ)

theorem final (c : Dev nD) : (dats m 0 c).arrAt 4 cfg0.N = arr m c := by
  refine (dats m 0 c).arrAt_eq_of_covers 4 _ (by decide +kernel) fun t hf y => ?_
  blk_simp
  rw [after0_4]
  have ht := point_lt t
  have e0 : ((y : S1024x1024.Idx) 0).val < 1024 := ((y : S1024x1024.Idx) 0).isLt
  have e1 : ((y : S1024x1024.Idx) 1).val < 1024 := ((y : S1024x1024.Idx) 1).isLt
  refine (block_pt m c t y ⟨t.val / 2 * 1024 + ((y : S1024x1024.Idx) 0).val, by omega⟩ ⟨t.val % 2 * 1024 + ((y : S1024x1024.Idx) 1).val, by omega⟩ rfl rfl).trans ?_
  blk_ext [idx t]

theorem finalB (c : Dev nD) : (dats m 0 c).arrAt 5 cfg0.N = arrB m c := by
  refine (dats m 0 c).arrAt_eq_of_covers 5 _ (by decide +kernel) fun t hf y => ?_
  blk_simp
  rw [after0_5]
  have ht := point_lt t
  have e0 : ((y : S1024x1024.Idx) 0).val < 1024 := ((y : S1024x1024.Idx) 0).isLt
  have e1 : ((y : S1024x1024.Idx) 1).val < 1024 := ((y : S1024x1024.Idx) 1).isLt
  refine (block_ptB m c t y ⟨t.val / 2 * 1024 + ((y : S1024x1024.Idx) 0).val, by omega⟩ ⟨t.val % 2 * 1024 + ((y : S1024x1024.Idx) 1).val, by omega⟩ rfl rfl).trans ?_
  blk_ext [idx t]

end Cert.Kernel6Ideal.Val
end
-- ==== Proof.SVRef.lean ====
module

public import proofs.«01_k».proof.Proof.Proj
public import proofs.«01_k».proof.Proof.Gen.Reference6Ideal.Read

/-! The reference of the projection onto the columns from 10240 on, entry by entry. -/

@[expose] public section

set_option maxRecDepth 16384

noncomputable section

namespace Cert.Reference6Ideal.Val

open Cert.Reference6Ideal Cert.Reference6Ideal.Read Idealize.ShloMosaic
open Cert.Layer

theorem result (x0 : Vec Ideal S2x4096x4096 .f32) (x1 : Vec Ideal S1x4096x12288 .f32) (R : Fin 8192) (n : Fin 2048) :
    val_main_v3 (F := Ideal) x0 x1 (ix2 R n) = proj x0 x1 R ⟨10240 + n.val, by omega⟩ := by
  unfold proj
  pointwise [val_main_v3, val_main_v2, val_main_v1, val_main_v0]
  blk_ext

theorem resultB (x0 : Vec Ideal S2x4096x4096 .f32) (x1 : Vec Ideal S1x4096x12288 .f32) (i : S8192x2048.Idx) :
    val_main_v4 (F := Ideal) x0 x1 i = val_main_v3 (F := Ideal) x0 x1 i := by
  pointwise [val_main_v4]

end Cert.Reference6Ideal.Val
end
-- ==== Proof.PR.lean ====
module

public import proofs.«01_k».proof.Proof.Proj
public import proofs.«01_k».proof.Proof.Gen.Kernel7Ideal.Value
public import Idealize.ShloMosaic.Lib.Pipeline.ValueKit

/-! The sample group's projection onto all six sections: what its payloads compute. -/

@[expose] public section

set_option maxRecDepth 16384

noncomputable section

namespace Cert.Kernel7Ideal.Val

open Cert.Kernel7Ideal Cert.Kernel7Ideal.Gen Idealize.ShloMosaic Idealize.ShloMosaic.TcCoe Idealize.SL.Sem
open Cert.Layer

/-- Column `n`'s place in its 128 columns, and the column half a head away in them. -/
def lane (n : Fin 1024) : Fin 128 := ⟨n.val % 128, Nat.mod_lt _ (by decide)⟩
def half (n : Fin 1024) : Fin 1024 := ⟨n.val / 128 * 128 + (n.val % 128 + 64) % 128, by omega⟩

/-- The product of the two blocks, entry by entry. -/
theorem prod_at (x : Vec Ideal S32x4096 .bf16) (w : Vec Ideal S4096x1024 .bf16) (r : Fin 32) (n : Fin 1024) :
    k0_pay2 (F := Ideal) x w (ix2 r n) = ∑ e : Fin 4096, x (ix2 r e) * w (ix2 e n) := by
  pointwise [k0_pay2]

/-- What a block holds where the columns are turned: each product times its cosine, plus the product half a head away times its sine. -/
def turn (u : Vec Ideal S32x1024 .f32) (co si : Vec Ideal S32x128 .f32) (r : Fin 32) (n : Fin 1024) : EReal :=
  u (ix2 r n) * co (ix2 r (lane n)) + u (ix2 r (half n)) * si (ix2 r (lane n))

theorem out_at (i : grid0.Coords) (x0 : Vec Ideal S32x4096 .bf16) (x1 : Vec Ideal S4096x1024 .bf16) (x2 x3 : Vec Ideal S32x128 .f32) (y : S32x1024.Idx) :
    out0_4 (F := Ideal) i x0 x1 x2 x3 y = Scalar.select (Scalar.cmpi .slt (BitVec.ofNat 32 (i 0).val) 4#32)
      (turn (k0_pay2 (F := Ideal) x0 x1) x2 x3 (y 0) (y 1)) (k0_pay2 (F := Ideal) x0 x1 (ix2 (y 0) (y 1))) * k0_pay3 (F := Ideal) i := by
  unfold_out out0_4
  frame_out
  canon_tiles x h
  all_goals
    open_payloads
    unfold turn lane half
    pointwise
    generalize k0_pay2 (F := Ideal) x0 x1 = u
    refine congrArg (fun a : EReal => a * k0_pay3 (F := Ideal) i) (congrArg₂ (Scalar.select (Scalar.cmpi .slt (BitVec.ofNat 32 (i 0).val) 4#32))
      (congrArg₂ (fun a b : EReal => a + b) (congrArg₂ (fun a b : EReal => a * b) ?_ ?_) (congrArg₂ (fun a b : EReal => a * b) ?_ ?_)) ?_) <;> blk_ext

theorem idx : ∀ t : Fin cfg0.N, win0_0.index t = ![0, 0] ∧ win0_1.index t = ![0, t.val]
    ∧ win0_2.index t = ![0, 0] ∧ win0_3.index t = ![0, 0] ∧ win0_4.index t = ![0, t.val] :=
  (by decide +kernel : ∀ t : Fin grid0.N, _)

theorem point_lt (t : Fin cfg0.N) : t.val < 12 := lt_of_lt_of_eq t.isLt N_0

/-- Which blocks are turned, and which are scaled by which constant. -/
theorem turned : ∀ t : Fin cfg0.N, Scalar.cmpi .slt (BitVec.ofNat 32 (grid0.coords t 0).val) 4#32 = if t.val < 4 then 1#1 else 0#1 :=
  (by decide +kernel : ∀ t : Fin grid0.N, _)
theorem scaledA : ∀ t : Fin cfg0.N, Scalar.andi (Scalar.cmpi .sge (BitVec.ofNat 32 (grid0.coords t 0).val) 0#32)
    (Scalar.cmpi .slt (BitVec.ofNat 32 (grid0.coords t 0).val) 2#32) = if t.val < 2 then 1#1 else 0#1 :=
  (by decide +kernel : ∀ t : Fin grid0.N, _)
theorem scaledB : ∀ t : Fin cfg0.N, Scalar.andi (Scalar.cmpi .sge (BitVec.ofNat 32 (grid0.coords t 0).val) 6#32)
    (Scalar.cmpi .slt (BitVec.ofNat 32 (grid0.coords t 0).val) 8#32) = if 6 ≤ t.val ∧ t.val < 8 then 1#1 else 0#1 :=
  (by decide +kernel : ∀ t : Fin grid0.N, _)

/-- The constant by which column `n` of the 12288 is scaled. -/
theorem scale_at (t : Fin cfg0.N) (n : Fin 12288) (hn : n.val / 1024 = t.val) : k0_pay3 (F := Ideal) (grid0.coords t) = colScale n := by
  unfold k0_pay3 colScale
  dsimp only
  rw [scaledA, scaledB]
  have one : Ideal.ofBits FTy.f32 0x3F800000#32 = 1 := by
    simp [Ideal.ofBits, Ideal.ieee, -EReal.coe_mul]
    norm_num
  split_ifs <;> first | rfl | exact one | (exfalso; omega)

variable (m : (ℓ : Loc nD τ sig) → Buf (Elt Ideal) ℓ)

/-- The two arguments. -/
abbrev xs (c : Dev nD) : Vec Ideal S32x1x4096 .f32 := m ((c : Thread nD τ).loc main_arg0)
abbrev ws (c : Dev nD) : Vec Ideal S1x4096x12288 .f32 := m ((c : Thread nD τ).loc main_arg1)

theorem x_at (c : Dev nD) (t : Fin cfg0.N) (r : Fin 32) (e : Fin 4096) :
    (iblk m c 0 t : Vec Ideal S32x4096 .bf16) (ix2 r e) = xs m c (ix3 r 0 e) := by
  blk_point [iblk, V, idx t]

theorem w_at (c : Dev nD) (t : Fin cfg0.N) (e : Fin 4096) (n : Fin 1024) (N : Fin 12288) (hN : N.val = t.val * 1024 + n.val) :
    (iblk m c 1 t : Vec Ideal S4096x1024 .bf16) (ix2 e n) = ws m c (ix3 0 e N) := by
  blk_point [iblk, V, idx t]

theorem cos_blk (c : Dev nD) (t : Fin cfg0.N) (r : Fin 32) (k : Fin 128) :
    (iblk m c 2 t : Vec Ideal S32x128 .f32) (ix2 r k) = (V m c main_v19 : Vec Ideal S32x128 .f32) (ix2 r k) := by
  blk_ext [iblk, idx t]

theorem cos_at (c : Dev nD) (t : Fin cfg0.N) (r : Fin 32) (k : Fin 128) :
    (iblk m c 2 t : Vec Ideal S32x128 .f32) (ix2 r k) = if k.val < 64 then Ideal.cos (angle 8192 k.val) else Ideal.cos (angle 8192 (k.val - 64)) := by
  rw [cos_blk m c t r k]
  unfold angle V
  after_results
  pointwise
  split_ifs <;> rfl

theorem sin_blk (c : Dev nD) (t : Fin cfg0.N) (r : Fin 32) (k : Fin 128) :
    (iblk m c 3 t : Vec Ideal S32x128 .f32) (ix2 r k) = (V m c main_v21 : Vec Ideal S32x128 .f32) (ix2 r k) := by
  blk_ext [iblk, idx t]

theorem sin_at (c : Dev nD) (t : Fin cfg0.N) (r : Fin 32) (k : Fin 128) :
    (iblk m c 3 t : Vec Ideal S32x128 .f32) (ix2 r k) = if k.val < 64 then -Ideal.sin (angle 8192 k.val) else Ideal.sin (angle 8192 (k.val - 64)) := by
  rw [sin_blk m c t r k]
  unfold angle V
  after_results
  pointwise
  split_ifs <;> rfl

/-- The result as a function of the memory at the start. -/
def arr (c : Dev nD) : Vec Ideal S32x12288 .f32 := fun i => sections (fun n => row (xs m c) (ws m c) (i 0) n) 8192 (i 1)

theorem prod_pt (c : Dev nD) (t : Fin cfg0.N) (r : Fin 32) (n : Fin 1024) (N : Fin 12288) (hN : N.val = t.val * 1024 + n.val) :
    k0_pay2 (F := Ideal) (iblk m c 0 t) (iblk m c 1 t) (ix2 r n) = row (xs m c) (ws m c) r N := by
  rw [prod_at]
  unfold row
  refine Finset.sum_congr rfl fun e _ => ?_
  rw [x_at m c t r e, w_at m c t e n N hN]

theorem turn_pt (c : Dev nD) (t : Fin cfg0.N) (r : Fin 32) (n : Fin 1024) (N : Fin 12288) (hN : N.val = t.val * 1024 + n.val) :
    turn (k0_pay2 (F := Ideal) (iblk m c 0 t) (iblk m c 1 t)) (iblk m c 2 t) (iblk m c 3 t) r n = ropeAll (fun k => row (xs m c) (ws m c) r k) 8192 N := by
  have ht := point_lt t
  have hn := n.isLt
  have hk : (lane n).val = N.val % 128 := by
    show n.val % 128 = N.val % 128
    omega
  unfold turn ropeAll
  rw [cos_at m c t r (lane n), sin_at m c t r (lane n), prod_pt m c t r n N hN, hk]
  by_cases h : N.val % 128 < 64
  · rw [if_pos h, if_pos h, dif_pos h, prod_pt m c t r (half n) ⟨N.val + 64, by omega⟩ (by
      show N.val + 64 = t.val * 1024 + (n.val / 128 * 128 + (n.val % 128 + 64) % 128)
      omega), mul_neg, sub_eq_add_neg]
  · rw [if_neg h, if_neg h, dif_neg h, prod_pt m c t r (half n) ⟨N.val - 64, by omega⟩ (by
      show N.val - 64 = t.val * 1024 + (n.val / 128 * 128 + (n.val % 128 + 64) % 128)
      omega)]

theorem block_pt (c : Dev nD) (t : Fin cfg0.N) (y : S32x1024.Idx) (R : Fin 32) (N : Fin 12288)
    (hR : R.val = (y 0).val) (hN : N.val = t.val * 1024 + (y 1).val) :
    out0_4 (F := Ideal) (grid0.coords t) (iblk m c 0 t) (iblk m c 1 t) (iblk m c 2 t) (iblk m c 3 t) y = arr m c (ix2 R N) := by
  obtain rfl : R = y 0 := Fin.ext hR
  have hy : (y 1).val < 1024 := (y 1).isLt
  rw [out_at, turn_pt m c t (y 0) (y 1) N hN, prod_pt m c t (y 0) (y 1) N hN, scale_at t N (by omega), turned]
  show _ = sections (fun n => row (xs m c) (ws m c) (y 0) n) 8192 N
  unfold sections
  by_cases h : t.val < 4
  · rw [if_pos h, if_pos (show N.val < 4096 by omega)]
    rfl
  · rw [if_neg h, if_neg (show ¬ N.val < 4096 by omega)]
    rfl

end Cert.Kernel7Ideal.Val
end
-- ==== Proof.PRFinal.lean ====
module

public import proofs.«01_k».proof.Proof.PR

/-! The array after this projection's run, as a whole. -/

@[expose] public section

set_option maxRecDepth 16384

noncomputable section

namespace Cert.Kernel7Ideal.Val

open Cert.Kernel7Ideal Cert.Kernel7Ideal.Gen Idealize.ShloMosaic Idealize.ShloMosaic.TcCoe Idealize.SL.Sem
variable (m : (ℓ : Loc nD τ sig) → Buf (Elt Ideal) ℓ)

theorem final (c : Dev nD) : (dats m 0 c).arrAt 4 cfg0.N = arr m c := by
  refine (dats m 0 c).arrAt_eq_of_covers 4 _ (by decide +kernel) fun t hf y => ?_
  blk_simp
  rw [after0_4]
  have ht := point_lt t
  have e0 : ((y : S32x1024.Idx) 0).val < 32 := ((y : S32x1024.Idx) 0).isLt
  have e1 : ((y : S32x1024.Idx) 1).val < 1024 := ((y : S32x1024.Idx) 1).isLt
  refine (block_pt m c t y ⟨((y : S32x1024.Idx) 0).val, by omega⟩ ⟨t.val * 1024 + ((y : S32x1024.Idx) 1).val, by omega⟩ rfl rfl).trans ?_
  blk_ext [idx t]

end Cert.Kernel7Ideal.Val
end
-- ==== Proof.PRRef.lean ====
module

public import proofs.«01_k».proof.Proof.Proj
public import proofs.«01_k».proof.Proof.Gen.Reference7Ideal.Read

/-! The reference of the sample group's projection, entry by entry. -/

@[expose] public section

set_option maxRecDepth 16384

noncomputable section

namespace Cert.Reference7Ideal.Val

open Cert.Reference7Ideal Cert.Reference7Ideal.Read Idealize.ShloMosaic
open Cert.Layer

theorem angle_at (p : Fin 1) (j : Fin 64) : val_main_v21 (F := Ideal) (ix2 p j) = angle 8192 j.val := by
  obtain rfl : p = 0 := Subsingleton.elim _ _
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_c, val_main_cst, val_main_cst_0, val_main_cst_1, val_main_cst_2]
  rfl

theorem u_at (x0 : Vec Ideal S32x1x4096 .f32) (x1 : Vec Ideal S1x4096x12288 .f32) (b : Fin 32) (p : Fin 1) (g : Fin 16) (a : Fin 2) (k : Fin 128) :
    val_main_v3 (F := Ideal) x0 x1 (ix5 b p g a k) = ∑ e : Fin 4096, x0 (ix3 b 0 e) * x1 (ix3 0 e ⟨g.val * 256 + a.val * 128 + k.val, by omega⟩) := by
  obtain rfl : p = 0 := Subsingleton.elim _ _
  pointwise [val_main_v3, val_main_v2, val_main_v1, val_main_v0]

theorem turn_at (x0 : Vec Ideal S32x1x4096 .f32) (x1 : Vec Ideal S1x4096x12288 .f32) (r : Fin 32) (n : Fin 4096) :
    val_main_v39 (F := Ideal) x0 x1 (ix2 r n) = ropeAll (fun k => row x0 x1 r k) 8192 ⟨n.val, by omega⟩ := by
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22]
  simp only [angle_at]
  simp only [u_at]
  unfold ropeAll
  unfold row
  split_ifs with h
  · refine congrArg₂ (fun a b : EReal => a - b) (congrArg₂ (fun a b : EReal => a * b) (Finset.sum_congr rfl fun e _ => congrArg (fun k => x0 _ * x1 (ix3 0 e k)) (Fin.ext ?_)) rfl)
      (congrArg₂ (fun a b : EReal => a * b) (Finset.sum_congr rfl fun e _ => congrArg (fun k => x0 _ * x1 (ix3 0 e k)) (Fin.ext ?_)) rfl)
    all_goals
      dsimp only
      omega
  all_goals
    refine congrArg₂ (fun a b : EReal => a + b) (congrArg₂ (fun a b : EReal => a * b) (Finset.sum_congr rfl fun e _ => congrArg (fun k => x0 _ * x1 (ix3 0 e k)) (Fin.ext ?_)) rfl)
        (congrArg₂ (fun a b : EReal => a * b) (Finset.sum_congr rfl fun e _ => congrArg (fun k => x0 _ * x1 (ix3 0 e k)) (Fin.ext ?_)) rfl)
    all_goals
      dsimp only
      omega

theorem plain_at (x0 : Vec Ideal S32x1x4096 .f32) (x1 : Vec Ideal S1x4096x12288 .f32) (r : Fin 32) (n : Fin 12288) :
    val_main_v40 (F := Ideal) x0 x1 (ix2 r n) = row x0 x1 r n := by
  unfold row
  pointwise [val_main_v40, val_main_v1, val_main_v0]

theorem result (x0 : Vec Ideal S32x1x4096 .f32) (x1 : Vec Ideal S1x4096x12288 .f32) (r : Fin 32) (n : Fin 12288) :
    val_main_v50 (F := Ideal) x0 x1 (ix2 r n) = sections (fun k => row x0 x1 r k) 8192 n := by
  pointwise [val_main_v50, val_main_v49, val_main_v48, val_main_v47, val_main_v46, val_main_v45, val_main_v44, val_main_v43, val_main_v42, val_main_v41, val_main_cst_3, val_main_cst_4]
  simp only [turn_at]
  simp only [plain_at]
  unfold sections colScale
  split_ifs <;> first | (exfalso; omega) | skip
  · rw [if_pos (show n.val < 4096 by omega), if_neg (show ¬ (6144 ≤ n.val ∧ n.val < 8192) by omega)]
  · rw [if_pos (show n.val < 4096 by omega), if_neg (show ¬ (6144 ≤ n.val ∧ n.val < 8192) by omega), mul_one]
    exact congrArg (ropeAll _ 8192) (Fin.ext (by dsimp only; omega))
  · rw [if_neg (show ¬ n.val < 4096 by omega), if_neg (show ¬ (6144 ≤ n.val ∧ n.val < 8192) by omega), mul_one]
    exact congrArg (row x0 x1 r) (Fin.ext (by dsimp only; omega))
  · rw [if_neg (show ¬ n.val < 4096 by omega), if_pos (show 6144 ≤ n.val ∧ n.val < 8192 by omega)]
    exact congrArg (fun k => row x0 x1 r k * Ideal.ofBits FTy.f32 1035273459#32) (Fin.ext (by dsimp only; omega))
  · rw [if_neg (show ¬ n.val < 4096 by omega), if_neg (show ¬ (6144 ≤ n.val ∧ n.val < 8192) by omega), mul_one]
    exact congrArg (row x0 x1 r) (Fin.ext (by dsimp only; omega))

end Cert.Reference7Ideal.Val
end
-- ==== Proof.DQ.lean ====
module

public import proofs.«01_k».proof.Proof.Proj
public import proofs.«01_k».proof.Proof.Gen.Kernel8Ideal.Value
public import Idealize.ShloMosaic.Lib.Pipeline.ValueKit

/-! The projection onto the first queries' columns, with the rotation by position and the scale: what its payloads compute. -/

@[expose] public section

set_option maxRecDepth 16384

noncomputable section

namespace Cert.Kernel8Ideal.Val

open Cert.Kernel8Ideal Cert.Kernel8Ideal.Gen Idealize.ShloMosaic Idealize.ShloMosaic.TcCoe Idealize.SL.Sem
open Cert.Layer

/-- Column `n`'s place in its 128 columns, and the column half a head away in them. -/
def lane (n : Fin 1024) : Fin 128 := ⟨n.val % 128, Nat.mod_lt _ (by decide)⟩
def half (n : Fin 1024) : Fin 1024 := ⟨n.val / 128 * 128 + (n.val % 128 + 64) % 128, by omega⟩

/-- The product of the two blocks, entry by entry. -/
theorem prod_at (x : Vec Ideal S1024x4096 .bf16) (w : Vec Ideal S4096x1024 .bf16) (r n : Fin 1024) :
    k0_pay2 (F := Ideal) x w (ix2 r n) = ∑ e : Fin 4096, x (ix2 r e) * w (ix2 e n) := by
  pointwise [k0_pay2]

/-- What a block holds: each product times its cosine, plus the product half a head away times its sine. -/
def turn (u : Vec Ideal S1024x1024 .f32) (co si : Vec Ideal S1024x128 .f32) (r n : Fin 1024) : EReal :=
  u (ix2 r n) * co (ix2 r (lane n)) + u (ix2 r (half n)) * si (ix2 r (lane n))

theorem out_at (x0 : Vec Ideal S1024x4096 .bf16) (x1 : Vec Ideal S4096x1024 .bf16) (x2 x3 : Vec Ideal S1024x128 .f32) (y : S1024x1024.Idx) :
    (out0_4 (F := Ideal) x0 x1 x2 x3 y : EReal) = turn (k0_pay2 (F := Ideal) x0 x1) x2 x3 (y 0) (y 1) * scaleA := by
  unfold_out out0_4
  frame_out
  canon_tiles x h
  all_goals
    open_payloads
    unfold turn lane half scaleA
    pointwise
    generalize k0_pay2 (F := Ideal) x0 x1 = u
    refine congrArg (fun a : EReal => a * Ideal.ofBits FTy.f32 0x3E0293EE#32) (congrArg₂ (fun a b : EReal => a + b) (congrArg₂ (fun a b : EReal => a * b) ?_ ?_) (congrArg₂ (fun a b : EReal => a * b) ?_ ?_)) <;> blk_ext

theorem idx : ∀ t : Fin cfg0.N, win0_0.index t = ![t.val / 2, 0] ∧ win0_1.index t = ![0, t.val % 2]
    ∧ win0_2.index t = ![t.val / 2 % 4, 0] ∧ win0_3.index t = ![t.val / 2 % 4, 0]
    ∧ win0_4.index t = ![t.val / 2, t.val % 2] :=
  (by decide +kernel : ∀ t : Fin grid0.N, _)

theorem point_lt (t : Fin cfg0.N) : t.val < 16 := lt_of_lt_of_eq t.isLt N_0

variable (m : (ℓ : Loc nD τ sig) → Buf (Elt Ideal) ℓ)

/-- The two arguments. -/
abbrev xs (c : Dev nD) : Vec Ideal S2x4096x4096 .f32 := m ((c : Thread nD τ).loc main_arg0)
abbrev ws (c : Dev nD) : Vec Ideal S1x4096x12288 .f32 := m ((c : Thread nD τ).loc main_arg1)

theorem x_at (c : Dev nD) (t : Fin cfg0.N) (r : Fin 1024) (e : Fin 4096) (R : Fin 8192) (hR : R.val = t.val / 2 * 1024 + r.val) :
    (iblk m c 0 t : Vec Ideal S1024x4096 .bf16) (ix2 r e) = xs m c (ix3 ⟨R.val / 4096, by omega⟩ ⟨R.val % 4096, by omega⟩ e) := by
  blk_point [iblk, V, idx t]

theorem w_at (c : Dev nD) (t : Fin cfg0.N) (e : Fin 4096) (n : Fin 1024) (N : Fin 12288) (hN : N.val = t.val % 2 * 1024 + n.val) :
    (iblk m c 1 t : Vec Ideal S4096x1024 .bf16) (ix2 e n) = ws m c (ix3 0 e N) := by
  blk_point [iblk, V, idx t]

theorem cos_blk (c : Dev nD) (t : Fin cfg0.N) (r : Fin 1024) (k : Fin 128) (p : Fin 4096) (hp : p.val = t.val / 2 % 4 * 1024 + r.val) :
    (iblk m c 2 t : Vec Ideal S1024x128 .f32) (ix2 r k) = (V m c main_v19 : Vec Ideal S4096x128 .f32) (ix2 p k) := by
  blk_ext [iblk, idx t]

theorem cos_at (c : Dev nD) (t : Fin cfg0.N) (r : Fin 1024) (k : Fin 128) (p : Fin 4096) (hp : p.val = t.val / 2 % 4 * 1024 + r.val) :
    (iblk m c 2 t : Vec Ideal S1024x128 .f32) (ix2 r k) = if k.val < 64 then Ideal.cos (angle p.val k.val) else Ideal.cos (angle p.val (k.val - 64)) := by
  rw [cos_blk m c t r k p hp]
  unfold angle V
  after_results
  pointwise
  split_ifs <;> rfl

theorem sin_blk (c : Dev nD) (t : Fin cfg0.N) (r : Fin 1024) (k : Fin 128) (p : Fin 4096) (hp : p.val = t.val / 2 % 4 * 1024 + r.val) :
    (iblk m c 3 t : Vec Ideal S1024x128 .f32) (ix2 r k) = (V m c main_v21 : Vec Ideal S4096x128 .f32) (ix2 p k) := by
  blk_ext [iblk, idx t]

theorem sin_at (c : Dev nD) (t : Fin cfg0.N) (r : Fin 1024) (k : Fin 128) (p : Fin 4096) (hp : p.val = t.val / 2 % 4 * 1024 + r.val) :
    (iblk m c 3 t : Vec Ideal S1024x128 .f32) (ix2 r k) = if k.val < 64 then -Ideal.sin (angle p.val k.val) else Ideal.sin (angle p.val (k.val - 64)) := by
  rw [sin_blk m c t r k p hp]
  unfold angle V
  after_results
  pointwise
  split_ifs <;> rfl

/-- The result before its scale, and the result, as a function of the memory at the start. -/
def entry (c : Dev nD) (r : Fin 8192) (n : Fin 2048) : EReal := rope (fun k => proj (xs m c) (ws m c) r ⟨k.val, by omega⟩) (r.val % 4096) n
def arr (c : Dev nD) : Vec Ideal S8192x2048 .bf16 := fun i => (entry m c (i 0) (i 1) * scaleA : EReal)

theorem prod_pt (c : Dev nD) (t : Fin cfg0.N) (r n : Fin 1024) (R : Fin 8192) (N : Fin 2048)
    (hR : R.val = t.val / 2 * 1024 + r.val) (hN : N.val = t.val % 2 * 1024 + n.val) :
    k0_pay2 (F := Ideal) (iblk m c 0 t) (iblk m c 1 t) (ix2 r n) = proj (xs m c) (ws m c) R ⟨N.val, by omega⟩ := by
  rw [prod_at]
  unfold proj
  refine Finset.sum_congr rfl fun e _ => ?_
  rw [x_at m c t r e R hR, w_at m c t e n ⟨N.val, by omega⟩ (by exact hN)]

theorem turn_pt (c : Dev nD) (t : Fin cfg0.N) (r n : Fin 1024) (R : Fin 8192) (N : Fin 2048)
    (hR : R.val = t.val / 2 * 1024 + r.val) (hN : N.val = t.val % 2 * 1024 + n.val) :
    turn (k0_pay2 (F := Ideal) (iblk m c 0 t) (iblk m c 1 t)) (iblk m c 2 t) (iblk m c 3 t) r n = entry m c R N := by
  have ht := point_lt t
  have hr := r.isLt
  have hn := n.isLt
  have hp : R.val % 4096 = t.val / 2 % 4 * 1024 + r.val := by omega
  have hk : (lane n).val = N.val % 128 := by
    show n.val % 128 = N.val % 128
    omega
  unfold turn entry rope
  rw [cos_at m c t r (lane n) ⟨R.val % 4096, by omega⟩ hp, sin_at m c t r (lane n) ⟨R.val % 4096, by omega⟩ hp, prod_pt m c t r n R N hR hN, hk]
  by_cases h : N.val % 128 < 64
  · rw [if_pos h, if_pos h, dif_pos h, prod_pt m c t r (half n) R ⟨N.val + 64, by omega⟩ hR (by
      show N.val + 64 = t.val % 2 * 1024 + (n.val / 128 * 128 + (n.val % 128 + 64) % 128)
      omega), mul_neg, sub_eq_add_neg]
  · rw [if_neg h, if_neg h, dif_neg h, prod_pt m c t r (half n) R ⟨N.val - 64, by omega⟩ hR (by
      show N.val - 64 = t.val % 2 * 1024 + (n.val / 128 * 128 + (n.val % 128 + 64) % 128)
      omega)]

theorem block_pt (c : Dev nD) (t : Fin cfg0.N) (y : S1024x1024.Idx) (R : Fin 8192) (N : Fin 2048)
    (hR : R.val = t.val / 2 * 1024 + (y 0).val) (hN : N.val = t.val % 2 * 1024 + (y 1).val) :
    out0_4 (F := Ideal) (iblk m c 0 t) (iblk m c 1 t) (iblk m c 2 t) (iblk m c 3 t) y = arr m c (ix2 R N) := by
  rw [out_at, turn_pt m c t (y 0) (y 1) R N hR hN]
  rfl

end Cert.Kernel8Ideal.Val
end
-- ==== Proof.DQFinal.lean ====
module

public import proofs.«01_k».proof.Proof.DQ

/-! The array after this projection's run, as a whole. -/

@[expose] public section

set_option maxRecDepth 16384

noncomputable section

namespace Cert.Kernel8Ideal.Val

open Cert.Kernel8Ideal Cert.Kernel8Ideal.Gen Idealize.ShloMosaic Idealize.ShloMosaic.TcCoe Idealize.SL.Sem
variable (m : (ℓ : Loc nD τ sig) → Buf (Elt Ideal) ℓ)

theorem final (c : Dev nD) : (dats m 0 c).arrAt 4 cfg0.N = arr m c := by
  refine (dats m 0 c).arrAt_eq_of_covers 4 _ (by decide +kernel) fun t hf y => ?_
  blk_simp
  rw [after0_4]
  have ht := point_lt t
  have e0 : ((y : S1024x1024.Idx) 0).val < 1024 := ((y : S1024x1024.Idx) 0).isLt
  have e1 : ((y : S1024x1024.Idx) 1).val < 1024 := ((y : S1024x1024.Idx) 1).isLt
  refine (block_pt m c t y ⟨t.val / 2 * 1024 + ((y : S1024x1024.Idx) 0).val, by omega⟩ ⟨t.val % 2 * 1024 + ((y : S1024x1024.Idx) 1).val, by omega⟩ rfl rfl).trans ?_
  blk_ext [idx t]

end Cert.Kernel8Ideal.Val
end
-- ==== Proof.DQRef.lean ====
module

public import proofs.«01_k».proof.Proof.Proj
public import proofs.«01_k».proof.Proof.Gen.Reference8Ideal.Read

/-! The reference of the projection onto the first queries' columns, with the rotation by position, entry by entry. -/

@[expose] public section

set_option maxRecDepth 16384

noncomputable section

namespace Cert.Reference8Ideal.Val

open Cert.Reference8Ideal Cert.Reference8Ideal.Read Idealize.ShloMosaic
open Cert.Layer

theorem angle_at (p : Fin 4096) (j : Fin 64) : val_main_v20 (F := Ideal) (ix2 p j) = angle p.val j.val := by
  pointwise [val_main_v20, val_main_v19, val_main_v18, val_main_v17, val_main_v16, val_main_v15, val_main_v14, val_main_v13, val_main_v12, val_main_v11,
    val_main_v10, val_main_v9, val_main_v8, val_main_v7, val_main_v6, val_main_v5, val_main_v4, val_main_cst, val_main_cst_0, val_main_cst_1, val_main_cst_2]
  rfl

theorem u_at (x0 : Vec Ideal S2x4096x4096 .f32) (x1 : Vec Ideal S1x4096x12288 .f32) (b : Fin 2) (p : Fin 4096) (g : Fin 8) (a : Fin 2) (k : Fin 128) :
    val_main_v3 (F := Ideal) x0 x1 (ix5 b p g a k) = ∑ e : Fin 4096, x0 (ix3 b p e) * x1 (ix3 0 e ⟨g.val * 256 + a.val * 128 + k.val, by omega⟩) := by
  pointwise [val_main_v3, val_main_v2, val_main_v1, val_main_v0]

theorem result (x0 : Vec Ideal S2x4096x4096 .f32) (x1 : Vec Ideal S1x4096x12288 .f32) (R : Fin 8192) (n : Fin 2048) :
    val_main_v38 (F := Ideal) x0 x1 (ix2 R n) = rope (fun k => proj x0 x1 R ⟨k.val, by omega⟩) (R.val % 4096) n := by
  pointwise [val_main_v38, val_main_v37, val_main_v36, val_main_v31, val_main_v28, val_main_v30, val_main_v33, val_main_v35, val_main_v25, val_main_v26,
    val_main_v27, val_main_v29, val_main_v32, val_main_v34, val_main_v22, val_main_v24, val_main_v23, val_main_v21]
  simp only [angle_at]
  simp only [u_at]
  unfold rope
  unfold proj
  split_ifs with h
  · refine congrArg₂ (fun a b : EReal => a - b) (congrArg₂ (fun a b : EReal => a * b) (Finset.sum_congr rfl fun e _ => congrArg (fun k => x0 _ * x1 (ix3 0 e k)) (Fin.ext ?_)) rfl)
      (congrArg₂ (fun a b : EReal => a * b) (Finset.sum_congr rfl fun e _ => congrArg (fun k => x0 _ * x1 (ix3 0 e k)) (Fin.ext ?_)) rfl)
    all_goals
      dsimp only
      omega
  all_goals
    refine congrArg₂ (fun a b : EReal => a + b) (congrArg₂ (fun a b : EReal => a * b) (Finset.sum_congr rfl fun e _ => congrArg (fun k => x0 _ * x1 (ix3 0 e k)) (Fin.ext ?_)) rfl)
        (congrArg₂ (fun a b : EReal => a * b) (Finset.sum_congr rfl fun e _ => congrArg (fun k => x0 _ * x1 (ix3 0 e k)) (Fin.ext ?_)) rfl)
    all_goals
      dsimp only
      omega

theorem resultB (x0 : Vec Ideal S2x4096x4096 .f32) (x1 : Vec Ideal S1x4096x12288 .f32) (i : S8192x2048.Idx) :
    (val_main_v41 (F := Ideal) x0 x1 i : EReal) = val_main_v38 (F := Ideal) x0 x1 i * scaleA := by
  unfold scaleA
  pointwise [val_main_v41, val_main_v40, val_main_v39, val_main_cst_3]

end Cert.Reference8Ideal.Val
end
-- ==== Proof.SQ.lean ====
module

public import proofs.«01_k».proof.Proof.Proj
public import proofs.«01_k».proof.Proof.Gen.Kernel9Ideal.Value
public import Idealize.ShloMosaic.Lib.Pipeline.ValueKit

/-! The projection onto the columns from 6144 on, scaled: what its payloads compute and what its blocks hold. -/

@[expose] public section

set_option maxRecDepth 16384

noncomputable section

namespace Cert.Kernel9Ideal.Val

open Cert.Kernel9Ideal Cert.Kernel9Ideal.Gen Cert.Kernel9Ideal.Value Idealize.ShloMosaic Idealize.ShloMosaic.TcCoe Idealize.SL.Sem
open Cert.Layer
variable (m : (ℓ : Loc nD τ sig) → Buf (Elt Ideal) ℓ)

/-- The product of the two blocks, entry by entry. -/
theorem prod_at (x : Vec Ideal S1024x4096 .bf16) (w : Vec Ideal S4096x1024 .bf16) (r n : Fin 1024) :
    k0_pay4 (F := Ideal) x w (ix2 r n) = ∑ e : Fin 4096, x (ix2 r e) * w (ix2 e n) := by
  pointwise [k0_pay4]

theorem idx : ∀ t : Fin cfg0.N, win0_0.index t = ![t.val / 2, 0] ∧ win0_1.index t = ![0, 6 + t.val % 2]
    ∧ win0_4.index t = ![t.val / 2, t.val % 2] :=
  (by decide +kernel : ∀ t : Fin grid0.N, _)

theorem point_lt (t : Fin cfg0.N) : t.val < 16 := lt_of_lt_of_eq t.isLt N_0

/-- The two arguments. -/
abbrev xs (c : Dev nD) : Vec Ideal S2x4096x4096 .f32 := m ((c : Thread nD τ).loc main_arg0)
abbrev ws (c : Dev nD) : Vec Ideal S1x4096x12288 .f32 := m ((c : Thread nD τ).loc main_arg1)

theorem x_at (c : Dev nD) (t : Fin cfg0.N) (r : Fin 1024) (e : Fin 4096) (R : Fin 8192) (hR : R.val = t.val / 2 * 1024 + r.val) :
    (iblk m c 0 t : Vec Ideal S1024x4096 .bf16) (ix2 r e) = xs m c (ix3 ⟨R.val / 4096, by omega⟩ ⟨R.val % 4096, by omega⟩ e) := by
  blk_point [iblk, V, idx t]

theorem w_at (c : Dev nD) (t : Fin cfg0.N) (e : Fin 4096) (n : Fin 1024) (N : Fin 12288) (hN : N.val = 6144 + (t.val % 2 * 1024 + n.val)) :
    (iblk m c 1 t : Vec Ideal S4096x1024 .bf16) (ix2 e n) = ws m c (ix3 0 e N) := by
  blk_point [iblk, V, idx t]

/-- The result before its scale, and the result, as a function of the memory at the start. -/
def entry (c : Dev nD) (r : Fin 8192) (n : Fin 2048) : EReal := proj (xs m c) (ws m c) r ⟨6144 + n.val, by omega⟩
def arr (c : Dev nD) : Vec Ideal S8192x2048 .bf16 := fun i => (entry m c (i 0) (i 1) * scaleB : EReal)

theorem out_at (x0 : Vec Ideal S1024x4096 .bf16) (x1 : Vec Ideal S4096x1024 .bf16) (x2 x3 : Vec Ideal S1024x128 .f32) (y : S1024x1024.Idx) :
    (out0_4 (F := Ideal) x0 x1 x2 x3 y : EReal) = k0_pay4 (F := Ideal) x0 x1 (ix2 (y 0) (y 1)) * scaleB := by
  unfold_out out0_4
  frame_out
  canon_tiles x h
  all_goals
    open_payloads
    unfold scaleB
    pointwise
    generalize k0_pay4 (F := Ideal) x0 x1 = u
    refine congrArg (fun a : EReal => a * Ideal.ofBits FTy.f32 0x3DB504F3#32) ?_
    blk_ext

theorem prod_pt (c : Dev nD) (t : Fin cfg0.N) (r n : Fin 1024) (R : Fin 8192) (N : Fin 2048)
    (hR : R.val = t.val / 2 * 1024 + r.val) (hN : N.val = t.val % 2 * 1024 + n.val) :
    k0_pay4 (F := Ideal) (iblk m c 0 t) (iblk m c 1 t) (ix2 r n) = entry m c R N := by
  rw [prod_at]
  unfold entry proj
  refine Finset.sum_congr rfl fun e _ => ?_
  rw [x_at m c t r e R hR, w_at m c t e n ⟨6144 + N.val, by omega⟩ (by show 6144 + N.val = _; omega)]

theorem block_pt (c : Dev nD) (t : Fin cfg0.N) (y : S1024x1024.Idx) (R : Fin 8192) (N : Fin 2048)
    (hR : R.val = t.val / 2 * 1024 + (y 0).val) (hN : N.val = t.val % 2 * 1024 + (y 1).val) :
    out0_4 (F := Ideal) (iblk m c 0 t) (iblk m c 1 t) (iblk m c 2 t) (iblk m c 3 t) y = arr m c (ix2 R N) := by
  rw [out_at, prod_pt m c t (y 0) (y 1) R N hR hN]
  rfl

end Cert.Kernel9Ideal.Val
end
-- ==== Proof.SQFinal.lean ====
module

public import proofs.«01_k».proof.Proof.SQ

/-! The array after this projection's run, as a whole. -/

@[expose] public section

set_option maxRecDepth 16384

noncomputable section

namespace Cert.Kernel9Ideal.Val

open Cert.Kernel9Ideal Cert.Kernel9Ideal.Gen Idealize.ShloMosaic Idealize.ShloMosaic.TcCoe Idealize.SL.Sem
variable (m : (ℓ : Loc nD τ sig) → Buf (Elt Ideal) ℓ)

theorem final (c : Dev nD) : (dats m 0 c).arrAt 4 cfg0.N = arr m c := by
  refine (dats m 0 c).arrAt_eq_of_covers 4 _ (by decide +kernel) fun t hf y => ?_
  blk_simp
  rw [after0_4]
  have ht := point_lt t
  have e0 : ((y : S1024x1024.Idx) 0).val < 1024 := ((y : S1024x1024.Idx) 0).isLt
  have e1 : ((y : S1024x1024.Idx) 1).val < 1024 := ((y : S1024x1024.Idx) 1).isLt
  refine (block_pt m c t y ⟨t.val / 2 * 1024 + ((y : S1024x1024.Idx) 0).val, by omega⟩ ⟨t.val % 2 * 1024 + ((y : S1024x1024.Idx) 1).val, by omega⟩ rfl rfl).trans ?_
  blk_ext [idx t]

end Cert.Kernel9Ideal.Val
end
-- ==== Proof.SQRef.lean ====
module

public import proofs.«01_k».proof.Proof.Proj
public import proofs.«01_k».proof.Proof.Gen.Reference9Ideal.Read

/-! The reference of the projection onto the columns from 6144 on, scaled, entry by entry. -/

@[expose] public section

set_option maxRecDepth 16384

noncomputable section

namespace Cert.Reference9Ideal.Val

open Cert.Reference9Ideal Cert.Reference9Ideal.Read Idealize.ShloMosaic
open Cert.Layer

theorem result (x0 : Vec Ideal S2x4096x4096 .f32) (x1 : Vec Ideal S1x4096x12288 .f32) (R : Fin 8192) (n : Fin 2048) :
    val_main_v3 (F := Ideal) x0 x1 (ix2 R n) = proj x0 x1 R ⟨6144 + n.val, by omega⟩ := by
  unfold proj
  pointwise [val_main_v3, val_main_v2, val_main_v1, val_main_v0]
  blk_ext

theorem resultB (x0 : Vec Ideal S2x4096x4096 .f32) (x1 : Vec Ideal S1x4096x12288 .f32) (i : S8192x2048.Idx) :
    (val_main_v6 (F := Ideal) x0 x1 i : EReal) = val_main_v3 (F := Ideal) x0 x1 i * scaleB := by
  unfold scaleB
  pointwise [val_main_v6, val_main_v5, val_main_v4, val_main_cst]

end Cert.Reference9Ideal.Val
end
-- ==== Proof.Fs.lean ====
module

public import proofs.«01_k».proof.Proof.Norm
public import proofs.«01_k».proof.Proof.Gen.Kernel10Ideal.Value
public import Idealize.ShloMosaic.Lib.Pipeline.ValueKit

/-! The feed-forward call on the sample's rows: what its payloads compute and what its blocks hold. -/

@[expose] public section

set_option maxRecDepth 16384

noncomputable section

namespace Cert.Kernel10Ideal.Val

open Cert.Kernel10Ideal Cert.Kernel10Ideal.Gen Idealize.ShloMosaic Idealize.ShloMosaic.TcCoe Idealize.SL.Sem
open Cert.Layer
variable (m : (ℓ : Loc nD τ sig) → Buf (Elt Ideal) ℓ)

/-- The first store of a run: the scaled residual. -/
theorem start_at (x : Vec Ideal S32x4096 .f32) (i : S32x4096.Idx) : k0_pay1 (F := Ideal) x i = alpha * x i := by
  pointwise [k0_pay1]
  rfl

/-- Every point adds the part of its tile of hidden columns. -/
theorem add_at (x : Vec Ideal S32x4096 .bf16) (w : Vec Ideal S4096x512 .bf16) (a : Vec Ideal S32x4096 .f32) (v : Vec Ideal S512x4096 .bf16) (i : S32x4096.Idx) :
    k0_pay2 (F := Ideal) x w a v i = a i + ∑ f : Fin 512, max (∑ e : Fin 4096, x (ix2 (i 0) e) * w (ix2 e f)) 0 * max (∑ e : Fin 4096, x (ix2 (i 0) e) * w (ix2 e f)) 0 * v (ix2 f (i 1)) := by
  pointwise [k0_pay2]

/-- The last point normalises each row. -/
theorem norm_at (x : Vec Ideal S32x4096 .f32) (g b : Vec Ideal S1x4096 .f32) (r : Fin 32) (n : Fin 4096) :
    k0_pay3 (F := Ideal) x g b (ix2 r n) = norm (fun k => x (ix2 r k)) (g (ix2 0 n)) (b (ix2 0 n)) n := by
  pointwise [k0_pay3]
  rfl

theorem idx : ∀ t : Fin cfg0.N, win0_0.index t = ![0, 0] ∧ win0_1.index t = ![0, 0]
    ∧ win0_2.index t = ![0, t.val] ∧ win0_3.index t = ![t.val, 0]
    ∧ win0_4.index t = ![0, 0] ∧ win0_5.index t = ![0, 0] ∧ win0_6.index t = ![0, 0] :=
  (by decide +kernel : ∀ t : Fin grid0.N, _)

/-- The residual's row `r` of the 32. -/
def hRow (c : Dev nD) (r : Fin 32) (e : Fin 4096) : EReal :=
  (m ((c : Thread nD τ).loc main_arg0) : Vec Ideal S32x1x4096 .f32) (ix3 r 0 e)
/-- The two weights, the gain and the offset. -/
def wUp (c : Dev nD) (e : Fin 4096) (f : Fin 16384) : EReal := (m ((c : Thread nD τ).loc main_arg1) : Vec Ideal S1x4096x16384 .f32) (ix3 0 e f)
def wDown (c : Dev nD) (f : Fin 16384) (n : Fin 4096) : EReal := (m ((c : Thread nD τ).loc main_arg2) : Vec Ideal S1x16384x4096 .f32) (ix3 0 f n)
def gain (c : Dev nD) (n : Fin 4096) : EReal := (m ((c : Thread nD τ).loc main_arg3) : Vec Ideal S1x4096 .f32) (ix2 0 n)
def offs (c : Dev nD) (n : Fin 4096) : EReal := (m ((c : Thread nD τ).loc main_arg4) : Vec Ideal S1x4096 .f32) (ix2 0 n)

theorem x_at (c : Dev nD) (t : Fin cfg0.N) (r : Fin 32) (e : Fin 4096) :
    (iblk m c 0 t : Vec Ideal S32x4096 .bf16) (ix2 r e) = hRow m c r e := by
  unfold hRow
  blk_point [iblk, V, idx t]

theorem h_at (c : Dev nD) (t : Fin cfg0.N) (r : Fin 32) (e : Fin 4096) :
    (iblk m c 1 t : Vec Ideal S32x4096 .f32) (ix2 r e) = hRow m c r e := by
  unfold hRow
  blk_point [iblk, V, idx t]

theorem up_at (c : Dev nD) (t : Fin cfg0.N) (e : Fin 4096) (f : Fin 512) (f' : Fin 16384) (hf : f'.val = t.val * 512 + f.val) :
    (iblk m c 2 t : Vec Ideal S4096x512 .bf16) (ix2 e f) = wUp m c e f' := by
  unfold wUp
  blk_point [iblk, V, idx t]

theorem down_at (c : Dev nD) (t : Fin cfg0.N) (f : Fin 512) (n : Fin 4096) (f' : Fin 16384) (hf : f'.val = t.val * 512 + f.val) :
    (iblk m c 3 t : Vec Ideal S512x4096 .bf16) (ix2 f n) = wDown m c f' n := by
  unfold wDown
  blk_point [iblk, V, idx t]

theorem g_at (c : Dev nD) (t : Fin cfg0.N) (n : Fin 4096) : (iblk m c 4 t : Vec Ideal S1x4096 .f32) (ix2 0 n) = gain m c n := by
  unfold gain
  blk_point [iblk, V, idx t]

theorem b_at (c : Dev nD) (t : Fin cfg0.N) (n : Fin 4096) : (iblk m c 5 t : Vec Ideal S1x4096 .f32) (ix2 0 n) = offs m c n := by
  unfold offs
  blk_point [iblk, V, idx t]

end Cert.Kernel10Ideal.Val
end
-- ==== Proof.FsArr.lean ====
module

public import proofs.«01_k».proof.Proof.Fs

/-! The array that the feed-forward call returns for the sample's rows. -/

@[expose] public section

set_option maxRecDepth 16384

noncomputable section

namespace Cert.Kernel10Ideal.Val

open Cert.Kernel10Ideal Cert.Kernel10Ideal.Gen Cert.Kernel10Ideal.Value Idealize.ShloMosaic Idealize.ShloMosaic.TcCoe Idealize.SL.Sem
open Cert.Layer
variable (m : (ℓ : Loc nD τ sig) → Buf (Elt Ideal) ℓ)

/-- The result as a function of the memory at the start. -/
def arr (c : Dev nD) : Vec Ideal S32x4096 .f32 := fun i =>
  norm (ffRow (hRow m c (i 0)) (wUp m c) (wDown m c)) (gain m c (i 1)) (offs m c (i 1)) (i 1)

/-- The hidden column that column `f` of point `n`'s tile is. -/
def col (n : ℕ) (f : Fin 512) : Fin 16384 := ⟨n % 32 * 512 + f.val, by omega⟩

/-- What point `n` adds. -/
def part (c : Dev nD) (n : ℕ) (i : S32x4096.Idx) : EReal :=
  ∑ f : Fin 512, relu2 (hRow m c (i 0)) (wUp m c) (col n f) * wDown m c (col n f) (i 1)

theorem point_lt (t : Fin cfg0.N) : t.val < 32 := lt_of_lt_of_eq t.isLt N_0

theorem part_at (c : Dev nD) (t : Fin cfg0.N) (acc : Vec Ideal S32x4096 .f32) (i : S32x4096.Idx) :
    k0_pay2 (F := Ideal) (iblk m c 0 t) (iblk m c 2 t) acc (iblk m c 3 t) i = acc i + part m c t.val i := by
  rw [add_at]
  unfold part relu2
  refine congrArg (acc i + ·) (Finset.sum_congr rfl fun f _ => ?_)
  have hc : (col t.val f).val = t.val * 512 + f.val := by
    show t.val % 32 * 512 + f.val = _
    have := point_lt t
    omega
  rw [down_at m c t f (i 1) (col t.val f) hc]
  simp only [x_at m c t (i 0) _, up_at m c t _ f (col t.val f) hc]

theorem first_at (c : Dev nD) (t : Fin cfg0.N) (i : S32x4096.Idx) :
    k0_pay1 (F := Ideal) (iblk m c 1 t) i = alpha * hRow m c (i 0) (i 1) := by
  rw [start_at]
  refine congrArg (alpha * ·) ?_
  have e : i = ix2 (i 0) (i 1) := by idx_vars i; rfl
  rw [e]
  exact h_at m c t (i 0) (i 1)

/-- What the buffer holds before the last point of run `q`. -/
theorem fold (c : Dev nD) (q : ℕ) (h : 32 * q + 30 < cfg0.N) (i : S32x4096.Idx) :
    Pipeline.accAt (reset6 m c) (step6 m c) (32 * q) 30 h i
      = alpha * hRow m c (i 0) (i 1) + ∑ s ∈ Finset.range 31, part m c (32 * q + s) i := by
  refine Pipeline.accAt_add_apply (β := EReal) (reset6 m c) (step6 m c) (fun i => alpha * hRow m c (i 0) (i 1)) (part m c) (32 * q) 30
    (fun h i => ?_) (fun n h acc i h1 h2 => ?_) 30 le_rfl h i
  · unfold reset6
    rw [part_at m c ⟨32 * q, h⟩, first_at]
  · unfold step6
    rw [if_pos ⟨by omega, by omega⟩, part_at m c ⟨n, h⟩]

/-- All the tiles together are the sum over the hidden columns. -/
theorem parts (c : Dev nD) (q : ℕ) (i : S32x4096.Idx) :
    ∑ s ∈ Finset.range 32, part m c (32 * q + s) i
      = ∑ f : Fin 16384, relu2 (hRow m c (i 0)) (wUp m c) f * wDown m c f (i 1) := by
  rw [Finset.sum_range]
  unfold part
  refine Fin.sum_mul_add_congr fun s k hl => ?_
  have e' : col (32 * q + s.val) k = ⟨s.val * 512 + k.val, hl⟩ := Fin.ext (by
    show (32 * q + s.val) % 32 * 512 + k.val = s.val * 512 + k.val
    have := s.isLt
    rw [show (32 * q + s.val) % 32 = s.val by omega])
  rw [e']

/-- What the last point of a run leaves. -/
theorem last_at (c : Dev nD) (t : Fin cfg0.N) (hf : t.val % 32 = 31) (r : Fin 32) (n : Fin 4096) :
    outsAt0 m c t.val t.isLt (ix2 r n) = arr m c (ix2 r n) := by
  have ht := point_lt t
  have hlt : 32 * (t.val / 32) + 31 < cfg0.N := by rw [show 32 * (t.val / 32) + 31 = t.val by omega]; exact t.isLt
  have e : outsAt0 m c t.val t.isLt = Pipeline.accAt (reset6 m c) (step6 m c) (32 * (t.val / 32)) 31 hlt := by
    rw [outsAt_6_eq]
    have : ∀ (j : ℕ) (h : 32 * (t.val / 32) + j < cfg0.N), j = 31 → Pipeline.accAt (reset6 m c) (step6 m c) (32 * (t.val / 32)) j h = Pipeline.accAt (reset6 m c) (step6 m c) (32 * (t.val / 32)) 31 hlt := by
      intro j h hj; subst hj; rfl
    exact this _ _ hf
  rw [e, Pipeline.accAt_succ]
  have hA := fun k => fold m c (t.val / 32) (Nat.lt_of_succ_lt hlt) (ix2 r k)
  generalize Pipeline.accAt (reset6 m c) (step6 m c) (32 * (t.val / 32)) 30 _ = A at hA ⊢
  unfold step6
  rw [if_neg (by omega), if_pos ⟨by omega, by omega⟩, norm_at, g_at, b_at]
  unfold arr
  refine congrArg (fun z => norm z (gain m c n) (offs m c n) n) (funext fun k => ?_)
  rw [part_at m c ⟨_, hlt⟩, hA, add_assoc, ← Finset.sum_range_succ (fun s => part m c (32 * (t.val / 32) + s) (ix2 r k)) 31, parts]
  rfl

end Cert.Kernel10Ideal.Val
end
-- ==== Proof.FsFinal.lean ====
module

public import proofs.«01_k».proof.Proof.FsArr

/-! The array after the feed-forward call's run on the sample's rows, as a whole. -/

@[expose] public section

set_option maxRecDepth 16384

noncomputable section

namespace Cert.Kernel10Ideal.Val

open Cert.Kernel10Ideal Cert.Kernel10Ideal.Gen Idealize.ShloMosaic Idealize.ShloMosaic.TcCoe Idealize.SL.Sem
variable (m : (ℓ : Loc nD τ sig) → Buf (Elt Ideal) ℓ)

theorem block_pt (c : Dev nD) (t : Fin cfg0.N) (hf : t.val % 32 = 31) (y : S32x4096.Idx) (R : Fin 32) (n : Fin 4096)
    (hR : R.val = (y 0).val) (hn : n.val = (y 1).val) : outsAt0 m c t.val t.isLt y = arr m c (ix2 R n) := by
  idx_vars y
  have en : n = y1 := Fin.ext hn
  have eR : R = y0 := Fin.ext hR
  rw [en, eR]
  exact last_at m c t hf y0 y1

/-- The whole array after the run. -/
theorem final (c : Dev nD) : (dats m 0 c).arrAt 6 cfg0.N = arr m c := by
  refine (dats m 0 c).arrAt_eq_of_covers 6 _ (by decide +kernel) fun t hf y => ?_
  blk_simp
  rw [after0_6]
  have ht := point_lt t
  have e0 : ((y : S32x4096.Idx) 0).val < 32 := ((y : S32x4096.Idx) 0).isLt
  have e1 : ((y : S32x4096.Idx) 1).val < 4096 := ((y : S32x4096.Idx) 1).isLt
  refine (block_pt m c t ((flush0_6 t).mp hf) y ⟨((y : S32x4096.Idx) 0).val, e0⟩ ⟨((y : S32x4096.Idx) 1).val, e1⟩ rfl rfl).trans ?_
  blk_ext [idx t]

end Cert.Kernel10Ideal.Val
end
-- ==== Proof.FsRef.lean ====
module

public import proofs.«01_k».proof.Proof.Norm
public import proofs.«01_k».proof.Proof.Gen.Reference10Ideal.Read

/-! The feed-forward part's reference on the sample's rows, entry by entry. -/

@[expose] public section

set_option maxRecDepth 16384

noncomputable section

namespace Cert.Reference10Ideal.Val

open Cert.Reference10Ideal Cert.Reference10Ideal.Read Idealize.ShloMosaic
open Cert.Layer

/-- The row of the residual plus the feed-forward part. -/
theorem z_at (x0 : Vec Ideal S32x1x4096 .f32) (x1 : Vec Ideal S1x4096x16384 .f32) (x2 : Vec Ideal S1x16384x4096 .f32) (b : Fin 32) (s : Fin 1) (n : Fin 4096) :
    val_main_v8 (F := Ideal) x0 x1 x2 (ix3 b s n) = ffRow (fun e => x0 (ix3 b 0 e)) (fun e f => x1 (ix3 0 e f)) (fun f k => x2 (ix3 0 f k)) n := by
  obtain rfl : s = 0 := Subsingleton.elim _ _
  pointwise [val_main_v8, val_main_v7, val_main_v6, val_main_cst, val_main_v5, val_main_v4, val_main_v3, val_main_v2, val_main_call0_v0, val_main_call0_cst, val_main_v1, val_main_v0]
  rfl

theorem mean_at (x0 : Vec Ideal S32x1x4096 .f32) (x1 : Vec Ideal S1x4096x16384 .f32) (x2 : Vec Ideal S1x16384x4096 .f32) (b : Fin 32) (s u : Fin 1) :
    val_main_v12 (F := Ideal) x0 x1 x2 (ix3 b s u) = mean (fun k => val_main_v8 (F := Ideal) x0 x1 x2 (ix3 b s k)) := by
  obtain rfl : s = 0 := Subsingleton.elim _ _
  pointwise [val_main_v12, val_main_v11, val_main_cst_1, val_main_v10, val_main_v9, val_main_cst_0]
  rfl

theorem result (x0 : Vec Ideal S32x1x4096 .f32) (x1 : Vec Ideal S1x4096x16384 .f32) (x2 : Vec Ideal S1x16384x4096 .f32) (x3 x4 : Vec Ideal S1x4096 .f32) (R : Fin 32) (n : Fin 4096) :
    val_main_v35 (F := Ideal) x0 x1 x2 x3 x4 (ix2 R n)
      = norm (ffRow (fun e => x0 (ix3 R 0 e)) (fun e f => x1 (ix3 0 e f)) (fun f k => x2 (ix3 0 f k)))
        (x3 (ix2 0 n)) (x4 (ix2 0 n)) n := by
  pointwise [val_main_v35, val_main_v34, val_main_v33, val_main_v32, val_main_v31, val_main_v30, val_main_v29, val_main_v28, val_main_v27, val_main_v26,
    val_main_v25, val_main_v24, val_main_v23, val_main_v22, val_main_cst_4, val_main_v21, val_main_v20, val_main_v19, val_main_v18, val_main_cst_3,
    val_main_v17, val_main_v16, val_main_cst_2, val_main_v15, val_main_v14, val_main_v13]
  simp only [mean_at, z_at]
  rfl

end Cert.Reference10Ideal.Val
end
-- ==== Proof.Out.lean ====
module

public import proofs.«01_k».proof.Proof.Norm

/-! A row of the output projection: the two attentions' outputs side by side, times the weight, on the scaled residual. -/

@[expose] public section

noncomputable section

namespace Cert.Layer

open Idealize.ShloMosaic

/-- Entry `k` of the two attentions' outputs side by side: 8 heads of 256, then 16 of 128. -/
def mixed (a : Fin 8 → Fin 256 → EReal) (b : Fin 16 → Fin 128 → EReal) (k : Fin 4096) : EReal :=
  if h : k.val < 2048 then a ⟨k.val / 256, by omega⟩ ⟨k.val % 256, Nat.mod_lt _ (by decide)⟩
  else b ⟨(k.val - 2048) / 128, by omega⟩ ⟨(k.val - 2048) % 128, Nat.mod_lt _ (by decide)⟩

/-- Entry `n` of the scaled residual plus the projection. -/
def outRow (x : Fin 4096 → EReal) (z : Fin 4096 → EReal) (W : Fin 4096 → Fin 4096 → EReal) (n : Fin 4096) : EReal :=
  alpha * x n + ∑ k, z k * W k n

end Cert.Layer
end
-- ==== Proof.OPOut.lean ====
module

public import proofs.«01_k».proof.Proof.Out
public import proofs.«01_k».proof.Proof.Gen.Kernel11Ideal.Value
public import Idealize.ShloMosaic.Lib.Pipeline.ValueKit

/-! The sample's output projection: what each point leaves in its two result buffers. -/

@[expose] public section

set_option maxRecDepth 16384

noncomputable section

namespace Cert.Kernel11Ideal.Val

open Cert.Kernel11Ideal Cert.Kernel11Ideal.Gen Idealize.ShloMosaic Idealize.ShloMosaic.TcCoe Idealize.SL.Sem

theorem hz2 : (![0, 0] : Fin 2 → Nat) = fun _ => 0 := funext fun a => by fin_cases a <;> rfl

/-- What the first point leaves. -/
theorem out_A_6_eq (c : Dev nD) (i : grid0.Coords) (arg2 : Memref sig .tc .vmem S32x512 .bf16) (harg2 : arg2.IsWhole) (arg3 : Memref sig .tc .vmem S32x512 .bf16) (harg3 : arg3.IsWhole) (arg4 : Memref sig .tc .vmem S32x4096 .f32) (harg4 : arg4.IsWhole) (arg5 : Memref sig .tc .vmem S512x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S32x4096 .f32) (harg8 : arg8.IsWhole) (arg9 : Memref sig .tc .vmem S32x4096 .bf16) (harg9 : arg9.IsWhole) (hc0 : cond0_0 i) (hc1 : ¬cond0_1 i)
    (x0 : Vec Ideal S32x512 .bf16) (x1 : Vec Ideal S32x512 .bf16) (x2 : Vec Ideal S32x4096 .f32) (x3 : Vec Ideal S512x4096 .bf16) (x4 : Vec Ideal S1x4096 .f32) (x5 : Vec Ideal S1x4096 .f32) :
    out0_A_6 (F := Ideal) c i arg2 harg2 arg3 harg3 arg4 harg4 arg5 harg5 arg6 harg6 arg7 harg7 arg8 harg8 arg9 harg9 hc0 hc1 x0 x1 x2 x3 x4 x5 = k0_pay2 i x0 x1 (k0_pay1 x2) x3 := by
  unfold out0_A_6
  rw [View.read_writes_eq_canon _ _ _ (cover0_A_6 c i arg2 harg2 arg3 harg3 arg4 harg4 arg5 harg5 arg6 harg6 arg7 harg7 arg8 harg8 arg9 harg9 hc0 hc1 x0 x1 x2 x3 x4 x5)]
  unfold kernelRun0_A
  dsimp only
  try sl_unfold_words
  rw [View.canon_cons_unit_zero (S := S32x4096) hz2, View.readCov_unit_zero (S := S32x4096) _ hz2]
  simp only [View.readAt_eq_ld, harg2.read_unread, harg3.read_unread, harg4.read_unread, harg5.read_unread, harg6.read_unread, harg7.read_unread, harg8.read_unread, harg9.read_unread, View.ld_unit_zero (S := S1x4096) hz2, View.ld_unit_zero (S := S32x4096) hz2, View.ld_unit_zero (S := S32x512) hz2, View.ld_unit_zero (S := S512x4096) hz2, shapeCast_self]

/-- What a point between leaves, over what the one before left. -/
theorem out_B_6_eq (c : Dev nD) (i : grid0.Coords) (arg2 : Memref sig .tc .vmem S32x512 .bf16) (harg2 : arg2.IsWhole) (arg3 : Memref sig .tc .vmem S32x512 .bf16) (harg3 : arg3.IsWhole) (arg4 : Memref sig .tc .vmem S32x4096 .f32) (harg4 : arg4.IsWhole) (arg5 : Memref sig .tc .vmem S512x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S32x4096 .f32) (harg8 : arg8.IsWhole) (arg9 : Memref sig .tc .vmem S32x4096 .bf16) (harg9 : arg9.IsWhole) (hc0 : ¬cond0_0 i) (hc1 : ¬cond0_1 i)
    (x0 : Vec Ideal S32x512 .bf16) (x1 : Vec Ideal S32x512 .bf16) (x2 : Vec Ideal S32x4096 .f32) (x3 : Vec Ideal S512x4096 .bf16) (x4 : Vec Ideal S1x4096 .f32) (x5 : Vec Ideal S1x4096 .f32) (xo6 : Vec Ideal S32x4096 .f32) :
    out0_B_6 (F := Ideal) c i arg2 harg2 arg3 harg3 arg4 harg4 arg5 harg5 arg6 harg6 arg7 harg7 arg8 harg8 arg9 harg9 hc0 hc1 x0 x1 x2 x3 x4 x5 xo6 = k0_pay2 i x0 x1 xo6 x3 := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 x4 x5 xo6)]
  unfold kernelRun0_B
  dsimp only
  try sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S1x4096) hz2, View.ld_unit_zero (S := S32x4096) hz2, View.ld_unit_zero (S := S32x512) hz2, View.ld_unit_zero (S := S512x4096) hz2, shapeCast_self]

/-- What the last point leaves, over what the one before left. -/
theorem out_C_6_eq (c : Dev nD) (i : grid0.Coords) (arg2 : Memref sig .tc .vmem S32x512 .bf16) (harg2 : arg2.IsWhole) (arg3 : Memref sig .tc .vmem S32x512 .bf16) (harg3 : arg3.IsWhole) (arg4 : Memref sig .tc .vmem S32x4096 .f32) (harg4 : arg4.IsWhole) (arg5 : Memref sig .tc .vmem S512x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S32x4096 .f32) (harg8 : arg8.IsWhole) (arg9 : Memref sig .tc .vmem S32x4096 .bf16) (harg9 : arg9.IsWhole) (hc0 : ¬cond0_0 i) (hc1 : cond0_1 i)
    (x0 : Vec Ideal S32x512 .bf16) (x1 : Vec Ideal S32x512 .bf16) (x2 : Vec Ideal S32x4096 .f32) (x3 : Vec Ideal S512x4096 .bf16) (x4 : Vec Ideal S1x4096 .f32) (x5 : Vec Ideal S1x4096 .f32) (xo6 : Vec Ideal S32x4096 .f32) :
    out0_C_6 (F := Ideal) c i arg2 harg2 arg3 harg3 arg4 harg4 arg5 harg5 arg6 harg6 arg7 harg7 arg8 harg8 arg9 harg9 hc0 hc1 x0 x1 x2 x3 x4 x5 xo6 = k0_pay3 (k0_pay2 i x0 x1 xo6 x3) x4 x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xo6)]
  unfold kernelRun0_C
  dsimp only
  try sl_unfold_words
  rw [View.canon_cons_unit_zero (S := S32x4096) hz2, View.readCov_unit_zero (S := S32x4096) _ hz2]
  simp only [View.readAt_eq_ld, harg2.read_unread, harg3.read_unread, harg4.read_unread, harg5.read_unread, harg6.read_unread, harg7.read_unread, harg8.read_unread, harg9.read_unread, View.ld_unit_zero (S := S1x4096) hz2, View.ld_unit_zero (S := S32x4096) hz2, View.ld_unit_zero (S := S32x512) hz2, View.ld_unit_zero (S := S512x4096) hz2, shapeCast_self]

/-- The second result that the last point leaves. -/
theorem out_C_7_eq (c : Dev nD) (i : grid0.Coords) (arg2 : Memref sig .tc .vmem S32x512 .bf16) (harg2 : arg2.IsWhole) (arg3 : Memref sig .tc .vmem S32x512 .bf16) (harg3 : arg3.IsWhole) (arg4 : Memref sig .tc .vmem S32x4096 .f32) (harg4 : arg4.IsWhole) (arg5 : Memref sig .tc .vmem S512x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S32x4096 .f32) (harg8 : arg8.IsWhole) (arg9 : Memref sig .tc .vmem S32x4096 .bf16) (harg9 : arg9.IsWhole) (hc0 : ¬cond0_0 i) (hc1 : cond0_1 i)
    (x0 : Vec Ideal S32x512 .bf16) (x1 : Vec Ideal S32x512 .bf16) (x2 : Vec Ideal S32x4096 .f32) (x3 : Vec Ideal S512x4096 .bf16) (x4 : Vec Ideal S1x4096 .f32) (x5 : Vec Ideal S1x4096 .f32) (xo6 : Vec Ideal S32x4096 .f32) :
    out0_C_7 (F := Ideal) c i arg2 harg2 arg3 harg3 arg4 harg4 arg5 harg5 arg6 harg6 arg7 harg7 arg8 harg8 arg9 harg9 hc0 hc1 x0 x1 x2 x3 x4 x5 xo6 = k0_pay4 (k0_pay2 i x0 x1 xo6 x3) x4 x5 := by
  unfold out0_C_7
  rw [View.read_writes_eq_canon _ _ _ (cover0_C_7 c i arg2 harg2 arg3 harg3 arg4 harg4 arg5 harg5 arg6 harg6 arg7 harg7 arg8 harg8 arg9 harg9 hc0 hc1 x0 x1 x2 x3 x4 x5 xo6)]
  unfold kernelRun0_C
  dsimp only
  try sl_unfold_words
  rw [View.canon_unit_zero hz2, View.readCov_unit_zero (S := S32x4096) _ hz2]
  simp only [View.readAt_eq_ld, harg2.read_unread, harg3.read_unread, harg4.read_unread, harg5.read_unread, harg6.read_unread, harg7.read_unread, harg8.read_unread, harg9.read_unread, View.ld_unit_zero (S := S1x4096) hz2, View.ld_unit_zero (S := S32x4096) hz2, View.ld_unit_zero (S := S32x512) hz2, View.ld_unit_zero (S := S512x4096) hz2, shapeCast_self]

end Cert.Kernel11Ideal.Val
end
-- ==== Proof.OP.lean ====
module

public import proofs.«01_k».proof.Proof.OPOut

/-! The sample's output projection: what its payloads compute and what its blocks hold. -/

@[expose] public section

set_option maxRecDepth 16384

noncomputable section

namespace Cert.Kernel11Ideal.Val

open Cert.Kernel11Ideal Cert.Kernel11Ideal.Gen Idealize.ShloMosaic Idealize.ShloMosaic.TcCoe Idealize.SL.Sem
open Cert.Layer
variable (m : (ℓ : Loc nD τ sig) → Buf (Elt Ideal) ℓ)

/-- The first store: the scaled residual. -/
theorem start_at (x : Vec Ideal S32x4096 .f32) (i : S32x4096.Idx) : k0_pay1 (F := Ideal) x i = alpha * x i := by
  pointwise [k0_pay1]
  rfl

/-- The tile that a point multiplies: the first attention's at the first four points, the second's at the last four. -/
def side (n : ℕ) (p q : Vec Ideal S32x512 .bf16) : Vec Ideal S32x512 .bf16 := if n < 4 then p else q

theorem pid : ∀ t : Fin cfg0.N, Scalar.cmpi .slt (BitVec.ofNat 32 (grid0.coords t 1).val) 4#32 = if t.val < 4 then 1#1 else 0#1 :=
  (by decide +kernel : ∀ t : Fin grid0.N, _)

/-- Every point adds the product of its tile. -/
theorem add_at (t : Fin cfg0.N) (p q : Vec Ideal S32x512 .bf16) (a : Vec Ideal S32x4096 .f32) (v : Vec Ideal S512x4096 .bf16) (i : S32x4096.Idx) :
    k0_pay2 (F := Ideal) (grid0.coords t) p q a v i = a i + ∑ f : Fin 512, side t.val p q (ix2 (i 0) f) * v (ix2 f (i 1)) := by
  unfold k0_pay2 side
  dsimp only
  rw [pid t]
  by_cases h : t.val < 4
  · rw [if_pos h, if_pos h]
    rw [show ∀ u v : FVec Ideal S32x512 .bf16, Scalar.select 1#1 u v = u from fun _ _ => rfl]
    pointwise
  · rw [if_neg h, if_neg h]
    rw [show ∀ u v : FVec Ideal S32x512 .bf16, Scalar.select 0#1 u v = v from fun _ _ => rfl]
    pointwise

/-- The last point normalises each row. -/
theorem norm_at (x : Vec Ideal S32x4096 .f32) (g b : Vec Ideal S1x4096 .f32) (r : Fin 32) (n : Fin 4096) :
    k0_pay3 (F := Ideal) x g b (ix2 r n) = norm (fun k => x (ix2 r k)) (g (ix2 0 n)) (b (ix2 0 n)) n := by
  pointwise [k0_pay3]
  rfl

/-- The second result is the first, rounded. -/
theorem pay4_eq (x : Vec Ideal S32x4096 .f32) (g b : Vec Ideal S1x4096 .f32) (i : S32x4096.Idx) :
    k0_pay4 (F := Ideal) x g b i = k0_pay3 (F := Ideal) x g b i := rfl

theorem idx : ∀ t : Fin cfg0.N, win0_0.index t = ![0, min t.val 3] ∧ win0_1.index t = ![0, t.val - 4]
    ∧ win0_2.index t = ![0, 0] ∧ win0_3.index t = ![t.val, 0]
    ∧ win0_4.index t = ![0, 0] ∧ win0_5.index t = ![0, 0] ∧ win0_6.index t = ![0, 0] ∧ win0_7.index t = ![0, 0] :=
  (by decide +kernel : ∀ t : Fin grid0.N, _)

/-- The residual's row `r` of the 32. -/
def xRow (c : Dev nD) (r : Fin 32) (e : Fin 4096) : EReal :=
  (m ((c : Thread nD τ).loc main_arg0) : Vec Ideal S32x1x4096 .f32) (ix3 r 0 e)
/-- The two attentions' outputs on row `r`. -/
def oA (c : Dev nD) (r : Fin 32) (h : Fin 8) (e : Fin 256) : EReal :=
  (m ((c : Thread nD τ).loc main_arg1) : Vec Ideal S32x1x8x256 .f32) (ix4 r 0 h e)
def oB (c : Dev nD) (r : Fin 32) (h : Fin 16) (e : Fin 128) : EReal :=
  (m ((c : Thread nD τ).loc main_arg2) : Vec Ideal S32x1x16x128 .f32) (ix4 r 0 h e)
/-- The weight, the gain and the offset. -/
def wt (c : Dev nD) (k : Fin 4096) (n : Fin 4096) : EReal := (m ((c : Thread nD τ).loc main_arg3) : Vec Ideal S1x4096x4096 .f32) (ix3 0 k n)
def gain (c : Dev nD) (n : Fin 4096) : EReal := (m ((c : Thread nD τ).loc main_arg4) : Vec Ideal S1x4096 .f32) (ix2 0 n)
def offs (c : Dev nD) (n : Fin 4096) : EReal := (m ((c : Thread nD τ).loc main_arg5) : Vec Ideal S1x4096 .f32) (ix2 0 n)

theorem a_at (c : Dev nD) (t : Fin cfg0.N) (ht : t.val < 4) (r : Fin 32) (f : Fin 512) (k : Fin 4096) (hk : k.val = t.val * 512 + f.val) :
    (iblk m c 0 t : Vec Ideal S32x512 .bf16) (ix2 r f) = mixed (oA m c r) (oB m c r) k := by
  have h : k.val < 2048 := by omega
  unfold mixed oA
  rw [dif_pos h]
  blk_point [iblk, V, idx t]

theorem b_at (c : Dev nD) (t : Fin cfg0.N) (ht : ¬t.val < 4) (r : Fin 32) (f : Fin 512) (k : Fin 4096) (hk : k.val = t.val * 512 + f.val) :
    (iblk m c 1 t : Vec Ideal S32x512 .bf16) (ix2 r f) = mixed (oA m c r) (oB m c r) k := by
  have h : ¬k.val < 2048 := by omega
  unfold mixed oB
  rw [dif_neg h]
  blk_point [iblk, V, idx t]

theorem side_at (c : Dev nD) (t : Fin cfg0.N) (r : Fin 32) (f : Fin 512) (k : Fin 4096) (hk : k.val = t.val * 512 + f.val) :
    side t.val (iblk m c 0 t) (iblk m c 1 t) (ix2 r f) = mixed (oA m c r) (oB m c r) k := by
  unfold side
  by_cases h : t.val < 4
  · rw [if_pos h]; exact a_at m c t h r f k hk
  · rw [if_neg h]; exact b_at m c t h r f k hk

theorem x_at (c : Dev nD) (t : Fin cfg0.N) (r : Fin 32) (e : Fin 4096) :
    (iblk m c 2 t : Vec Ideal S32x4096 .f32) (ix2 r e) = xRow m c r e := by
  unfold xRow
  blk_point [iblk, V, idx t]

theorem w_at (c : Dev nD) (t : Fin cfg0.N) (f : Fin 512) (n : Fin 4096) (k : Fin 4096) (hk : k.val = t.val * 512 + f.val) :
    (iblk m c 3 t : Vec Ideal S512x4096 .bf16) (ix2 f n) = wt m c k n := by
  unfold wt
  blk_point [iblk, V, idx t]

theorem g_at (c : Dev nD) (t : Fin cfg0.N) (n : Fin 4096) : (iblk m c 4 t : Vec Ideal S1x4096 .f32) (ix2 0 n) = gain m c n := by
  unfold gain
  blk_point [iblk, V, idx t]

theorem o_at (c : Dev nD) (t : Fin cfg0.N) (n : Fin 4096) : (iblk m c 5 t : Vec Ideal S1x4096 .f32) (ix2 0 n) = offs m c n := by
  unfold offs
  blk_point [iblk, V, idx t]

end Cert.Kernel11Ideal.Val
end
-- ==== Proof.OPArr.lean ====
module

public import proofs.«01_k».proof.Proof.OP

/-! The arrays that the sample's output projection returns. -/

@[expose] public section

set_option maxRecDepth 16384

noncomputable section

namespace Cert.Kernel11Ideal.Val

open Cert.Kernel11Ideal Cert.Kernel11Ideal.Gen Idealize.ShloMosaic Idealize.ShloMosaic.TcCoe Idealize.SL.Sem
open Cert.Layer
variable (m : (ℓ : Loc nD τ sig) → Buf (Elt Ideal) ℓ)

/-- The result as a function of the memory at the start. -/
def arr (c : Dev nD) : Vec Ideal S32x4096 .f32 := fun i =>
  norm (outRow (xRow m c (i 0)) (mixed (oA m c (i 0)) (oB m c (i 0))) (wt m c)) (gain m c (i 1)) (offs m c (i 1)) (i 1)

/-- The same array, rounded. -/
def arrB (c : Dev nD) : Vec Ideal S32x4096 .bf16 := fun i => arr m c i

/-- The column that column `f` of point `n`'s tile is. -/
def col (n : ℕ) (f : Fin 512) : Fin 4096 := ⟨n % 8 * 512 + f.val, by omega⟩

/-- What point `n` adds. -/
def part (c : Dev nD) (n : ℕ) (i : S32x4096.Idx) : EReal :=
  ∑ f : Fin 512, mixed (oA m c (i 0)) (oB m c (i 0)) (col n f) * wt m c (col n f) (i 1)

theorem point_lt (t : Fin cfg0.N) : t.val < 8 := lt_of_lt_of_eq t.isLt N_0

theorem part_at (c : Dev nD) (t : Fin cfg0.N) (acc : Vec Ideal S32x4096 .f32) (i : S32x4096.Idx) :
    k0_pay2 (F := Ideal) (grid0.coords t) (iblk m c 0 t) (iblk m c 1 t) acc (iblk m c 3 t) i = acc i + part m c t.val i := by
  rw [add_at]
  unfold part
  refine congrArg (acc i + ·) (Finset.sum_congr rfl fun f _ => ?_)
  have hc : (col t.val f).val = t.val * 512 + f.val := by
    show t.val % 8 * 512 + f.val = _
    have := point_lt t
    omega
  rw [w_at m c t f (i 1) (col t.val f) hc]
  exact congrArg (· * _) (side_at m c t (i 0) f (col t.val f) hc)

theorem first_at (c : Dev nD) (t : Fin cfg0.N) (i : S32x4096.Idx) :
    k0_pay1 (F := Ideal) (iblk m c 2 t) i = alpha * xRow m c (i 0) (i 1) := by
  rw [start_at]
  refine congrArg (alpha * ·) ?_
  have e : i = ix2 (i 0) (i 1) := by idx_vars i; rfl
  rw [e]
  exact x_at m c t (i 0) (i 1)

/-- What the buffer holds after point `n` of the first seven. -/
theorem fold (c : Dev nD) (n : ℕ) : ∀ (h : n < cfg0.N), n < 7 → ∀ i : S32x4096.Idx,
    (outsAt0 m c n h).1 i = alpha * xRow m c (i 0) (i 1) + ∑ s ∈ Finset.range (n + 1), part m c s i := by
  induction n with
  | zero =>
    intro h _ i
    rw [show outsAt0 m c 0 h = _ from outsAt0_A m c ⟨0, h⟩ (by dsimp only) (by dsimp only; omega)]
    dsimp only
    rw [out_A_6_eq, part_at m c ⟨0, h⟩, first_at, Finset.sum_range_one]
  | succ n ih =>
    intro h h7 i
    rw [show outsAt0 m c (n + 1) h = _ from outsAt0_B m c ⟨n + 1, h⟩ (by dsimp only; omega) (by dsimp only; omega)]
    dsimp only
    rw [out_B_6_eq, part_at m c ⟨n + 1, h⟩]
    show (outsAt0 m c n _).1 i + _ = _
    rw [ih (Nat.lt_of_succ_lt h) (by omega) i, add_assoc, ← Finset.sum_range_succ (fun s => part m c s i) (n + 1)]

/-- All the tiles together are the sum over the columns. -/
theorem parts (c : Dev nD) (i : S32x4096.Idx) :
    ∑ s ∈ Finset.range 8, part m c s i = ∑ k : Fin 4096, mixed (oA m c (i 0)) (oB m c (i 0)) k * wt m c k (i 1) := by
  rw [Finset.sum_range]
  unfold part
  refine Fin.sum_mul_add_congr fun s k hl => ?_
  have e' : col s.val k = ⟨s.val * 512 + k.val, hl⟩ := Fin.ext (by
    show s.val % 8 * 512 + k.val = s.val * 512 + k.val
    have := s.isLt
    rw [show s.val % 8 = s.val by omega])
  rw [e']

/-- The row that the last point normalises. -/
theorem row_at (c : Dev nD) (t : Fin cfg0.N) (hf : t.val % 8 = 7) (i : S32x4096.Idx) (h : t.val - 1 < cfg0.N) :
    k0_pay2 (F := Ideal) (grid0.coords t) (iblk m c 0 t) (iblk m c 1 t) (outsAt0 m c (t.val - 1) h).1 (iblk m c 3 t) i
      = outRow (xRow m c (i 0)) (mixed (oA m c (i 0)) (oB m c (i 0))) (wt m c) (i 1) := by
  have ht := point_lt t
  have e7 : t.val = 7 := by omega
  rw [part_at, fold m c (t.val - 1) h (by omega), add_assoc, show t.val - 1 + 1 = 7 by omega, e7,
    ← Finset.sum_range_succ (fun s => part m c s i) 7, parts]
  rfl

/-- What the last point leaves. -/
theorem last_at (c : Dev nD) (t : Fin cfg0.N) (hf : t.val % 8 = 7) (r : Fin 32) (n : Fin 4096) :
    (outsAt0 m c t.val t.isLt).1 (ix2 r n) = arr m c (ix2 r n) := by
  rw [outsAt0_C m c t (by omega) hf]
  dsimp only
  rw [out_C_6_eq, norm_at, g_at, o_at]
  unfold arr
  exact congrArg (fun z => norm z (gain m c n) (offs m c n) n) (funext fun k => row_at m c t hf (ix2 r k) _)

theorem lastB_at (c : Dev nD) (t : Fin cfg0.N) (hf : t.val % 8 = 7) (r : Fin 32) (n : Fin 4096) :
    (outsAt0 m c t.val t.isLt).2 (ix2 r n) = arrB m c (ix2 r n) := by
  rw [outsAt0_C m c t (by omega) hf]
  dsimp only
  rw [out_C_7_eq, pay4_eq, norm_at, g_at, o_at]
  unfold arrB arr
  exact congrArg (fun z => norm z (gain m c n) (offs m c n) n) (funext fun k => row_at m c t hf (ix2 r k) _)

end Cert.Kernel11Ideal.Val
end
-- ==== Proof.OPFinal.lean ====
module

public import proofs.«01_k».proof.Proof.OPArr

/-! The two arrays after the run of the sample's output projection, as a whole. -/

@[expose] public section

set_option maxRecDepth 16384

noncomputable section

namespace Cert.Kernel11Ideal.Val

open Cert.Kernel11Ideal Cert.Kernel11Ideal.Gen Idealize.ShloMosaic Idealize.ShloMosaic.TcCoe Idealize.SL.Sem
variable (m : (ℓ : Loc nD τ sig) → Buf (Elt Ideal) ℓ)

theorem block_pt (c : Dev nD) (t : Fin cfg0.N) (hf : t.val % 8 = 7) (y : S32x4096.Idx) (R : Fin 32) (n : Fin 4096)
    (hR : R.val = (y 0).val) (hn : n.val = (y 1).val) : (outsAt0 m c t.val t.isLt).1 y = arr m c (ix2 R n) := by
  idx_vars y
  have en : n = y1 := Fin.ext hn
  have eR : R = y0 := Fin.ext hR
  rw [en, eR]
  exact last_at m c t hf y0 y1

theorem blockB_pt (c : Dev nD) (t : Fin cfg0.N) (hf : t.val % 8 = 7) (y : S32x4096.Idx) (R : Fin 32) (n : Fin 4096)
    (hR : R.val = (y 0).val) (hn : n.val = (y 1).val) : (outsAt0 m c t.val t.isLt).2 y = arrB m c (ix2 R n) := by
  idx_vars y
  have en : n = y1 := Fin.ext hn
  have eR : R = y0 := Fin.ext hR
  rw [en, eR]
  exact lastB_at m c t hf y0 y1

/-- The first array after the run. -/
theorem final (c : Dev nD) : (dats m 0 c).arrAt 6 cfg0.N = arr m c := by
  refine (dats m 0 c).arrAt_eq_of_covers 6 _ (by decide +kernel) fun t hf y => ?_
  blk_simp
  rw [after0_6]
  have e0 : ((y : S32x4096.Idx) 0).val < 32 := ((y : S32x4096.Idx) 0).isLt
  have e1 : ((y : S32x4096.Idx) 1).val < 4096 := ((y : S32x4096.Idx) 1).isLt
  refine (block_pt m c t ((flush0_6 t).mp hf) y ⟨((y : S32x4096.Idx) 0).val, e0⟩ ⟨((y : S32x4096.Idx) 1).val, e1⟩ rfl rfl).trans ?_
  blk_ext [idx t]

/-- The second array after the run. -/
theorem finalB (c : Dev nD) : (dats m 0 c).arrAt 7 cfg0.N = arrB m c := by
  refine (dats m 0 c).arrAt_eq_of_covers 7 _ (by decide +kernel) fun t hf y => ?_
  blk_simp
  rw [after0_7]
  have e0 : ((y : S32x4096.Idx) 0).val < 32 := ((y : S32x4096.Idx) 0).isLt
  have e1 : ((y : S32x4096.Idx) 1).val < 4096 := ((y : S32x4096.Idx) 1).isLt
  refine (blockB_pt m c t ((flush0_7 t).mp hf) y ⟨((y : S32x4096.Idx) 0).val, e0⟩ ⟨((y : S32x4096.Idx) 1).val, e1⟩ rfl rfl).trans ?_
  blk_ext [idx t]

end Cert.Kernel11Ideal.Val
end
-- ==== Proof.OPRef.lean ====
module

public import proofs.«01_k».proof.Proof.Out
public import proofs.«01_k».proof.Proof.Gen.Reference11Ideal.Read

/-! The sample's output projection's reference, entry by entry. -/

@[expose] public section

set_option maxRecDepth 16384

noncomputable section

namespace Cert.Reference11Ideal.Val

open Cert.Reference11Ideal Cert.Reference11Ideal.Read Idealize.ShloMosaic
open Cert.Layer

/-- The two attentions' outputs side by side. -/
theorem mix_at (x1 : Vec Ideal S32x1x8x256 .f32) (x2 : Vec Ideal S32x1x16x128 .f32) (b : Fin 32) (s : Fin 1) (k : Fin 4096) :
    val_main_v2 (F := Ideal) x1 x2 (ix3 b s k) = mixed (fun h e => x1 (ix4 b 0 h e)) (fun h e => x2 (ix4 b 0 h e)) k := by
  obtain rfl : s = 0 := Subsingleton.elim _ _
  pointwise [val_main_v2, val_main_v0, val_main_v1]
  rfl

/-- The row of the scaled residual plus the projection. -/
theorem z_at (x0 : Vec Ideal S32x1x4096 .f32) (x1 : Vec Ideal S32x1x8x256 .f32) (x2 : Vec Ideal S32x1x16x128 .f32) (x3 : Vec Ideal S1x4096x4096 .f32)
    (b : Fin 32) (s : Fin 1) (n : Fin 4096) :
    val_main_v7 (F := Ideal) x0 x1 x2 x3 (ix3 b s n) = outRow (fun e => x0 (ix3 b 0 e))
      (mixed (fun h e => x1 (ix4 b 0 h e)) (fun h e => x2 (ix4 b 0 h e))) (fun k n => x3 (ix3 0 k n)) n := by
  obtain rfl : s = 0 := Subsingleton.elim _ _
  pointwise [val_main_v7, val_main_v6, val_main_v5, val_main_v4, val_main_v3, val_main_cst]
  simp only [mix_at]
  rfl

theorem mean_at (x0 : Vec Ideal S32x1x4096 .f32) (x1 : Vec Ideal S32x1x8x256 .f32) (x2 : Vec Ideal S32x1x16x128 .f32) (x3 : Vec Ideal S1x4096x4096 .f32)
    (b : Fin 32) (s u : Fin 1) :
    val_main_v11 (F := Ideal) x0 x1 x2 x3 (ix3 b s u) = mean (fun k => val_main_v7 (F := Ideal) x0 x1 x2 x3 (ix3 b s k)) := by
  obtain rfl : s = 0 := Subsingleton.elim _ _
  pointwise [val_main_v11, val_main_v10, val_main_cst_1, val_main_v9, val_main_v8, val_main_cst_0]
  rfl

theorem result (x0 : Vec Ideal S32x1x4096 .f32) (x1 : Vec Ideal S32x1x8x256 .f32) (x2 : Vec Ideal S32x1x16x128 .f32) (x3 : Vec Ideal S1x4096x4096 .f32)
    (x4 x5 : Vec Ideal S1x4096 .f32) (R : Fin 32) (n : Fin 4096) :
    val_main_v34 (F := Ideal) x0 x1 x2 x3 x4 x5 (ix2 R n)
      = norm (outRow (fun e => x0 (ix3 R 0 e)) (mixed (fun h e => x1 (ix4 R 0 h e)) (fun h e => x2 (ix4 R 0 h e))) (fun k n => x3 (ix3 0 k n)))
        (x4 (ix2 0 n)) (x5 (ix2 0 n)) n := by
  pointwise [val_main_v34, val_main_v33, val_main_v32, val_main_v31, val_main_v30, val_main_v29, val_main_v28, val_main_v27, val_main_v26,
    val_main_v25, val_main_v24, val_main_v23, val_main_v22, val_main_cst_4, val_main_v21, val_main_v20, val_main_v19, val_main_v18, val_main_cst_3,
    val_main_v17, val_main_v16, val_main_cst_2, val_main_v15, val_main_v14, val_main_v13, val_main_v12]
  simp only [mean_at, z_at]
  rfl

theorem resultB (x0 : Vec Ideal S32x1x4096 .f32) (x1 : Vec Ideal S32x1x8x256 .f32) (x2 : Vec Ideal S32x1x16x128 .f32) (x3 : Vec Ideal S1x4096x4096 .f32)
    (x4 x5 : Vec Ideal S1x4096 .f32) (i : S32x4096.Idx) :
    val_main_v35 (F := Ideal) x0 x1 x2 x3 x4 x5 i = val_main_v34 (F := Ideal) x0 x1 x2 x3 x4 x5 i := rfl

end Cert.Reference11Ideal.Val
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Kernel2Ideal.Value
public import proofs.«01_k».proof.Proof.Gen.Kernel2.Frame
public import proofs.«01_k».proof.Proof.Gen.Reference2Ideal.Run
public import proofs.«01_k».proof.Proof.Gen.Reference2Ideal.Read
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Final
public import proofs.«01_k».proof.Proof.Ref
public import proofs.«01_k».proof.Proof.Fin
public import proofs.«01_k».proof.Proof.FfFinal
public import proofs.«01_k».proof.Proof.FfRef
public import proofs.«01_k».proof.Proof.DKFinal
public import proofs.«01_k».proof.Proof.DKRef
public import proofs.«01_k».proof.Proof.DVFinal
public import proofs.«01_k».proof.Proof.DVRef
public import proofs.«01_k».proof.Proof.SKFinal
public import proofs.«01_k».proof.Proof.SKRef
public import proofs.«01_k».proof.Proof.SVFinal
public import proofs.«01_k».proof.Proof.SVRef
public import proofs.«01_k».proof.Proof.PRFinal
public import proofs.«01_k».proof.Proof.PRRef
public import proofs.«01_k».proof.Proof.DQFinal
public import proofs.«01_k».proof.Proof.DQRef
public import proofs.«01_k».proof.Proof.SQFinal
public import proofs.«01_k».proof.Proof.SQRef
public import proofs.«01_k».proof.Proof.FsFinal
public import proofs.«01_k».proof.Proof.FsRef
public import proofs.«01_k».proof.Proof.OPFinal
public import proofs.«01_k».proof.Proof.OPRef
public import Idealize.ShloMosaic.Lib.Quiescent
public import Idealize.ShloMosaic.Adequacy
public import Idealize.ShloMosaic.Init

@[expose] public section

noncomputable section

namespace Cert.Proof

open Idealize.ShloMosaic Idealize.SL.Sem Cert.Kernel

instance preFacts : Cert.Pre_finite.Facts := Cert.Pre_finite.Val.facts

/-- The idealized kernel's frame. -/
theorem frame_ideal : Cert.quiescent_KernelIdeal (hKernelIdeal := Cert.KernelIdeal.Gen.facts) := fun m ρ _ => Cert.KernelIdeal.Gen.frame m ρ

/-- The reference's frame: its run leaves the arguments, and it declares no semaphore. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

open Cert.Attn in
/-- Where the precondition holds, the arrays that it speaks of hold real numbers. -/
theorem reals (m : (ℓ : Loc Cert.KernelIdeal.nD Cert.KernelIdeal.τ Cert.KernelIdeal.sig) → Buf (Elt Ideal) ℓ) (h : Cert.Pre_KernelIdeal_finite m) (c : Dev Cert.KernelIdeal.nD) :
    AllReal (s := Cert.KernelIdeal.S1x128) (m ((c.tc : Thread Cert.KernelIdeal.nD Cert.KernelIdeal.τ).loc Cert.KernelIdeal.main_arg0))
    ∧ AllReal (s := Cert.KernelIdeal.S1x128) (m ((c.tc : Thread Cert.KernelIdeal.nD Cert.KernelIdeal.τ).loc Cert.KernelIdeal.main_arg1))
    ∧ AllReal (s := Cert.KernelIdeal.S1x128) (m ((c.tc : Thread Cert.KernelIdeal.nD Cert.KernelIdeal.τ).loc Cert.KernelIdeal.main_arg2))
    ∧ AllReal (s := Cert.KernelIdeal.S1x128) (m ((c.tc : Thread Cert.KernelIdeal.nD Cert.KernelIdeal.τ).loc Cert.KernelIdeal.main_arg3))
    ∧ AllReal (s := Cert.KernelIdeal.S2x4096x8x256) (m ((c.tc : Thread Cert.KernelIdeal.nD Cert.KernelIdeal.τ).loc Cert.KernelIdeal.main_arg5))
    ∧ AllReal (s := Cert.KernelIdeal.S2x4096x8x256) (m ((c.tc : Thread Cert.KernelIdeal.nD Cert.KernelIdeal.τ).loc Cert.KernelIdeal.main_arg6))
    ∧ AllReal (s := Cert.KernelIdeal.S2x4096x8x256) (m ((c.tc : Thread Cert.KernelIdeal.nD Cert.KernelIdeal.τ).loc Cert.KernelIdeal.main_arg7)) := by
  obtain ⟨h0, h1, h2, h3, h5, h6, h7⟩ := h c
  exact ⟨Cert.Pre_finite.Val.pre2 _ h0, Cert.Pre_finite.Val.pre2 _ h1, Cert.Pre_finite.Val.pre2 _ h2, Cert.Pre_finite.Val.pre2 _ h3,
    Cert.Pre_finite.Val.pre4 _ h5, Cert.Pre_finite.Val.pre4 _ h6, Cert.Pre_finite.Val.pre4 _ h7⟩

/-- Kernel and reference compute the same array. -/
theorem same : Cert.algebraic_KernelIdeal_ReferenceIdeal_pre_finite (hKernelIdeal := Cert.KernelIdeal.Gen.facts) (hReferenceIdeal := Cert.ReferenceIdeal.Gen.facts) := by
  intro m ρ m' ρ' hpre hagree
  refine ⟨fun c => Cert.KernelIdeal.Val.arr m c, ?_, ?_⟩
  · refine (θ_run _ _ _).mono (fun r h c => ?_) (Cert.KernelIdeal.Value.run_blocks (F := Ideal) m ρ)
    obtain ⟨h0, h1, h2, h3, h5, h6, h7⟩ := reals m hpre c
    exact ⟨(h c).1.trans (Cert.KernelIdeal.Val.final m c h0 h1 h2 h3 h5 h6 h7), (h c).2⟩
  · refine (θ_run _ _ _).mono (fun r h c => ?_) (Cert.ReferenceIdeal.Value.run (F := Ideal) m' ρ')
    obtain ⟨h0, h1, h2, h3, h5, h6, h7⟩ := reals m hpre c
    refine ⟨(h c).1.trans ?_, (h c).2⟩
    obtain ⟨a0, a1, a2, a3, a4, a5, a6, a7⟩ := hagree c
    rw [Cert.ReferenceIdeal.Read.val_main_v76_eq, a0, a1, a2, a3, a4, a5, a6, a7]
    exact Cert.ReferenceIdeal.Val.result _ _ _ _ _ _ _ h5 h6 h0 h1 h2 h3 h7 _

/-- The feed-forward reference's frame. -/
theorem frame_ref2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The feed-forward call and its reference compute the same array. -/
theorem same2 : Cert.algebraic_Kernel2Ideal_Reference2Ideal (hKernel2Ideal := Cert.Kernel2Ideal.Gen.facts) (hReference2Ideal := Cert.Reference2Ideal.Gen.facts) := by
  intro m ρ m' ρ' _ hagree
  refine ⟨fun c => Cert.Kernel2Ideal.Val.arr m c, ?_, ?_⟩
  · refine (θ_run _ _ _).mono (fun r h c => ?_) (Cert.Kernel2Ideal.Value.run_blocks (F := Ideal) m ρ)
    exact ⟨(h c).1.trans (Cert.Kernel2Ideal.Val.final m c), (h c).2⟩
  · refine (θ_run _ _ _).mono (fun r h c => ?_) (Cert.Reference2Ideal.Value.run (F := Ideal) m' ρ')
    refine ⟨(h c).1.trans ?_, (h c).2⟩
    obtain ⟨a0, a1, a2, a3, a4⟩ := hagree c
    rw [Cert.Reference2Ideal.Read.val_main_v35_eq, a0, a1, a2, a3, a4]
    funext i
    exact (congrArg _ (show i = ix2 (i 0) (i 1) from by idx_vars i; rfl)).trans (Cert.Reference2Ideal.Val.result _ _ _ _ _ _ _)

/-- The rotated keys' reference's frame. -/
theorem frame_ref3 : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The rotated keys' call and its reference compute the same two arrays. -/
theorem same3 : Cert.algebraic_Kernel3Ideal_Reference3Ideal (hKernel3Ideal := Cert.Kernel3Ideal.Gen.facts) (hReference3Ideal := Cert.Reference3Ideal.Gen.facts) := by
  intro m ρ m' ρ' _ hagree
  refine ⟨fun c => Cert.Kernel3Ideal.Val.arr m c, fun c => Cert.Kernel3Ideal.Val.arrB m c, ?_, ?_⟩
  · refine (θ_run _ _ _).mono (fun r h c => ?_) (Cert.Kernel3Ideal.Value.run_blocks (F := Ideal) m ρ)
    exact ⟨(h c).1.trans (Cert.Kernel3Ideal.Val.final m c), (h c).2.1.trans (Cert.Kernel3Ideal.Val.finalB m c), (h c).2.2⟩
  · refine (θ_run _ _ _).mono (fun r h c => ?_) (Cert.Reference3Ideal.Value.run (F := Ideal) m' ρ')
    obtain ⟨a0, a1⟩ := hagree c
    refine ⟨(h c).1.trans ?_, (h c).2.1.trans ?_, (h c).2.2⟩
    · rw [Cert.Reference3Ideal.Read.val_main_v38_eq, a0, a1]
      funext i
      exact (congrArg _ (show i = ix2 (i 0) (i 1) from by idx_vars i; rfl)).trans (Cert.Reference3Ideal.Val.result _ _ _ _)
    · rw [Cert.Reference3Ideal.Read.val_main_v39_eq, a0, a1]
      funext i
      refine (Cert.Reference3Ideal.Val.resultB _ _ i).trans ?_
      exact (congrArg _ (show i = ix2 (i 0) (i 1) from by idx_vars i; rfl)).trans (Cert.Reference3Ideal.Val.result _ _ _ _)

/-- The differential attention's values' reference's frame. -/
theorem frame_ref4 : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The differential attention's values' call and its reference compute the same two arrays. -/
theorem same4 : Cert.algebraic_Kernel4Ideal_Reference4Ideal (hKernel4Ideal := Cert.Kernel4Ideal.Gen.facts) (hReference4Ideal := Cert.Reference4Ideal.Gen.facts) := by
  intro m ρ m' ρ' _ hagree
  refine ⟨fun c => Cert.Kernel4Ideal.Val.arr m c, fun c => Cert.Kernel4Ideal.Val.arrB m c, ?_, ?_⟩
  · refine (θ_run _ _ _).mono (fun r h c => ?_) (Cert.Kernel4Ideal.Value.run_blocks (F := Ideal) m ρ)
    exact ⟨(h c).1.trans (Cert.Kernel4Ideal.Val.final m c), (h c).2.1.trans (Cert.Kernel4Ideal.Val.finalB m c), (h c).2.2⟩
  · refine (θ_run _ _ _).mono (fun r h c => ?_) (Cert.Reference4Ideal.Value.run (F := Ideal) m' ρ')
    obtain ⟨a0, a1⟩ := hagree c
    refine ⟨(h c).1.trans ?_, (h c).2.1.trans ?_, (h c).2.2⟩
    · rw [Cert.Reference4Ideal.Read.val_main_v3_eq, a0, a1]
      funext i
      exact (congrArg _ (show i = ix2 (i 0) (i 1) from by idx_vars i; rfl)).trans (Cert.Reference4Ideal.Val.result _ _ _ _)
    · rw [Cert.Reference4Ideal.Read.val_main_v4_eq, a0, a1]
      funext i
      refine (Cert.Reference4Ideal.Val.resultB _ _ i).trans ?_
      exact (congrArg _ (show i = ix2 (i 0) (i 1) from by idx_vars i; rfl)).trans (Cert.Reference4Ideal.Val.result _ _ _ _)

/-- The stick-breaking attention's keys' reference's frame. -/
theorem frame_ref5 : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The stick-breaking attention's keys' call and its reference compute the same two arrays. -/
theorem same5 : Cert.algebraic_Kernel5Ideal_Reference5Ideal (hKernel5Ideal := Cert.Kernel5Ideal.Gen.facts) (hReference5Ideal := Cert.Reference5Ideal.Gen.facts) := by
  intro m ρ m' ρ' _ hagree
  refine ⟨fun c => Cert.Kernel5Ideal.Val.arr m c, fun c => Cert.Kernel5Ideal.Val.arrB m c, ?_, ?_⟩
  · refine (θ_run _ _ _).mono (fun r h c => ?_) (Cert.Kernel5Ideal.Value.run_blocks (F := Ideal) m ρ)
    exact ⟨(h c).1.trans (Cert.Kernel5Ideal.Val.final m c), (h c).2.1.trans (Cert.Kernel5Ideal.Val.finalB m c), (h c).2.2⟩
  · refine (θ_run _ _ _).mono (fun r h c => ?_) (Cert.Reference5Ideal.Value.run (F := Ideal) m' ρ')
    obtain ⟨a0, a1⟩ := hagree c
    refine ⟨(h c).1.trans ?_, (h c).2.1.trans ?_, (h c).2.2⟩
    · rw [Cert.Reference5Ideal.Read.val_main_v3_eq, a0, a1]
      funext i
      exact (congrArg _ (show i = ix2 (i 0) (i 1) from by idx_vars i; rfl)).trans (Cert.Reference5Ideal.Val.result _ _ _ _)
    · rw [Cert.Reference5Ideal.Read.val_main_v4_eq, a0, a1]
      funext i
      refine (Cert.Reference5Ideal.Val.resultB _ _ i).trans ?_
      exact (congrArg _ (show i = ix2 (i 0) (i 1) from by idx_vars i; rfl)).trans (Cert.Reference5Ideal.Val.result _ _ _ _)

/-- The stick-breaking attention's values' reference's frame. -/
theorem frame_ref6 : Cert.quiescent_Reference6Ideal (hReference6Ideal := Cert.Reference6Ideal.Gen.facts) := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The stick-breaking attention's values' call and its reference compute the same two arrays. -/
theorem same6 : Cert.algebraic_Kernel6Ideal_Reference6Ideal (hKernel6Ideal := Cert.Kernel6Ideal.Gen.facts) (hReference6Ideal := Cert.Reference6Ideal.Gen.facts) := by
  intro m ρ m' ρ' _ hagree
  refine ⟨fun c => Cert.Kernel6Ideal.Val.arr m c, fun c => Cert.Kernel6Ideal.Val.arrB m c, ?_, ?_⟩
  · refine (θ_run _ _ _).mono (fun r h c => ?_) (Cert.Kernel6Ideal.Value.run_blocks (F := Ideal) m ρ)
    exact ⟨(h c).1.trans (Cert.Kernel6Ideal.Val.final m c), (h c).2.1.trans (Cert.Kernel6Ideal.Val.finalB m c), (h c).2.2⟩
  · refine (θ_run _ _ _).mono (fun r h c => ?_) (Cert.Reference6Ideal.Value.run (F := Ideal) m' ρ')
    obtain ⟨a0, a1⟩ := hagree c
    refine ⟨(h c).1.trans ?_, (h c).2.1.trans ?_, (h c).2.2⟩
    · rw [Cert.Reference6Ideal.Read.val_main_v3_eq, a0, a1]
      funext i
      exact (congrArg _ (show i = ix2 (i 0) (i 1) from by idx_vars i; rfl)).trans (Cert.Reference6Ideal.Val.result _ _ _ _)
    · rw [Cert.Reference6Ideal.Read.val_main_v4_eq, a0, a1]
      funext i
      refine (Cert.Reference6Ideal.Val.resultB _ _ i).trans ?_
      exact (congrArg _ (show i = ix2 (i 0) (i 1) from by idx_vars i; rfl)).trans (Cert.Reference6Ideal.Val.result _ _ _ _)

/-- The sample's projection's reference's frame. -/
theorem frame_ref7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

/-- The sample's projection's call and its reference compute the same array. -/
theorem same7 : Cert.algebraic_Kernel7Ideal_Reference7Ideal (hKernel7Ideal := Cert.Kernel7Ideal.Gen.facts) (hReference7Ideal := Cert.Reference7Ideal.Gen.facts) := by
  intro m ρ m' ρ' _ hagree
  refine ⟨fun c => Cert.Kernel7Ideal.Val.arr m c, ?_, ?_⟩
  · refine (θ_run _ _ _).mono (fun r h c => ?_) (Cert.Kernel7Ideal.Value.run_blocks (F := Ideal) m ρ)
    exact ⟨(h c).1.trans (Cert.Kernel7Ideal.Val.final m c), (h c).2⟩
  · refine (θ_run _ _ _).mono (fun r h c => ?_) (Cert.Reference7Ideal.Value.run (F := Ideal) m' ρ')
    refine ⟨(h c).1.trans ?_, (h c).2⟩
    obtain ⟨a0, a1⟩ := hagree c
    rw [Cert.Reference7Ideal.Read.val_main_v50_eq, a0, a1]
    funext i
    exact (congrArg _ (show i = ix2 (i 0) (i 1) from by idx_vars i; rfl)).trans (Cert.Reference7Ideal.Val.result _ _ _ _)

/-- The differential attention's queries' reference's frame. -/
theorem frame_ref8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

/-- The differential attention's queries' call and its reference compute the same array. -/
theorem same8 : Cert.algebraic_Kernel8Ideal_Reference8Ideal (hKernel8Ideal := Cert.Kernel8Ideal.Gen.facts) (hReference8Ideal := Cert.Reference8Ideal.Gen.facts) := by
  intro m ρ m' ρ' _ hagree
  refine ⟨fun c => Cert.Kernel8Ideal.Val.arr m c, ?_, ?_⟩
  · refine (θ_run _ _ _).mono (fun r h c => ?_) (Cert.Kernel8Ideal.Value.run_blocks (F := Ideal) m ρ)
    exact ⟨(h c).1.trans (Cert.Kernel8Ideal.Val.final m c), (h c).2⟩
  · refine (θ_run _ _ _).mono (fun r h c => ?_) (Cert.Reference8Ideal.Value.run (F := Ideal) m' ρ')
    refine ⟨(h c).1.trans ?_, (h c).2⟩
    obtain ⟨a0, a1⟩ := hagree c
    rw [Cert.Reference8Ideal.Read.val_main_v41_eq, a0, a1]
    funext i
    refine (Cert.Reference8Ideal.Val.resultB _ _ i).trans (congrArg (fun a : EReal => a * Cert.Layer.scaleA) ?_)
    exact (congrArg _ (show i = ix2 (i 0) (i 1) from by idx_vars i; rfl)).trans (Cert.Reference8Ideal.Val.result _ _ _ _)

/-- The stick-breaking attention's queries' reference's frame. -/
theorem frame_ref9 : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

/-- The stick-breaking attention's queries' call and its reference compute the same array. -/
theorem same9 : Cert.algebraic_Kernel9Ideal_Reference9Ideal (hKernel9Ideal := Cert.Kernel9Ideal.Gen.facts) (hReference9Ideal := Cert.Reference9Ideal.Gen.facts) := by
  intro m ρ m' ρ' _ hagree
  refine ⟨fun c => Cert.Kernel9Ideal.Val.arr m c, ?_, ?_⟩
  · refine (θ_run _ _ _).mono (fun r h c => ?_) (Cert.Kernel9Ideal.Value.run_blocks (F := Ideal) m ρ)
    exact ⟨(h c).1.trans (Cert.Kernel9Ideal.Val.final m c), (h c).2⟩
  · refine (θ_run _ _ _).mono (fun r h c => ?_) (Cert.Reference9Ideal.Value.run (F := Ideal) m' ρ')
    refine ⟨(h c).1.trans ?_, (h c).2⟩
    obtain ⟨a0, a1⟩ := hagree c
    rw [Cert.Reference9Ideal.Read.val_main_v6_eq, a0, a1]
    funext i
    refine (Cert.Reference9Ideal.Val.resultB _ _ i).trans (congrArg (fun a : EReal => a * Cert.Layer.scaleB) ?_)
    exact (congrArg _ (show i = ix2 (i 0) (i 1) from by idx_vars i; rfl)).trans (Cert.Reference9Ideal.Val.result _ _ _ _)

/-- The sample's feed-forward reference's frame. -/
theorem frame_ref10 : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

/-- The sample's feed-forward call and its reference compute the same array. -/
theorem same10 : Cert.algebraic_Kernel10Ideal_Reference10Ideal (hKernel10Ideal := Cert.Kernel10Ideal.Gen.facts) (hReference10Ideal := Cert.Reference10Ideal.Gen.facts) := by
  intro m ρ m' ρ' _ hagree
  refine ⟨fun c => Cert.Kernel10Ideal.Val.arr m c, ?_, ?_⟩
  · refine (θ_run _ _ _).mono (fun r h c => ?_) (Cert.Kernel10Ideal.Value.run_blocks (F := Ideal) m ρ)
    exact ⟨(h c).1.trans (Cert.Kernel10Ideal.Val.final m c), (h c).2⟩
  · refine (θ_run _ _ _).mono (fun r h c => ?_) (Cert.Reference10Ideal.Value.run (F := Ideal) m' ρ')
    refine ⟨(h c).1.trans ?_, (h c).2⟩
    obtain ⟨a0, a1, a2, a3, a4⟩ := hagree c
    rw [Cert.Reference10Ideal.Read.val_main_v35_eq, a0, a1, a2, a3, a4]
    funext i
    exact (congrArg _ (show i = ix2 (i 0) (i 1) from by idx_vars i; rfl)).trans (Cert.Reference10Ideal.Val.result _ _ _ _ _ _ _)

/-- The sample's output projection's reference's frame. -/
theorem frame_ref11 : Cert.quiescent_Reference11Ideal (hReference11Ideal := Cert.Reference11Ideal.Gen.facts) := fun m ρ _ =>
  (θ_run Cert.Reference11Ideal.defs _ _).mono (fun r h => ⟨fun c => (h c).2.2, sem_eq_zero_of_no_sems (by decide) r.2⟩)
    (Cert.Reference11Ideal.Value.run (F := Ideal) m ρ)

/-- The sample's output projection's call and its reference compute the same two arrays. -/
theorem same11 : Cert.algebraic_Kernel11Ideal_Reference11Ideal (hKernel11Ideal := Cert.Kernel11Ideal.Gen.facts) (hReference11Ideal := Cert.Reference11Ideal.Gen.facts) := by
  intro m ρ m' ρ' _ hagree
  refine ⟨fun c => Cert.Kernel11Ideal.Val.arr m c, fun c => Cert.Kernel11Ideal.Val.arrB m c, ?_, ?_⟩
  · refine (θ_run _ _ _).mono (fun r h c => ?_) (Cert.Kernel11Ideal.Value.run_blocks (F := Ideal) m ρ)
    exact ⟨(h c).1.trans (Cert.Kernel11Ideal.Val.final m c), (h c).2.1.trans (Cert.Kernel11Ideal.Val.finalB m c), (h c).2.2⟩
  · refine (θ_run _ _ _).mono (fun r h c => ?_) (Cert.Reference11Ideal.Value.run (F := Ideal) m' ρ')
    obtain ⟨a0, a1, a2, a3, a4, a5⟩ := hagree c
    refine ⟨(h c).1.trans ?_, (h c).2.1.trans ?_, (h c).2.2⟩
    · rw [Cert.Reference11Ideal.Read.val_main_v34_eq, a0, a1, a2, a3, a4, a5]
      funext i
      exact (congrArg _ (show i = ix2 (i 0) (i 1) from by idx_vars i; rfl)).trans (Cert.Reference11Ideal.Val.result _ _ _ _ _ _ _ _)
    · rw [Cert.Reference11Ideal.Read.val_main_v35_eq, a0, a1, a2, a3, a4, a5]
      funext i
      refine (Cert.Reference11Ideal.Val.resultB _ _ _ _ _ _ i).trans ?_
      exact (congrArg _ (show i = ix2 (i 0) (i 1) from by idx_vars i; rfl)).trans (Cert.Reference11Ideal.Val.result _ _ _ _ _ _ _ _)

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  preFacts,
  fun m ρ _ => Cert.Kernel.Gen.frame m ρ, frame_ideal, fun m ρ _ => frame_ideal m ρ trivial, frame_ref, fun m ρ _ => frame_ref m ρ trivial,
  fun m ρ _ => Cert.Kernel2.Gen.frame m ρ, fun m ρ _ => Cert.Kernel2Ideal.Gen.frame m ρ, frame_ref2,
  fun m ρ _ => Cert.Kernel3.Gen.frame m ρ, fun m ρ _ => Cert.Kernel3Ideal.Gen.frame m ρ, frame_ref3,
  fun m ρ _ => Cert.Kernel4.Gen.frame m ρ, fun m ρ _ => Cert.Kernel4Ideal.Gen.frame m ρ, frame_ref4,
  fun m ρ _ => Cert.Kernel5.Gen.frame m ρ, fun m ρ _ => Cert.Kernel5Ideal.Gen.frame m ρ, frame_ref5,
  fun m ρ _ => Cert.Kernel6.Gen.frame m ρ, fun m ρ _ => Cert.Kernel6Ideal.Gen.frame m ρ, frame_ref6,
  fun m ρ _ => Cert.Kernel7.Gen.frame m ρ, fun m ρ _ => Cert.Kernel7Ideal.Gen.frame m ρ, frame_ref7,
  fun m ρ _ => Cert.Kernel8.Gen.frame m ρ, fun m ρ _ => Cert.Kernel8Ideal.Gen.frame m ρ, frame_ref8,
  fun m ρ _ => Cert.Kernel9.Gen.frame m ρ, fun m ρ _ => Cert.Kernel9Ideal.Gen.frame m ρ, frame_ref9,
  fun m ρ _ => Cert.Kernel10.Gen.frame m ρ, fun m ρ _ => Cert.Kernel10Ideal.Gen.frame m ρ, frame_ref10,
  fun m ρ _ => Cert.Kernel11.Gen.frame m ρ, fun m ρ _ => Cert.Kernel11Ideal.Gen.frame m ρ, frame_ref11,
  IdealRules.named_const.statement Cert.KernelIdeal.κ "qk_scale_log2e" .f32 0x3E0293EE#32 _ rfl, same, trivial, same2, trivial, same3, trivial, same4,
  trivial, same5, trivial, same6, trivial, same7, trivial, same8, trivial, same9, trivial, same10, trivial, same11⟩

end Cert.Proof

end
